-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_inputs [hPre_finite_inputs : Cert.Pre_finite_inputs.Facts] (m : (ℓ : Loc Cert.SwaIdeal.nD Cert.SwaIdeal.τ Cert.SwaIdeal.sig) → Buf (Elt Ideal) ℓ) : Prop :=
  ∀ c : Dev Cert.SwaIdeal.nD,
    (Cert.Pre_finite_inputs.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_inputs [hPre_finite_inputs : Cert.Pre_finite_inputs.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_inputs.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_memory [hPre_finite_memory : Cert.Pre_finite_memory.Facts] (m : (ℓ : Loc Cert.CrossIdeal.nD Cert.CrossIdeal.τ Cert.CrossIdeal.sig) → Buf (Elt Ideal) ℓ) : Prop :=
  ∀ c : Dev Cert.CrossIdeal.nD,
    (Cert.Pre_finite_memory.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_memory [hPre_finite_memory : Cert.Pre_finite_memory.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_memory.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_inputs [hSwaIdeal : Cert.SwaIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_inputs m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_inputs [hSwaRefIdeal : Cert.SwaRefIdeal.Facts] [hPre_finite_inputs : Cert.Pre_finite_inputs.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_inputs m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3)
      ∧ r.2.mem ((c.tc : Thread Cert.ResLn.nD Cert.ResLn.τ).loc Cert.ResLn.main_arg4) = m ((c.tc : Thread Cert.ResLn.nD Cert.ResLn.τ).loc Cert.ResLn.main_arg4))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
      ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3)
      ∧ r.2.mem ((c.tc : Thread Cert.ResLnRefIdeal.nD Cert.ResLnRefIdeal.τ).loc Cert.ResLnRefIdeal.main_arg4) = m ((c.tc : Thread Cert.ResLnRefIdeal.nD Cert.ResLnRefIdeal.τ).loc Cert.ResLnRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossIdeal_pre_finite_memory [hCrossIdeal : Cert.CrossIdeal.Facts] [hPre_finite_memory : Cert.Pre_finite_memory.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_memory m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_CrossRefIdeal_pre_finite_memory [hCrossRefIdeal : Cert.CrossRefIdeal.Facts] [hPre_finite_memory : Cert.Pre_finite_memory.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_memory m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_inputs [hSwaIdeal : Cert.SwaIdeal.Facts] [hSwaRefIdeal : Cert.SwaRefIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_inputs m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v43)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v43) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v73) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v20)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v20) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v8) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v1) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v0) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v1)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v1) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v0) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)
      ∧ m' ((c.tc : Thread Cert.ResLnRefIdeal.nD Cert.ResLnRefIdeal.τ).loc Cert.ResLnRefIdeal.main_arg4) = m ((c.tc : Thread Cert.ResLnIdeal.nD Cert.ResLnIdeal.τ).loc Cert.ResLnIdeal.main_arg4)) →
    ∃ (v0 : (c : Dev Cert.ResLnIdeal.nD) → Buf (Elt Ideal) ((c.tc : Thread Cert.ResLnIdeal.nD Cert.ResLnIdeal.τ).loc Cert.ResLnIdeal.main_v3)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v3) = v0 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
          ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v27) = v0 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3)
          ∧ r.2.mem ((c.tc : Thread Cert.ResLnRefIdeal.nD Cert.ResLnRefIdeal.τ).loc Cert.ResLnRefIdeal.main_arg4) = m' ((c.tc : Thread Cert.ResLnRefIdeal.nD Cert.ResLnRefIdeal.τ).loc Cert.ResLnRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v4)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v4) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v29) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v4)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v4) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v32) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5))

def preserves_Cross_CrossIdeal : Prop :=
  True

def algebraic_CrossIdeal_CrossRefIdeal_pre_finite_memory [hCrossIdeal : Cert.CrossIdeal.Facts] [hCrossRefIdeal : Cert.CrossRefIdeal.Facts] [hPre_finite_memory : Cert.Pre_finite_memory.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_memory m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v23) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v13)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v13) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v16) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v21)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v21) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v54) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hMemory : Cert.Memory.Facts) (hMemoryIdeal : Cert.MemoryIdeal.Facts) (hMemoryRefIdeal : Cert.MemoryRefIdeal.Facts) (hOddIn : Cert.OddIn.Facts) (hOddInIdeal : Cert.OddInIdeal.Facts) (hOddInRefIdeal : Cert.OddInRefIdeal.Facts) (hXq : Cert.Xq.Facts) (hXqIdeal : Cert.XqIdeal.Facts) (hXqRefIdeal : Cert.XqRefIdeal.Facts) (hResLn : Cert.ResLn.Facts) (hResLnIdeal : Cert.ResLnIdeal.Facts) (hResLnRefIdeal : Cert.ResLnRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hCross : Cert.Cross.Facts) (hCrossIdeal : Cert.CrossIdeal.Facts) (hCrossRefIdeal : Cert.CrossRefIdeal.Facts) (hEvenIn : Cert.EvenIn.Facts) (hEvenInIdeal : Cert.EvenInIdeal.Facts) (hEvenInRefIdeal : Cert.EvenInRefIdeal.Facts) (hCompress : Cert.Compress.Facts) (hCompressIdeal : Cert.CompressIdeal.Facts) (hCompressRefIdeal : Cert.CompressRefIdeal.Facts) (hPre_finite_inputs : Cert.Pre_finite_inputs.Facts) (hPre_finite_memory : Cert.Pre_finite_memory.Facts),
    quiescent_Swa (hSwa := hSwa)
    ∧ quiescent_SwaIdeal (hSwaIdeal := hSwaIdeal)
    ∧ quiescent_SwaIdeal_pre_finite_inputs (hSwaIdeal := hSwaIdeal) (hPre_finite_inputs := hPre_finite_inputs)
    ∧ quiescent_SwaRefIdeal (hSwaRefIdeal := hSwaRefIdeal)
    ∧ quiescent_SwaRefIdeal_pre_finite_inputs (hSwaRefIdeal := hSwaRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Xq (hXq := hXq)
    ∧ quiescent_XqIdeal (hXqIdeal := hXqIdeal)
    ∧ quiescent_XqRefIdeal (hXqRefIdeal := hXqRefIdeal)
    ∧ quiescent_ResLn (hResLn := hResLn)
    ∧ quiescent_ResLnIdeal (hResLnIdeal := hResLnIdeal)
    ∧ quiescent_ResLnRefIdeal (hResLnRefIdeal := hResLnRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Cross (hCross := hCross)
    ∧ quiescent_CrossIdeal (hCrossIdeal := hCrossIdeal)
    ∧ quiescent_CrossIdeal_pre_finite_memory (hCrossIdeal := hCrossIdeal) (hPre_finite_memory := hPre_finite_memory)
    ∧ quiescent_CrossRefIdeal (hCrossRefIdeal := hCrossRefIdeal)
    ∧ quiescent_CrossRefIdeal_pre_finite_memory (hCrossRefIdeal := hCrossRefIdeal) (hPre_finite_memory := hPre_finite_memory)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_Compress (hCompress := hCompress)
    ∧ quiescent_CompressIdeal (hCompressIdeal := hCompressIdeal)
    ∧ quiescent_CompressRefIdeal (hCompressRefIdeal := hCompressRefIdeal)
    ∧ preserves_Swa_SwaIdeal
    ∧ algebraic_SwaIdeal_SwaRefIdeal_pre_finite_inputs (hSwaIdeal := hSwaIdeal) (hSwaRefIdeal := hSwaRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Memory_MemoryIdeal
    ∧ algebraic_MemoryIdeal_MemoryRefIdeal (hMemoryIdeal := hMemoryIdeal) (hMemoryRefIdeal := hMemoryRefIdeal)
    ∧ preserves_OddIn_OddInIdeal
    ∧ algebraic_OddInIdeal_OddInRefIdeal (hOddInIdeal := hOddInIdeal) (hOddInRefIdeal := hOddInRefIdeal)
    ∧ preserves_Xq_XqIdeal
    ∧ algebraic_XqIdeal_XqRefIdeal (hXqIdeal := hXqIdeal) (hXqRefIdeal := hXqRefIdeal)
    ∧ preserves_ResLn_ResLnIdeal
    ∧ algebraic_ResLnIdeal_ResLnRefIdeal (hResLnIdeal := hResLnIdeal) (hResLnRefIdeal := hResLnRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Cross_CrossIdeal
    ∧ algebraic_CrossIdeal_CrossRefIdeal_pre_finite_memory (hCrossIdeal := hCrossIdeal) (hCrossRefIdeal := hCrossRefIdeal) (hPre_finite_memory := hPre_finite_memory)
    ∧ preserves_EvenIn_EvenInIdeal
    ∧ algebraic_EvenInIdeal_EvenInRefIdeal (hEvenInIdeal := hEvenInIdeal) (hEvenInRefIdeal := hEvenInRefIdeal)
    ∧ preserves_Compress_CompressIdeal
    ∧ algebraic_CompressIdeal_CompressRefIdeal (hCompressIdeal := hCompressIdeal) (hCompressRefIdeal := hCompressRefIdeal)
-- ==== Pre_finite_inputs.lean ====
abbrev S2x8192x1280 : Shape := ⟨3, ![2, 8192, 1280]⟩
abbrev S16 : Shape := ⟨1, ![16]⟩
abbrev S32x16 : Shape := ⟨2, ![32, 16]⟩
abbrev S_ : Shape := ⟨0, ![]⟩

class Facts : Prop where
  bcast_S_S2x8192x1280 : S_.BroadcastsInDim S2x8192x1280 (![] : Fin 0 → Fin S2x8192x1280.rank)
  reducesTo_S2x8192x1280_S_d0_1_2 : S2x8192x1280.ReducesTo [0, 1, 2] S_
  h_S_ : 0 < S_.numel
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S2x8192x1280 .f32) (main_arg1 : FVec F S16 .f32) (main_arg2 : FVec F S32x16 .f32) : IVec S_ 1 :=
  let main_v0 : FVec F S2x8192x1280 .f32 := Host.absf main_arg0
  let main_cst : FVec F S_ .f32 := constant S_ .f32 0x7F800000#32
  let main_v1 : FVec F S2x8192x1280 .f32 := broadcastInDim S2x8192x1280 ![] bcast_S_S2x8192x1280 main_cst
  let main_v2 : IVec S2x8192x1280 1 := cmpf .olt main_v0 main_v1
  let main_c : IVec S_ 1 := constantI S_ 1 1#1
  let main_v3 : IVec S_ 1 := (fun x v => Host.reduce IntOp.andi x v reducesTo_S2x8192x1280_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  main_v13
-- ==== Pre_finite_memory.lean ====
abbrev S2x8192x512 : Shape := ⟨3, ![2, 8192, 512]⟩
abbrev S2x256x1024 : Shape := ⟨3, ![2, 256, 1024]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn {F : FTy → Type} [FloatOps F] (main_arg0 : FVec F S2x8192x512 .f32) (main_arg1 : FVec F S2x256x1024 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  main_v8
-- ==== Swa.lean ====
abbrev S2x8192x1280 : Shape := ⟨3, ![2, 8192, 1280]⟩
abbrev S16 : Shape := ⟨1, ![16]⟩
abbrev S32x16 : Shape := ⟨2, ![32, 16]⟩
abbrev S128x256 : Shape := ⟨2, ![128, 256]⟩
abbrev S256 : Shape := ⟨1, ![256]⟩
abbrev S_ : Shape := ⟨0, ![]⟩
abbrev S256x1 : Shape := ⟨2, ![256, 1]⟩
abbrev S256x16 : Shape := ⟨2, ![256, 16]⟩
abbrev S1x16 : Shape := ⟨2, ![1, 16]⟩
abbrev S16x1x1 : Shape := ⟨3, ![16, 1, 1]⟩
abbrev S128x256x1 : Shape := ⟨3, ![128, 256, 1]⟩
abbrev S128x256x16 : Shape := ⟨3, ![128, 256, 16]⟩
abbrev S16x128x256 : Shape := ⟨3, ![16, 128, 256]⟩
abbrev S2x16x8192x64 : Shape := ⟨4, ![2, 16, 8192, 64]⟩
abbrev S1x128x1024 : Shape := ⟨3, ![1, 128, 1024]⟩
abbrev S1x8192x256 : Shape := ⟨3, ![1, 8192, 256]⟩
abbrev S1x16x128x64 : Shape := ⟨4, ![1, 16, 128, 64]⟩
abbrev S128x128 : Shape := ⟨2, ![128, 128]⟩
abbrev S128x1024 : Shape := ⟨2, ![128, 1024]⟩
abbrev S128x512 : Shape := ⟨2, ![128, 512]⟩
abbrev S128x64 : Shape := ⟨2, ![128, 64]⟩
abbrev S1024x64 : Shape := ⟨2, ![1024, 64]⟩
abbrev S1x128x64 : Shape := ⟨3, ![1, 128, 64]⟩
abbrev S1024x128 : Shape := ⟨2, ![1024, 128]⟩
abbrev S8x128x128 : Shape := ⟨3, ![8, 128, 128]⟩
abbrev S1x128x128 : Shape := ⟨3, ![1, 128, 128]⟩
abbrev S1x1x1 : Shape := ⟨3, ![1, 1, 1]⟩
abbrev S1x1 : Shape := ⟨2, ![1, 1]⟩
abbrev S128x1 : Shape := ⟨2, ![128, 1]⟩
abbrev S1024x1 : Shape := ⟨2, ![1024, 1]⟩
abbrev S1024 : Shape := ⟨1, ![1024]⟩
abbrev S8x128x64 : Shape := ⟨3, ![8, 128, 64]⟩
abbrev S1x8x128x64 : Shape := ⟨4, ![1, 8, 128, 64]⟩

abbrev nBuf : Space → Nat
  | .hbm => 60
  | .vmem => 7
  | .smem => 0
  | _ => 0

abbrev bufTy : (tb : Table) → Fin (tcTables nBuf tb) → BufTy
  | .hbm, ⟨0, _⟩ => ⟨S2x8192x1280, .f32⟩
  | .hbm, ⟨1, _⟩ => ⟨S16, .f32⟩
  | .hbm, ⟨2, _⟩ => ⟨S32x16, .f32⟩
  | .hbm, ⟨3, _⟩ => ⟨S128x256, .i32⟩
  | .hbm, ⟨4, _⟩ => ⟨S128x256, .i1⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S256x16, .f32⟩
  | .hbm, ⟨43, _⟩ => ⟨S1x16, .f32⟩
  | .hbm, ⟨44, _⟩ => ⟨S16, .f32⟩
  | .hbm, ⟨45, _⟩ => ⟨S1x16, .f32⟩
  | .hbm, ⟨46, _⟩ => ⟨S256x16, .f32⟩
  | .hbm, ⟨47, _⟩ => ⟨S256x16, .f32⟩
  | .hbm, ⟨48, _⟩ => ⟨S1x16, .f32⟩
  | .hbm, ⟨49, _⟩ => ⟨S16, .f32⟩
  | .hbm, ⟨50, _⟩ => ⟨S16, .f32⟩
  | .hbm, ⟨51, _⟩ => ⟨S16x1x1, .f32⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S128x256x1, .i32⟩
  | .hbm, ⟨57, _⟩ => ⟨S128x256x16, .f32⟩
  | .hbm, ⟨58, _⟩ => ⟨S16x128x256, .f32⟩
  | .hbm, ⟨59, _⟩ => ⟨S2x16x8192x64, .f32⟩
  | .local _ .vmem, ⟨0, _⟩ => ⟨S1x128x1024, .f32⟩
  | .local _ .vmem, ⟨1, _⟩ => ⟨S1x128x1024, .f32⟩
  | .local _ .vmem, ⟨2, _⟩ => ⟨S1x8192x256, .f32⟩
  | .local _ .vmem, ⟨3, _⟩ => ⟨S16x128x256, .f32⟩
  | .local _ .vmem, ⟨4, _⟩ => ⟨S16x1x1, .f32⟩
  | .local _ .vmem, ⟨5, _⟩ => ⟨S1x16x128x64, .f32⟩
  | .local _ .vmem, ⟨6, _⟩ => ⟨S1x16x128x64, .f32⟩
  | _, _ => ⟨S2x8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_c_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c1_i32 : BitVec 32 := 1#32
  let v7 : BitVec 32 := Scalar.subi arg1 c1_i32
  let c0_i32 : BitVec 32 := 0#32
  let v8 : BitVec 32 := Scalar.maxsi v7 c0_i32
  let c128_i32 : BitVec 32 := 128#32
  let v9 : BitVec 32 := Scalar.muli v8 c128_i32
  v9
def k0_mult2 (i : grid0.Coords) : BitVec 32 :=
  let arg1 : BitVec 32 := BitVec.ofNat 32 (i 1).val
  let c128_i32_2 : BitVec 32 := 128#32
  let v11 : BitVec 32 := Scalar.muli arg1 c128_i32_2
  v11
def k0_off1 (i : grid0.Coords) : Fin 3 → Nat :=
  let c0_4 : Index := 0#32
  let arg1 : BitVec 32 := BitVec.ofNat 32 (i 1).val
  let c1_i32 : BitVec 32 := 1#32
  let v7 : BitVec 32 := Scalar.subi arg1 c1_i32
  let c0_i32 : BitVec 32 := 0#32
  let v8 : BitVec 32 := Scalar.maxsi v7 c0_i32
  let c128_i32 : BitVec 32 := 128#32
  let v9 : BitVec 32 := Scalar.muli v8 c128_i32
  let v10 : BitVec 32 := v9
  let v28 : Index := Scalar.indexCast v10
  let c0_5 : Index := 0#32
  ![0, v28.toNat, 0]
def k0_off2 (i : grid0.Coords) : Fin 3 → Nat :=
  let c0_6 : Index := 0#32
  let arg1 : BitVec 32 := BitVec.ofNat 32 (i 1).val
  let c1_i32 : BitVec 32 := 1#32
  let v7 : BitVec 32 := Scalar.subi arg1 c1_i32
  let c0_i32 : BitVec 32 := 0#32
  let v8 : BitVec 32 := Scalar.maxsi v7 c0_i32
  let c128_i32 : BitVec 32 := 128#32
  let v9 : BitVec 32 := Scalar.muli v8 c128_i32
  let v10 : BitVec 32 := v9
  let v32 : Index := Scalar.indexCast v10
  let c128 : Index := 128#32
  ![0, v32.toNat, 128]
def k0_off3 (i : grid0.Coords) : Fin 3 → Nat :=
  let c0_12 : Index := 0#32
  let arg1 : BitVec 32 := BitVec.ofNat 32 (i 1).val
  let c128_i32_2 : BitVec 32 := 128#32
  let v11 : BitVec 32 := Scalar.muli arg1 c128_i32_2
  let v12 : BitVec 32 := v11
  let v47 : Index := Scalar.indexCast v12
  let c0_13 : Index := 0#32
  ![0, v47.toNat, 0]
def k0_off4 (i : grid0.Coords) : Fin 3 → Nat :=
  let c0_14 : Index := 0#32
  let arg1 : BitVec 32 := BitVec.ofNat 32 (i 1).val
  let c128_i32_2 : BitVec 32 := 128#32
  let v11 : BitVec 32 := Scalar.muli arg1 c128_i32_2
  let v12 : BitVec 32 := v11
  let v51 : Index := Scalar.indexCast v12
  let c128_15 : Index := 128#32
  ![0, v51.toNat, 128]
def k0_off5 (i : grid0.Coords) : Fin 3 → Nat :=
  let c0_48 : Index := 0#32
  let arg1 : BitVec 32 := BitVec.ofNat 32 (i 1).val
  let c1_i32 : BitVec 32 := 1#32
  let v7 : BitVec 32 := Scalar.subi arg1 c1_i32
  let c0_i32 : BitVec 32 := 0#32
  let v8 : BitVec 32 := Scalar.maxsi v7 c0_i32
  let c128_i32 : BitVec 32 := 128#32
  let v9 : BitVec 32 := Scalar.muli v8 c128_i32
  let v10 : BitVec 32 := v9
  let v141 : Index := Scalar.indexCast v10
  let c64 : Index := 64#32
  ![0, v141.toNat, 64]
def k0_off6 (i : grid0.Coords) : Fin 3 → Nat :=
  let c0_49 : Index := 0#32
  let arg1 : BitVec 32 := BitVec.ofNat 32 (i 1).val
  let c1_i32 : BitVec 32 := 1#32
  let v7 : BitVec 32 := Scalar.subi arg1 c1_i32
  let c0_i32 : BitVec 32 := 0#32
  let v8 : BitVec 32 := Scalar.maxsi v7 c0_i32
  let c128_i32 : BitVec 32 := 128#32
  let v9 : BitVec 32 := Scalar.muli v8 c128_i32
  let v10 : BitVec 32 := v9
  let v145 : Index := Scalar.indexCast v10
  let c192 : Index := 192#32
  ![0, v145.toNat, 192]
def k0_off7 (i : grid0.Coords) : Fin 3 → Nat :=
  let c0_54 : Index := 0#32
  let arg1 : BitVec 32 := BitVec.ofNat 32 (i 1).val
  let c128_i32_2 : BitVec 32 := 128#32
  let v11 : BitVec 32 := Scalar.muli arg1 c128_i32_2
  let v12 : BitVec 32 := v11
  let v160 : Index := Scalar.indexCast v12
  let c64_55 : Index := 64#32
  ![0, v160.toNat, 64]
def k0_off8 (i : grid0.Coords) : Fin 3 → Nat :=
  let c0_56 : Index := 0#32
  let arg1 : BitVec 32 := BitVec.ofNat 32 (i 1).val
  let c128_i32_2 : BitVec 32 := 128#32
  let v11 : BitVec 32 := Scalar.muli arg1 c128_i32_2
  let v12 : BitVec 32 := v11
  let v164 : Index := Scalar.indexCast v12
  let c192_57 : Index := 192#32
  ![0, v164.toNat, 192]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S2x8192x1280 : Shape := ⟨3, ![2, 8192, 1280]⟩
abbrev S16 : Shape := ⟨1, ![16]⟩
abbrev S32x16 : Shape := ⟨2, ![32, 16]⟩
abbrev S2x8192x1024 : Shape := ⟨3, ![2, 8192, 1024]⟩
abbrev S2x8192x2x8x64 : Shape := ⟨5, ![2, 8192, 2, 8, 64]⟩
abbrev S2x8192x256 : Shape := ⟨3, ![2, 8192, 256]⟩
abbrev S2x8192x2x2x64 : Shape := ⟨5, ![2, 8192, 2, 2, 64]⟩
abbrev S2x8192x1x2x64 : Shape := ⟨5, ![2, 8192, 1, 2, 64]⟩
abbrev S2x8192x2x64 : Shape := ⟨4, ![2, 8192, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S8192x8192x16 : Shape := ⟨3, ![8192, 8192, 16]⟩
abbrev S8192x8192x2x8 : Shape := ⟨4, ![8192, 8192, 2, 8]⟩
abbrev S2x2x8192x8192x8 : Shape := ⟨5, ![2, 2, 8192, 8192, 8]⟩
abbrev S2x2x8x8192x8192 : Shape := ⟨5, ![2, 2, 8, 8192, 8192]⟩
abbrev S2x8x8192x8192 : Shape := ⟨4, ![2, 8, 8192, 8192]⟩
abbrev S1x2x8x8192x8192 : Shape := ⟨5, ![1, 2, 8, 8192, 8192]⟩
abbrev S1x2x8x1x1 : Shape := ⟨5, ![1, 2, 8, 1, 1]⟩
abbrev S2x2x8x8192x1 : Shape := ⟨5, ![2, 2, 8, 8192, 1]⟩
abbrev S2x2x8x8192x8193 : Shape := ⟨5, ![2, 2, 8, 8192, 8193]⟩
abbrev S2x2x8x8192 : Shape := ⟨4, ![2, 2, 8, 8192]⟩
abbrev S2x2x8x8192x64 : Shape := ⟨5, ![2, 2, 8, 8192, 64]⟩
abbrev S2x16x8192x64 : Shape := ⟨4, ![2, 16, 8192, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1280, .f32⟩
  | .hbm, ⟨1, _⟩ => ⟨S16, .f32⟩
  | .hbm, ⟨2, _⟩ => ⟨S32x16, .f32⟩
  | .hbm, ⟨3, _⟩ => ⟨S2x8192x1024, .f32⟩
  | .hbm, ⟨4, _⟩ => ⟨S2x8192x2x8x64, .f32⟩
  | .hbm, ⟨5, _⟩ => ⟨S2x8192x256, .f32⟩
  | .hbm, ⟨6, _⟩ => ⟨S2x8192x2x2x64, .f32⟩
  | .hbm, ⟨7, _⟩ => ⟨S2x8192x1x2x64, .f32⟩
  | .hbm, ⟨8, _⟩ => ⟨S2x8192x2x64, .f32⟩
  | .hbm, ⟨9, _⟩ => ⟨S2x8192x1x2x64, .f32⟩
  | .hbm, ⟨10, _⟩ => ⟨S2x8192x2x64, .f32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .i32⟩
  | .hbm, ⟨36, _⟩ => ⟨S_, .i32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S_, .i32⟩
  | .hbm, ⟨43, _⟩ => ⟨S8192x8192, .i32⟩
  | .hbm, ⟨44, _⟩ => ⟨S8192x8192, .i1⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i1⟩
  | .hbm, ⟨49, _⟩ => ⟨S_, .i32⟩
  | .hbm, ⟨50, _⟩ => ⟨S8192x8192, .i32⟩
  | .hbm, ⟨51, _⟩ => ⟨S8192x8192, .i32⟩
  | .hbm, ⟨52, _⟩ => ⟨S8192x8192, .i32⟩
  | .hbm, ⟨53, _⟩ => ⟨S8192x8192x1, .i32⟩
  | .hbm, ⟨54, _⟩ => ⟨S8192x8192x16, .f32⟩
  | .hbm, ⟨55, _⟩ => ⟨S8192x8192x2x8, .f32⟩
  | .hbm, ⟨56, _⟩ => ⟨S2x2x8192x8192x8, .f32⟩
  | .hbm, ⟨57, _⟩ => ⟨S2x2x8x8192x8192, .f32⟩
  | .hbm, ⟨58, _⟩ => ⟨S_, .f32⟩
  | .hbm, ⟨59, _⟩ => ⟨S2x2x8x8192x8192, .f32⟩
  | .hbm, ⟨60, _⟩ => ⟨S2x2x8x8192x8192, .f32⟩
  | .hbm, ⟨61, _⟩ => ⟨S2x8x8192x8192, .f32⟩
  | .hbm, ⟨62, _⟩ => ⟨S1x2x8x8192x8192, .f32⟩
  | .hbm, ⟨63, _⟩ => ⟨S2x2x8x8192x8192, .f32⟩
  | .hbm, ⟨64, _⟩ => ⟨S2x2x8x8192x8192, .f32⟩
  | .hbm, ⟨65, _⟩ => ⟨S_, .i32⟩
  | .hbm, ⟨66, _⟩ => ⟨S8192x8192, .i32⟩
  | .hbm, ⟨67, _⟩ => ⟨S8192x8192, .i1⟩
  | .hbm, ⟨68, _⟩ => ⟨S_, .i32⟩
  | .hbm, ⟨69, _⟩ => ⟨S8192x8192, .i32⟩
  | .hbm, ⟨70, _⟩ => ⟨S8192x8192, .i1⟩
  | .hbm, ⟨71, _⟩ => ⟨S8192x8192, .i1⟩
  | .hbm, ⟨72, _⟩ => ⟨S_, .f32⟩
  | .hbm, ⟨73, _⟩ => ⟨S_, .f32⟩
  | .hbm, ⟨74, _⟩ => ⟨S2x2x8x8192x8192, .i1⟩
  | .hbm, ⟨75, _⟩ => ⟨S2x2x8x8192x8192, .f32⟩
  | .hbm, ⟨76, _⟩ => ⟨S2x2x8x8192x8192, .f32⟩
  | .hbm, ⟨77, _⟩ => ⟨S1x2x8x1x1, .f32⟩
  | .hbm, ⟨78, _⟩ => ⟨S2x2x8x8192x1, .f32⟩
  | .hbm, ⟨79, _⟩ => ⟨S2x2x8x8192x8193, .f32⟩
  | .hbm, ⟨80, _⟩ => ⟨S_, .f32⟩
  | .hbm, ⟨81, _⟩ => ⟨S2x2x8x8192, .f32⟩
  | .hbm, ⟨82, _⟩ => ⟨S_, .f32⟩
  | .hbm, ⟨83, _⟩ => ⟨S2x2x8x8192, .f32⟩
  | .hbm, ⟨84, _⟩ => ⟨S2x2x8x8192, .f32⟩
  | .hbm, ⟨85, _⟩ => ⟨S2x2x8x8192x1, .f32⟩
  | .hbm, ⟨86, _⟩ => ⟨S2x2x8x8192x8193, .f32⟩
  | .hbm, ⟨87, _⟩ => ⟨S2x2x8x8192x8193, .f32⟩
  | .hbm, ⟨88, _⟩ => ⟨S2x2x8x8192x8193, .f32⟩
  | .hbm, ⟨89, _⟩ => ⟨S_, .f32⟩
  | .hbm, ⟨90, _⟩ => ⟨S2x2x8x8192, .f32⟩
  | .hbm, ⟨91, _⟩ => ⟨S2x2x8x8192x1, .f32⟩
  | .hbm, ⟨92, _⟩ => ⟨S2x2x8x8192x8193, .f32⟩
  | .hbm, ⟨93, _⟩ => ⟨S2x2x8x8192x8193, .f32⟩
  | .hbm, ⟨94, _⟩ => ⟨S2x2x8x8192x8192, .f32⟩
  | .hbm, ⟨95, _⟩ => ⟨S2x2x8x8192x64, .f32⟩
  | .hbm, ⟨96, _⟩ => ⟨S2x16x8192x64, .f32⟩
  | _, _ => ⟨S2x8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_9 : Ref sig .tc := ⟨.hbm, 65, rfl⟩
abbrev main_v51 : Ref sig .tc := ⟨.hbm, 66, rfl⟩
abbrev main_v52 : Ref sig .tc := ⟨.hbm, 67, rfl⟩
abbrev main_c_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Memory.lean ====
abbrev S2x256x1024 : Shape := ⟨3, ![2, 256, 1024]⟩
abbrev S4x1024x512 : Shape := ⟨3, ![4, 1024, 512]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S4x512x1024 : Shape := ⟨3, ![4, 512, 1024]⟩
abbrev S4x2x256x2x4x128 : Shape := ⟨6, ![4, 2, 256, 2, 4, 128]⟩

abbrev nBuf : Space → Nat
  | .hbm => 24
  | .vmem => 12
  | .smem => 0
  | _ => 0

abbrev bufTy : (tb : Table) → Fin (tcTables nBuf tb) → BufTy
  | .hbm, ⟨0, _⟩ => ⟨S2x256x1024, .f32⟩
  | .hbm, ⟨1, _⟩ => ⟨S4x1024x512, .f32⟩
  | .hbm, ⟨2, _⟩ => ⟨S4x1024x512, .f32⟩
  | .hbm, ⟨3, _⟩ => ⟨S4x1024x1024, .f32⟩
  | .hbm, ⟨4, _⟩ => ⟨S4x1024x1024, .bf16⟩
  | .hbm, ⟨5, _⟩ => ⟨S512x1024, .f32⟩
  | .hbm, ⟨6, _⟩ => ⟨S1x1024x1024, .bf16⟩
  | .hbm, ⟨7, _⟩ => ⟨S1024x1024, .bf16⟩
  | .hbm, ⟨8, _⟩ => ⟨S512x1024, .f32⟩
  | .hbm, ⟨9, _⟩ => ⟨S1x1024x1024, .bf16⟩
  | .hbm, ⟨10, _⟩ => ⟨S1024x1024, .bf16⟩
  | .hbm, ⟨11, _⟩ => ⟨S512x1024, .f32⟩
  | .hbm, ⟨12, _⟩ => ⟨S1x1024x1024, .bf16⟩
  | .hbm, ⟨13, _⟩ => ⟨S1024x1024, .bf16⟩
  | .hbm, ⟨14, _⟩ => ⟨S512x1024, .f32⟩
  | .hbm, ⟨15, _⟩ => ⟨S1x1024x1024, .bf16⟩
  | .hbm, ⟨16, _⟩ => ⟨S1024x1024, .bf16⟩
  | .hbm, ⟨17, _⟩ => ⟨S512x1024, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S4x512x1024, .f32⟩
  | .hbm, ⟨23, _⟩ => ⟨S4x2x256x2x4x128, .f32⟩
  | .local _ .vmem, ⟨0, _⟩ => ⟨S512x1024, .f32⟩
  | .local _ .vmem, ⟨1, _⟩ => ⟨S1024x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]
-- ==== MemoryRefIdeal.lean ====
abbrev S2x256x1024 : Shape := ⟨3, ![2, 256, 1024]⟩
abbrev S4x1024x512 : Shape := ⟨3, ![4, 1024, 512]⟩
abbrev S4x512x2x256 : Shape := ⟨4, ![4, 512, 2, 256]⟩
abbrev S4x2x256x512 : Shape := ⟨4, ![4, 2, 256, 512]⟩
abbrev S4x2x256x4x128 : Shape := ⟨5, ![4, 2, 256, 4, 128]⟩
abbrev S4x2x256x1x4x128 : Shape := ⟨6, ![4, 2, 256, 1, 4, 128]⟩
abbrev S4x2x256x2x4x128 : Shape := ⟨6, ![4, 2, 256, 2, 4, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024x512, .f32⟩
  | .hbm, ⟨2, _⟩ => ⟨S4x1024x512, .f32⟩
  | .hbm, ⟨3, _⟩ => ⟨S4x512x2x256, .f32⟩
  | .hbm, ⟨4, _⟩ => ⟨S4x2x256x512, .f32⟩
  | .hbm, ⟨5, _⟩ => ⟨S4x2x256x4x128, .f32⟩
  | .hbm, ⟨6, _⟩ => ⟨S4x512x2x256, .f32⟩
  | .hbm, ⟨7, _⟩ => ⟨S4x2x256x512, .f32⟩
  | .hbm, ⟨8, _⟩ => ⟨S4x2x256x4x128, .f32⟩
  | .hbm, ⟨9, _⟩ => ⟨S4x2x256x1x4x128, .f32⟩
  | .hbm, ⟨10, _⟩ => ⟨S4x2x256x1x4x128, .f32⟩
  | .hbm, ⟨11, _⟩ => ⟨S4x2x256x2x4x128, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OddIn.lean ====
abbrev S16384x1024 : Shape := ⟨2, ![16384, 1024]⟩
abbrev S1024x1280 : Shape := ⟨2, ![1024, 1280]⟩
abbrev S16384x1280 : Shape := ⟨2, ![16384, 1280]⟩
abbrev S512x1024 : Shape := ⟨2, ![512, 1024]⟩
abbrev S512x1280 : Shape := ⟨2, ![512, 1280]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1280, .f32⟩
  | .hbm, ⟨2, _⟩ => ⟨S1024x1280, .bf16⟩
  | .hbm, ⟨3, _⟩ => ⟨S16384x1280, .f32⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S512x1280, .f32⟩
  | .local _ .vmem, ⟨4, _⟩ => ⟨S512x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OddInRefIdeal.lean ====
abbrev S16384x1024 : Shape := ⟨2, ![16384, 1024]⟩
abbrev S1024x1280 : Shape := ⟨2, ![1024, 1280]⟩
abbrev S16384x1280 : Shape := ⟨2, ![16384, 1280]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1280, .f32⟩
  | .hbm, ⟨2, _⟩ => ⟨S16384x1280, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Xq.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S1024x512, .bf16⟩
  | .hbm, ⟨3, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XqRefIdeal.lean ====
abbrev S16384x1024 : Shape := ⟨2, ![16384, 1024]⟩
abbrev S1024x512 : Shape := ⟨2, ![1024, 512]⟩
abbrev S16384x512 : Shape := ⟨2, ![16384, 512]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ResLn.lean ====
abbrev S16384x512 : Shape := ⟨2, ![16384, 512]⟩
abbrev S512x1024 : Shape := ⟨2, ![512, 1024]⟩
abbrev S16384x1024 : Shape := ⟨2, ![16384, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S512x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResLnRefIdeal.lean ====
abbrev S16384x512 : Shape := ⟨2, ![16384, 512]⟩
abbrev S512x1024 : Shape := ⟨2, ![512, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OddOut.lean ====
abbrev S2x16x8192x64 : Shape := ⟨4, ![2, 16, 8192, 64]⟩
abbrev S1024x1024 : Shape := ⟨2, ![1024, 1024]⟩
abbrev S2x8192x1024 : Shape := ⟨3, ![2, 8192, 1024]⟩
abbrev S1024 : Shape := ⟨1, ![1024]⟩
abbrev S16x64x1024 : Shape := ⟨3, ![16, 64, 1024]⟩
abbrev S1x1024 : Shape := ⟨2, ![1, 1024]⟩
abbrev S1x16x512x64 : Shape := ⟨4, ![1, 16, 512, 64]⟩
abbrev S1x512x1024 : Shape := ⟨3, ![1, 512, 1024]⟩
abbrev S512x1024 : Shape := ⟨2, ![512, 1024]⟩
abbrev S1x1x512x64 : Shape := ⟨4, ![1, 1, 512, 64]⟩
abbrev S512x64 : Shape := ⟨2, ![512, 64]⟩
abbrev S1x64x1024 : Shape := ⟨3, ![1, 64, 1024]⟩
abbrev S64x1024 : Shape := ⟨2, ![64, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x16x8192x64, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S16x64x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x16x512x64, .f32⟩
  | .local _ .vmem, ⟨1, _⟩ => ⟨S1x16x512x64, .f32⟩
  | .local _ .vmem, ⟨2, _⟩ => ⟨S16x64x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddOutRefIdeal.lean ====
abbrev S2x16x8192x64 : Shape := ⟨4, ![2, 16, 8192, 64]⟩
abbrev S1024x1024 : Shape := ⟨2, ![1024, 1024]⟩
abbrev S2x8192x1024 : Shape := ⟨3, ![2, 8192, 1024]⟩
abbrev S1024 : Shape := ⟨1, ![1024]⟩
abbrev S2x8192x16x64 : Shape := ⟨4, ![2, 8192, 16, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x16x8192x64, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S2x8192x16x64, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== EvenOut.lean ====
abbrev S2x8x8192x64 : Shape := ⟨4, ![2, 8, 8192, 64]⟩
abbrev S1024x1024 : Shape := ⟨2, ![1024, 1024]⟩
abbrev S2x8192x1024 : Shape := ⟨3, ![2, 8192, 1024]⟩
abbrev S1024 : Shape := ⟨1, ![1024]⟩
abbrev S16x64x1024 : Shape := ⟨3, ![16, 64, 1024]⟩
abbrev S1x1024 : Shape := ⟨2, ![1, 1024]⟩
abbrev S1x8x512x64 : Shape := ⟨4, ![1, 8, 512, 64]⟩
abbrev S1x512x1024 : Shape := ⟨3, ![1, 512, 1024]⟩
abbrev S512x1024 : Shape := ⟨2, ![512, 1024]⟩
abbrev S1x1x512x64 : Shape := ⟨4, ![1, 1, 512, 64]⟩
abbrev S512x64 : Shape := ⟨2, ![512, 64]⟩
abbrev S1x64x1024 : Shape := ⟨3, ![1, 64, 1024]⟩
abbrev S64x1024 : Shape := ⟨2, ![64, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S1024x1024, .f32⟩
  | .hbm, ⟨3, _⟩ => ⟨S2x8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S16x64x1024, .bf16⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x8x512x64, .f32⟩
  | .local _ .vmem, ⟨1, _⟩ => ⟨S1x8x512x64, .f32⟩
  | .local _ .vmem, ⟨2, _⟩ => ⟨S1x8x512x64, .f32⟩
  | .local _ .vmem, ⟨3, _⟩ => ⟨S1x8x512x64, .f32⟩
  | .local _ .vmem, ⟨4, _⟩ => ⟨S16x64x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EvenOutRefIdeal.lean ====
abbrev S2x8x8192x64 : Shape := ⟨4, ![2, 8, 8192, 64]⟩
abbrev S1024x1024 : Shape := ⟨2, ![1024, 1024]⟩
abbrev S2x8192x1024 : Shape := ⟨3, ![2, 8192, 1024]⟩
abbrev S1024 : Shape := ⟨1, ![1024]⟩
abbrev S2x8192x8x64 : Shape := ⟨4, ![2, 8192, 8, 64]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S1024x1024, .f32⟩
  | .hbm, ⟨3, _⟩ => ⟨S2x8192x1024, .f32⟩
  | .hbm, ⟨4, _⟩ => ⟨S1024, .f32⟩
  | .hbm, ⟨5, _⟩ => ⟨S1024, .f32⟩
  | .hbm, ⟨6, _⟩ => ⟨S2x8192x8x64, .f32⟩
  | .hbm, ⟨7, _⟩ => ⟨S2x8192x512, .f32⟩
  | .hbm, ⟨8, _⟩ => ⟨S2x8192x8x64, .f32⟩
  | .hbm, ⟨9, _⟩ => ⟨S2x8192x512, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | _, _ => ⟨S2x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Cross.lean ====
abbrev S2x8192x512 : Shape := ⟨3, ![2, 8192, 512]⟩
abbrev S2x256x1024 : Shape := ⟨3, ![2, 256, 1024]⟩
abbrev S1x512x512 : Shape := ⟨3, ![1, 512, 512]⟩
abbrev S1x256x1024 : Shape := ⟨3, ![1, 256, 1024]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x512, .f32⟩
  | .hbm, ⟨1, _⟩ => ⟨S2x256x1024, .f32⟩
  | .hbm, ⟨2, _⟩ => ⟨S2x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x512x512, .f32⟩
  | .local _ .vmem, ⟨5, _⟩ => ⟨S1x512x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CrossRefIdeal.lean ====
abbrev S2x8192x512 : Shape := ⟨3, ![2, 8192, 512]⟩
abbrev S2x256x1024 : Shape := ⟨3, ![2, 256, 1024]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x8192x4x128 : Shape := ⟨4, ![2, 8192, 4, 128]⟩
abbrev S2x4x256x8192 : Shape := ⟨4, ![2, 4, 256, 8192]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S2x4x128x8192 : Shape := ⟨4, ![2, 4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x256x1024, .f32⟩
  | .hbm, ⟨2, _⟩ => ⟨S2x256x2x4x128, .f32⟩
  | .hbm, ⟨3, _⟩ => ⟨S2x256x1x4x128, .f32⟩
  | .hbm, ⟨4, _⟩ => ⟨S2x256x4x128, .f32⟩
  | .hbm, ⟨5, _⟩ => ⟨S2x256x1x4x128, .f32⟩
  | .hbm, ⟨6, _⟩ => ⟨S2x256x4x128, .f32⟩
  | .hbm, ⟨7, _⟩ => ⟨S2x8192x4x128, .f32⟩
  | .hbm, ⟨8, _⟩ => ⟨S2x4x256x8192, .f32⟩
  | .hbm, ⟨9, _⟩ => ⟨S2x8192x4x256, .f32⟩
  | .hbm, ⟨10, _⟩ => ⟨S_, .f32⟩
  | .hbm, ⟨11, _⟩ => ⟨S2x8192x4x256, .f32⟩
  | .hbm, ⟨12, _⟩ => ⟨S2x8192x4x256, .f32⟩
  | .hbm, ⟨13, _⟩ => ⟨S_, .f32⟩
  | .hbm, ⟨14, _⟩ => ⟨S2x8192x4, .f32⟩
  | .hbm, ⟨15, _⟩ => ⟨S_, .f32⟩
  | .hbm, ⟨16, _⟩ => ⟨S2x8192x4, .f32⟩
  | .hbm, ⟨17, _⟩ => ⟨S2x8192x4, .f32⟩
  | .hbm, ⟨18, _⟩ => ⟨S2x8192x4x1, .f32⟩
  | .hbm, ⟨19, _⟩ => ⟨S2x8192x4x256, .f32⟩
  | .hbm, ⟨20, _⟩ => ⟨S2x8192x4x256, .f32⟩
  | .hbm, ⟨21, _⟩ => ⟨S2x8192x4x256, .f32⟩
  | .hbm, ⟨22, _⟩ => ⟨S_, .f32⟩
  | .hbm, ⟨23, _⟩ => ⟨S2x8192x4, .f32⟩
  | .hbm, ⟨24, _⟩ => ⟨S2x8192x4x1, .f32⟩
  | .hbm, ⟨25, _⟩ => ⟨S2x8192x4x256, .f32⟩
  | .hbm, ⟨26, _⟩ => ⟨S2x8192x4x256, .f32⟩
  | .hbm, ⟨27, _⟩ => ⟨S2x4x128x8192, .f32⟩
  | .hbm, ⟨28, _⟩ => ⟨S2x8192x4x128, .f32⟩
  | .hbm, ⟨29, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== EvenIn.lean ====
abbrev S16384x1024 : Shape := ⟨2, ![16384, 1024]⟩
abbrev S1024x2268 : Shape := ⟨2, ![1024, 2268]⟩
abbrev S1500 : Shape := ⟨1, ![1500]⟩
abbrev S768 : Shape := ⟨1, ![768]⟩
abbrev S_ : Shape := ⟨0, ![]⟩
abbrev S1024x36 : Shape := ⟨2, ![1024, 36]⟩
abbrev S1500x1 : Shape := ⟨2, ![1500, 1]⟩
abbrev S1024x1500 : Shape := ⟨2, ![1024, 1500]⟩
abbrev S768x1 : Shape := ⟨2, ![768, 1]⟩
abbrev S1024x768 : Shape := ⟨2, ![1024, 768]⟩
abbrev S1024x2304 : Shape := ⟨2, ![1024, 2304]⟩
abbrev S16384x2304 : Shape := ⟨2, ![16384, 2304]⟩
abbrev S512x1024 : Shape := ⟨2, ![512, 1024]⟩
abbrev S512x2304 : Shape := ⟨2, ![512, 2304]⟩

abbrev nBuf : Space → Nat
  | .hbm => 23
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2268, .f32⟩
  | .hbm, ⟨2, _⟩ => ⟨S1500, .i32⟩
  | .hbm, ⟨3, _⟩ => ⟨S1500, .i1⟩
  | .hbm, ⟨4, _⟩ => ⟨S768, .i32⟩
  | .hbm, ⟨5, _⟩ => ⟨S768, .i1⟩
  | .hbm, ⟨6, _⟩ => ⟨S_, .f32⟩
  | .hbm, ⟨7, _⟩ => ⟨S1024x36, .f32⟩
  | .hbm, ⟨8, _⟩ => ⟨S_, .i32⟩
  | .hbm, ⟨9, _⟩ => ⟨S1500, .i32⟩
  | .hbm, ⟨10, _⟩ => ⟨S1500, .i32⟩
  | .hbm, ⟨11, _⟩ => ⟨S1500, .i32⟩
  | .hbm, ⟨12, _⟩ => ⟨S1500x1, .i32⟩
  | .hbm, ⟨13, _⟩ => ⟨S1024x1500, .f32⟩
  | .hbm, ⟨14, _⟩ => ⟨S_, .i32⟩
  | .hbm, ⟨15, _⟩ => ⟨S768, .i32⟩
  | .hbm, ⟨16, _⟩ => ⟨S768, .i32⟩
  | .hbm, ⟨17, _⟩ => ⟨S768, .i32⟩
  | .hbm, ⟨18, _⟩ => ⟨S768x1, .i32⟩
  | .hbm, ⟨19, _⟩ => ⟨S1024x768, .f32⟩
  | .hbm, ⟨20, _⟩ => ⟨S1024x2304, .f32⟩
  | .hbm, ⟨21, _⟩ => ⟨S1024x2304, .bf16⟩
  | .hbm, ⟨22, _⟩ => ⟨S16384x2304, .f32⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S512x2304, .f32⟩
  | .local _ .vmem, ⟨4, _⟩ => ⟨S512x2304, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_v0 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EvenInRefIdeal.lean ====
abbrev S16384x1024 : Shape := ⟨2, ![16384, 1024]⟩
abbrev S1024x2268 : Shape := ⟨2, ![1024, 2268]⟩
abbrev S16384x2268 : Shape := ⟨2, ![16384, 2268]⟩
abbrev S16384x512 : Shape := ⟨2, ![16384, 512]⟩
abbrev S16384x64 : Shape := ⟨2, ![16384, 64]⟩
abbrev S16384x256 : Shape := ⟨2, ![16384, 256]⟩
abbrev S16384x4 : Shape := ⟨2, ![16384, 4]⟩
abbrev S16384x128 : Shape := ⟨2, ![16384, 128]⟩
abbrev S16384x24 : Shape := ⟨2, ![16384, 24]⟩
abbrev S_ : Shape := ⟨0, ![]⟩
abbrev S16384x36 : Shape := ⟨2, ![16384, 36]⟩
abbrev S16384x2304 : Shape := ⟨2, ![16384, 2304]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2268, .f32⟩
  | .hbm, ⟨2, _⟩ => ⟨S16384x2268, .f32⟩
  | .hbm, ⟨3, _⟩ => ⟨S16384x512, .f32⟩
  | .hbm, ⟨4, _⟩ => ⟨S16384x64, .f32⟩
  | .hbm, ⟨5, _⟩ => ⟨S16384x64, .f32⟩
  | .hbm, ⟨6, _⟩ => ⟨S16384x256, .f32⟩
  | .hbm, ⟨7, _⟩ => ⟨S16384x64, .f32⟩
  | .hbm, ⟨8, _⟩ => ⟨S16384x4, .f32⟩
  | .hbm, ⟨9, _⟩ => ⟨S16384x512, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x24, .f32⟩
  | .hbm, ⟨17, _⟩ => ⟨S_, .f32⟩
  | .hbm, ⟨18, _⟩ => ⟨S16384x36, .f32⟩
  | .hbm, ⟨19, _⟩ => ⟨S16384x2304, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Compress.lean ====
abbrev S2x8192x2304 : Shape := ⟨3, ![2, 8192, 2304]⟩
abbrev S2x64x64 : Shape := ⟨3, ![2, 64, 64]⟩
abbrev S2x64x128 : Shape := ⟨3, ![2, 64, 128]⟩
abbrev S2x2 : Shape := ⟨2, ![2, 2]⟩
abbrev S_ : Shape := ⟨0, ![]⟩
abbrev S1x2x1x2x1 : Shape := ⟨5, ![1, 2, 1, 2, 1]⟩
abbrev S2x1x64x1x64 : Shape := ⟨5, ![2, 1, 64, 1, 64]⟩
abbrev S2x2x64x2x64 : Shape := ⟨5, ![2, 2, 64, 2, 64]⟩
abbrev S2x128x128 : Shape := ⟨3, ![2, 128, 128]⟩
abbrev S2x128x256 : Shape := ⟨3, ![2, 128, 256]⟩
abbrev S1x2048x256 : Shape := ⟨3, ![1, 2048, 256]⟩
abbrev S1x32x256 : Shape := ⟨3, ![1, 32, 256]⟩
abbrev S1x2048x128 : Shape := ⟨3, ![1, 2048, 128]⟩
abbrev S2048x128 : Shape := ⟨2, ![2048, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S32x64x128 : Shape := ⟨3, ![32, 64, 128]⟩
abbrev S32x128 : Shape := ⟨2, ![32, 128]⟩
abbrev S1x32x128 : Shape := ⟨3, ![1, 32, 128]⟩

abbrev nBuf : Space → Nat
  | .hbm => 27
  | .vmem => 7
  | .smem => 0
  | _ => 0

abbrev bufTy : (tb : Table) → Fin (tcTables nBuf tb) → BufTy
  | .hbm, ⟨0, _⟩ => ⟨S2x8192x2304, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S2x64x128, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S1x2x1x2x1, .f32⟩
  | .hbm, ⟨13, _⟩ => ⟨S2x1x64x1x64, .f32⟩
  | .hbm, ⟨14, _⟩ => ⟨S2x2x64x2x64, .f32⟩
  | .hbm, ⟨15, _⟩ => ⟨S2x2x64x2x64, .f32⟩
  | .hbm, ⟨16, _⟩ => ⟨S2x2x64x2x64, .f32⟩
  | .hbm, ⟨17, _⟩ => ⟨S2x128x128, .f32⟩
  | .hbm, ⟨18, _⟩ => ⟨S2x128x128, .bf16⟩
  | .hbm, ⟨19, _⟩ => ⟨S1x2x1x2x1, .f32⟩
  | .hbm, ⟨20, _⟩ => ⟨S2x1x64x1x64, .f32⟩
  | .hbm, ⟨21, _⟩ => ⟨S2x2x64x2x64, .f32⟩
  | .hbm, ⟨22, _⟩ => ⟨S2x2x64x2x64, .f32⟩
  | .hbm, ⟨23, _⟩ => ⟨S2x2x64x2x64, .f32⟩
  | .hbm, ⟨24, _⟩ => ⟨S2x128x128, .f32⟩
  | .hbm, ⟨25, _⟩ => ⟨S2x128x128, .bf16⟩
  | .hbm, ⟨26, _⟩ => ⟨S2x128x256, .f32⟩
  | .local _ .vmem, ⟨0, _⟩ => ⟨S1x2048x256, .f32⟩
  | .local _ .vmem, ⟨1, _⟩ => ⟨S1x2048x256, .f32⟩
  | .local _ .vmem, ⟨2, _⟩ => ⟨S2x64x128, .f32⟩
  | .local _ .vmem, ⟨3, _⟩ => ⟨S2x128x128, .bf16⟩
  | .local _ .vmem, ⟨4, _⟩ => ⟨S2x128x128, .bf16⟩
  | .local _ .vmem, ⟨5, _⟩ => ⟨S1x32x256, .f32⟩
  | .local _ .vmem, ⟨6, _⟩ => ⟨S1x32x256, .f32⟩
  | _, _ => ⟨S2x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressRefIdeal.lean ====
abbrev S2x8192x2304 : Shape := ⟨3, ![2, 8192, 2304]⟩
abbrev S2x64x64 : Shape := ⟨3, ![2, 64, 64]⟩
abbrev S2x8192x128 : Shape := ⟨3, ![2, 8192, 128]⟩
abbrev S2x8192x2x64 : Shape := ⟨4, ![2, 8192, 2, 64]⟩
abbrev S1x64x64 : Shape := ⟨3, ![1, 64, 64]⟩
abbrev S64x64 : Shape := ⟨2, ![64, 64]⟩
abbrev S2x128x64x2x64 : Shape := ⟨5, ![2, 128, 64, 2, 64]⟩
abbrev S64x2x128x2 : Shape := ⟨4, ![64, 2, 128, 2]⟩
abbrev S2x128x2x64 : Shape := ⟨4, ![2, 128, 2, 64]⟩
abbrev S_ : Shape := ⟨0, ![]⟩
abbrev S2x128x128 : Shape := ⟨3, ![2, 128, 128]⟩
abbrev S2x128x256 : Shape := ⟨3, ![2, 128, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2304, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S2x8192x128, .f32⟩
  | .hbm, ⟨5, _⟩ => ⟨S2x8192x2x64, .f32⟩
  | .hbm, ⟨6, _⟩ => ⟨S2x8192x128, .f32⟩
  | .hbm, ⟨7, _⟩ => ⟨S2x8192x2x64, .f32⟩
  | .hbm, ⟨8, _⟩ => ⟨S1x64x64, .f32⟩
  | .hbm, ⟨9, _⟩ => ⟨S64x64, .f32⟩
  | .hbm, ⟨10, _⟩ => ⟨S1x64x64, .f32⟩
  | .hbm, ⟨11, _⟩ => ⟨S64x64, .f32⟩
  | .hbm, ⟨12, _⟩ => ⟨S1x64x64, .f32⟩
  | .hbm, ⟨13, _⟩ => ⟨S64x64, .f32⟩
  | .hbm, ⟨14, _⟩ => ⟨S2x128x64x2x64, .f32⟩
  | .hbm, ⟨15, _⟩ => ⟨S64x2x128x2, .f32⟩
  | .hbm, ⟨16, _⟩ => ⟨S2x128x2x64, .f32⟩
  | .hbm, ⟨17, _⟩ => ⟨S2x128x2x64, .f32⟩
  | .hbm, ⟨18, _⟩ => ⟨S2x128x2x64, .f32⟩
  | .hbm, ⟨19, _⟩ => ⟨S2x128x2x64, .f32⟩
  | .hbm, ⟨20, _⟩ => ⟨S_, .f32⟩
  | .hbm, ⟨21, _⟩ => ⟨S2x128x2x64, .f32⟩
  | .hbm, ⟨22, _⟩ => ⟨S2x128x2x64, .f32⟩
  | .hbm, ⟨23, _⟩ => ⟨S2x128x2x64, .f32⟩
  | .hbm, ⟨24, _⟩ => ⟨S_, .f32⟩
  | .hbm, ⟨25, _⟩ => ⟨S2x128x2x64, .f32⟩
  | .hbm, ⟨26, _⟩ => ⟨S2x128x2x64, .f32⟩
  | .hbm, ⟨27, _⟩ => ⟨S2x128x2x64, .f32⟩
  | .hbm, ⟨28, _⟩ => ⟨S_, .f32⟩
  | .hbm, ⟨29, _⟩ => ⟨S2x128x2x64, .f32⟩
  | .hbm, ⟨30, _⟩ => ⟨S2x128x2x64, .f32⟩
  | .hbm, ⟨31, _⟩ => ⟨S_, .f32⟩
  | .hbm, ⟨32, _⟩ => ⟨S2x128x2x64, .f32⟩
  | .hbm, ⟨33, _⟩ => ⟨S2x128x2x64, .f32⟩
  | .hbm, ⟨34, _⟩ => ⟨S2x128x2x64, .f32⟩
  | .hbm, ⟨35, _⟩ => ⟨S2x128x2x64, .f32⟩
  | .hbm, ⟨36, _⟩ => ⟨S1x64x64, .f32⟩
  | .hbm, ⟨37, _⟩ => ⟨S64x64, .f32⟩
  | .hbm, ⟨38, _⟩ => ⟨S1x64x64, .f32⟩
  | .hbm, ⟨39, _⟩ => ⟨S64x64, .f32⟩
  | .hbm, ⟨40, _⟩ => ⟨S1x64x64, .f32⟩
  | .hbm, ⟨41, _⟩ => ⟨S64x64, .f32⟩
  | .hbm, ⟨42, _⟩ => ⟨S2x128x64x2x64, .f32⟩
  | .hbm, ⟨43, _⟩ => ⟨S64x2x128x2, .f32⟩
  | .hbm, ⟨44, _⟩ => ⟨S2x128x2x64, .f32⟩
  | .hbm, ⟨45, _⟩ => ⟨S2x128x2x64, .f32⟩
  | .hbm, ⟨46, _⟩ => ⟨S2x128x2x64, .f32⟩
  | .hbm, ⟨47, _⟩ => ⟨S2x128x2x64, .f32⟩
  | .hbm, ⟨48, _⟩ => ⟨S_, .f32⟩
  | .hbm, ⟨49, _⟩ => ⟨S2x128x2x64, .f32⟩
  | .hbm, ⟨50, _⟩ => ⟨S2x128x2x64, .f32⟩
  | .hbm, ⟨51, _⟩ => ⟨S2x128x2x64, .f32⟩
  | .hbm, ⟨52, _⟩ => ⟨S_, .f32⟩
  | .hbm, ⟨53, _⟩ => ⟨S2x128x2x64, .f32⟩
  | .hbm, ⟨54, _⟩ => ⟨S2x128x2x64, .f32⟩
  | .hbm, ⟨55, _⟩ => ⟨S2x128x2x64, .f32⟩
  | .hbm, ⟨56, _⟩ => ⟨S_, .f32⟩
  | .hbm, ⟨57, _⟩ => ⟨S2x128x2x64, .f32⟩
  | .hbm, ⟨58, _⟩ => ⟨S2x128x2x64, .f32⟩
  | .hbm, ⟨59, _⟩ => ⟨S_, .f32⟩
  | .hbm, ⟨60, _⟩ => ⟨S2x128x2x64, .f32⟩
  | .hbm, ⟨61, _⟩ => ⟨S2x128x2x64, .f32⟩
  | .hbm, ⟨62, _⟩ => ⟨S2x128x2x64, .f32⟩
  | .hbm, ⟨63, _⟩ => ⟨S2x128x2x64, .f32⟩
  | .hbm, ⟨64, _⟩ => ⟨S2x128x128, .f32⟩
  | .hbm, ⟨65, _⟩ => ⟨S2x128x128, .f32⟩
  | .hbm, ⟨66, _⟩ => ⟨S2x128x256, .f32⟩
  | _, _ => ⟨S2x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Proof.Rows.lean ====
/- The row functions that the kernels and their references share, over plain functions of numbers: the layer norm of a row
   and the feed-forward block at one row. -/
module

public import Idealize.ShloMosaic.Lib.Pointwise

@[expose] public section

set_option maxRecDepth 16384

noncomputable section

namespace Cert.Rows

open Idealize.ShloMosaic

/-- The mean of a row of 1024 numbers, as the ideal division by the word of 1024. -/
def mean (f : Fin 1024 → EReal) : EReal := Ideal.div (∑ k, f k) (Ideal.ofBits .f32 0x44800000#32)

/-- The layer norm of the row `f` at its entry `c`, with scale `g` and shift `b`. -/
def norm (f : Fin 1024 → EReal) (g b : EReal) (c : Fin 1024) : EReal :=
  (f c - mean f) * Ideal.rsqrt (mean (fun k => (f k - mean f) * (f k - mean f)) + Ideal.ofBits .f32 0x3727C5AC#32) * g + b

/-- The hidden unit of the feed-forward block: gate times its sigmoid times the other projection. -/
def hidden (x wg wu : Fin 1024 → EReal) : EReal :=
  (∑ d, x d * wg d) * Ideal.logistic (∑ d, x d * wg d) * ∑ d, x d * wu d

/-- The residual sum before the norm: the row's own entry, scaled, and half of the block's output. -/
def residual (xc y : EReal) : EReal :=
  Ideal.ofBits .f32 0x3FD744FD#32 * xc + Ideal.ofBits .f32 0x3F000000#32 * y

/-- The residual sum before the norm of an attention's output: the row's own entry, scaled, and the output. -/
def carry (xc y : EReal) : EReal := Ideal.ofBits .f32 0x3FD744FD#32 * xc + y

/-- A sum over 1024 columns is the sum over 16 heads of the sums over their 64 columns. -/
theorem sum_heads (f : Fin 1024 → EReal) : ∑ h : Fin 16, ∑ d : Fin 64, f ⟨h.val * 64 + d.val, by omega⟩ = ∑ k, f k := by
  rw [← Fintype.sum_prod_type', ← Equiv.sum_comp (finProdFinEquiv (m := 16) (n := 64)) f]
  refine Finset.sum_congr rfl fun p _ => congrArg f (Fin.ext ?_)
  show p.1.val * 64 + p.2.val = p.2.val + 64 * p.1.val
  omega

/-- Sixteen terms added one after the other are their sum. -/
theorem sum_sixteen (g : Fin 16 → EReal) :
    0 + g 0 + g 1 + g 2 + g 3 + g 4 + g 5 + g 6 + g 7 + g 8 + g 9 + g 10 + g 11 + g 12 + g 13 + g 14 + g 15 = ∑ h, g h := by
  rw [zero_add]
  simp only [Fin.sum_univ_castSucc, Finset.univ_eq_empty, Finset.sum_empty, zero_add]
  rfl

/-- A sum over 2816 hidden units is the sum over its two halves, the first taken onto a zero. -/
theorem sum_halves (f : Fin 2816 → EReal) :
    0 + (∑ k : Fin 1408, f ⟨k.val, by omega⟩) + ∑ k : Fin 1408, f ⟨1408 + k.val, by omega⟩ = ∑ k, f k := by
  rw [zero_add]
  exact (Fin.sum_univ_add (a := 1408) (b := 1408) f).symm

end Cert.Rows

end
-- ==== Proof.FfnRef.lean ====
/- What the feed-forward reference computes, read at an index. -/
module

public import proofs.«01_k».proof.Proof.Gen.FfnRefIdeal.Run
public import proofs.«01_k».proof.Proof.Rows

@[expose] public section

set_option maxRecDepth 16384

noncomputable section

namespace Cert.FfnRefIdeal.Value

open Idealize.ShloMosaic Idealize.ShloMosaic.TcCoe Idealize.SL.Sem
open Cert.FfnRefIdeal Cert.FfnRefIdeal.Gen

/-- The reference's residual sum, as a term over its arguments. -/
def Sum (X : FVec Ideal S16384x1024 .f32) (Wg Wu : FVec Ideal S1024x2816 .f32) (Wd : FVec Ideal S2816x1024 .f32) :
    FVec Ideal S16384x1024 .f32 :=
  addf (mulf (broadcastInDim S16384x1024 ![] bcast_S_S16384x1024 (constant S_ .f32 0x3FD744FD#32)) X) (mulf (broadcastInDim S16384x1024 ![] bcast_S_S16384x1024 (constant S_ .f32 0x3F000000#32)) (Host.dotGeneral dot_S16384x2816_S2816x1024_S16384x1024_1_0_0_1_n_n none (mulf (mulf (Host.dotGeneral dot_S16384x1024_S1024x2816_S16384x2816_1_0_0_1_n_n none X Wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none X Wg)))))) (Host.dotGeneral dot_S16384x1024_S1024x2816_S16384x2816_1_0_0_1_n_n none X Wu)) Wd))

/-- The reference's layer norm of an array `U` of rows. -/
def Norm (U : FVec Ideal S16384x1024 .f32) (G B : FVec Ideal S1024 .f32) : FVec Ideal S16384x1024 .f32 :=
  addf (mulf (mulf (subf U (broadcastInDim S16384x1024 ![0, 1] bcast_S16384x1_S16384x1024_0_1 (Host.divf (broadcastInDim S16384x1 ![0] bcast_S16384_S16384x1_0 (Host.reduceAdd U (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf U (broadcastInDim S16384x1024 ![0, 1] bcast_S16384x1_S16384x1024_0_1 (Host.divf (broadcastInDim S16384x1 ![0] bcast_S16384_S16384x1_0 (Host.reduceAdd U (constant S_ .f32 0x00000000#32) reducesTo_S16384x1024_S16384_d1 h_S_)) (broadcastInDim S16384x1 ![] bcast_S_S16384x1 (constant S_ .f32 0x44800000#32))))) (subf U (broadcastInDim S16384x1024 ![0, 1] bcast_S16384x1_S16384x1024_0_1 (Host.divf (broadcastInDim S16384x1 ![0] bcast_S16384_S16384x1_0 (Host.reduceAdd U (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 G))) (broadcastInDim S16384x1024 ![0, 1] bcast_S1x1024_S16384x1024_0_1 (broadcastInDim S1x1024 ![1] bcast_S1024_S1x1024_1 B))

/-- The reference's result is the norm of its residual sum. -/
theorem result_eq (m : (ℓ : Loc nD τ sig) → Buf (Elt Ideal) ℓ) (c : Dev nD) :
    res_main_v33 m c = Norm (Sum (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := rfl

/-- The norm at row `r` and column `k` is the row function of that row. -/
theorem norm_at (U : FVec Ideal S16384x1024 .f32) (G B : FVec Ideal S1024 .f32) (r : Fin 16384) (k : Fin 1024) :
    Norm U G B (ix2 r k) = Rows.norm (fun l => U (ix2 r l)) (G (ix1 k)) (B (ix1 k)) k := by
  pointwise [Norm]
  simp only [Rows.norm, Rows.mean, zero_add]

/-- The residual sum at row `r` and column `k`. -/
theorem sum_at (X : FVec Ideal S16384x1024 .f32) (Wg Wu : FVec Ideal S1024x2816 .f32) (Wd : FVec Ideal S2816x1024 .f32)
    (r : Fin 16384) (k : Fin 1024) :
    Sum X Wg Wu Wd (ix2 r k) = Rows.residual (X (ix2 r k)) (∑ h : Fin 2816,
      Rows.hidden (fun d => X (ix2 r d)) (fun d => Wg (ix2 d h)) (fun d => Wu (ix2 d h)) * Wd (ix2 h k)) := by
  pointwise [Sum]
  simp only [Rows.residual, Rows.hidden, Ideal.logistic]

end Cert.FfnRefIdeal.Value

end
-- ==== Proof.FfnKernel.lean ====
/- What the feed-forward kernel stores at a grid point, read at an index, and the array it leaves. -/
module

public import proofs.«01_k».proof.Proof.Gen.FfnIdeal.Value
public import proofs.«01_k».proof.Proof.FfnRef
public import Idealize.ShloMosaic.Lib.Pipeline.ValueKit

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen

/-- The body's norm at row `r` and column `k` is the row function of that row. -/
theorem norm_at (u : FVec Ideal S512x1024 .f32) (g b : FVec Ideal S1x1024 .f32) (r : Fin 512) (k : Fin 1024) :
    k0_pay1 u g b (ix2 r k) = Rows.norm (fun l => u (ix2 r l)) (g (ix2 0 k)) (b (ix2 0 k)) k := by
  pointwise [k0_pay1]
  simp only [Rows.norm, Rows.mean]

/-- The body's residual sum at row `r` and column `k`, over the two halves of the hidden units. -/
theorem sum_at (x : FVec Ideal S512x1024 .f32) (g0 u0 : FVec Ideal S1024x1408 .bf16) (d0 : FVec Ideal S1408x1024 .bf16)
    (g1 u1 : FVec Ideal S1024x1408 .bf16) (d1 : FVec Ideal S1408x1024 .bf16) (r : Fin 512) (k : Fin 1024) :
    k0_pay2 (F := Ideal) x g0 u0 d0 g1 u1 d1 (ix2 r k) = Rows.residual (x (ix2 r k)) (0 + (∑ h : Fin 1408,
      Rows.hidden (fun d => x (ix2 r d)) (fun d => g0 (ix2 d h)) (fun d => u0 (ix2 d h)) * d0 (ix2 h k)) + ∑ h : Fin 1408,
      Rows.hidden (fun d => x (ix2 r d)) (fun d => g1 (ix2 d h)) (fun d => u1 (ix2 d h)) * d1 (ix2 h k)) := by
  pointwise [k0_pay2]
  simp only [Rows.residual, Rows.hidden]

variable (m : (ℓ : Loc nD τ sig) → Buf (Elt Ideal) ℓ)

/-- The windows' block indices: the row windows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's term over this program's argument arrays. -/
abbrev Out (c : Dev nD) : FVec Ideal Cert.FfnRefIdeal.S16384x1024 .f32 :=
  Cert.FfnRefIdeal.Value.Norm (Cert.FfnRefIdeal.Value.Sum (m ((c : Thread nD τ).loc main_arg0)) (m ((c : Thread nD τ).loc main_arg1))
    (m ((c : Thread nD τ).loc main_arg2)) (m ((c : Thread nD τ).loc main_arg3)))
    (m ((c : Thread nD τ).loc main_arg4)) (m ((c : Thread nD τ).loc main_arg5))

/-- The array after the run is the reference's term. -/
theorem final (c : Dev nD) : (dats m 0 c).arrAt 6 (cfgs 0).N = Out m c := by
  refine (dats m 0 c).arrAt_eq_of_covers 6 _ (by decide +kernel) fun t _ y => ?_
  blk_simp
  rw [after0_6]; frame_out
  idx_vars y
  have ht : t.val < 32 := t.isLt
  have he : ((View.whole main_v5).slice (win0_6.rect t)).emb (ix2 y0 y1)
      = ix2 (⟨t.val * 512 + y0.val, by omega⟩ : Fin 16384) y1 := by blk_ext [idx t]
  rw [he]
  refine (norm_at _ _ _ y0 y1).trans ((Cert.FfnRefIdeal.Value.norm_at _ _ _ _ _).trans ?_).symm
  have hrow : ∀ l : Fin 1024, Cert.FfnRefIdeal.Value.Sum (m ((c : Thread nD τ).loc main_arg0)) (m ((c : Thread nD τ).loc main_arg1))
      (m ((c : Thread nD τ).loc main_arg2)) (m ((c : Thread nD τ).loc main_arg3)) (ix2 (⟨t.val * 512 + y0.val, by omega⟩ : Fin 16384) l)
      = k0_pay2 (F := Ideal) (iblk m c 0 t) (View.ld (iblk m c 1 t) r0_1) (View.ld (iblk m c 2 t) r0_1) (View.ld (iblk m c 3 t) r0_2)
        (View.ld (iblk m c 1 t) r0_3) (View.ld (iblk m c 2 t) r0_3) (View.ld (iblk m c 3 t) r0_4) (ix2 y0 l) := by
    intro l
    refine (Cert.FfnRefIdeal.Value.sum_at _ _ _ _ _ _).trans ((sum_at _ _ _ _ _ _ _ y0 l).trans ?_).symm
    rw [← Rows.sum_halves]
    pointwise [Rows.residual, Rows.hidden]
    blk_point [iblk, V, idx t]
  have hg : ∀ k : Fin 1024, m ((c : Thread nD τ).loc main_arg4) (ix1 k) = iblk m c 4 t (ix2 0 k) := by
    intro k
    symm
    blk_point [iblk, V, idx t]
  have hb : ∀ k : Fin 1024, m ((c : Thread nD τ).loc main_arg5) (ix1 k) = iblk m c 5 t (ix2 0 k) := by
    intro k
    symm
    blk_point [iblk, V, idx t]
  simp only [hrow]
  exact congrArg₂ (fun g b => Rows.norm _ g b y1) (hg y1) (hb y1)

end Cert.FfnIdeal.Value

end
-- ==== Proof.Memory.lean ====
/- The keys and values of the memory at every layer: the kernel multiplies with the two weights side by side, layer by layer, the reference with one after the other. -/
module

public import proofs.«01_k».proof.Proof.Gen.MemoryIdeal.Frame
public import proofs.«01_k».proof.Proof.Gen.MemoryRefIdeal.Run
public import Idealize.ShloMosaic.Lib.Pipeline.ValueKit

@[expose] public section

set_option maxRecDepth 16384

noncomputable section

namespace Cert.MemoryRefIdeal.Value

open Idealize.ShloMosaic Idealize.ShloMosaic.TcCoe Idealize.SL.Sem
open Cert.MemoryRefIdeal Cert.MemoryRefIdeal.Gen

/-- The reference: the keys and the values of every memory token at every layer, stacked. -/
def Stack (M : FVec Ideal S2x256x1024 .f32) (K U : FVec Ideal S4x1024x512 .f32) : FVec Ideal S4x2x256x2x4x128 .f32 :=
  concatenate S4x2x256x2x4x128 3 [⟨S4x2x256x1x4x128, (broadcastInDim S4x2x256x1x4x128 ![0, 1, 2, 4, 5] bcast_S4x2x256x4x128_S4x2x256x1x4x128_0_1_2_4_5 (shapeCast _ (transpose S4x2x256x512 [0, 2, 3, 1] (Host.dotGeneral dot_S4x1024x512_S2x256x1024_S4x512x2x256_1_2_02_01_n_n none K M) transposes_S4x512x2x256_S4x2x256x512_0_2_3_1) shapeCasts_S4x2x256x512_S4x2x256x4x128))⟩, ⟨S4x2x256x1x4x128, (broadcastInDim S4x2x256x1x4x128 ![0, 1, 2, 4, 5] bcast_S4x2x256x4x128_S4x2x256x1x4x128_0_1_2_4_5 (shapeCast _ (transpose S4x2x256x512 [0, 2, 3, 1] (Host.dotGeneral dot_S4x1024x512_S2x256x1024_S4x512x2x256_1_2_02_01_n_n none U M) transposes_S4x512x2x256_S4x2x256x512_0_2_3_1) shapeCasts_S4x2x256x512_S4x2x256x4x128))⟩] concatenates_S4x2x256x1x4x128_S4x2x256x1x4x128_S4x2x256x2x4x128_d3

/-- A stack's entry: a key's component, then a value's. -/
theorem stack_at (M : FVec Ideal S2x256x1024 .f32) (K U : FVec Ideal S4x1024x512 .f32) (l : Fin 4) (b : Fin 2) (t : Fin 256) (s : Fin 2) (h : Fin 4) (e : Fin 128) :
    Stack M K U (ix6 l b t s h e) = if s.val < 1 then ∑ d : Fin 1024, K (ix3 l d ⟨h.val * 128 + e.val, by omega⟩) * M (ix3 b t d)
      else ∑ d : Fin 1024, U (ix3 l d ⟨h.val * 128 + e.val, by omega⟩) * M (ix3 b t d) := by
  pointwise [Stack]
  by_cases hs : s.val < 1
  · rw [dif_pos hs, if_pos hs]
  · rw [dif_neg hs, if_neg hs]

end Cert.MemoryRefIdeal.Value

namespace Cert.MemoryIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MemoryIdeal Cert.MemoryIdeal.Gen

/-- Rows times a layer's weights. -/
def Prod (X : FVec Ideal S512x1024 .f32) (w : FVec Ideal S1024x1024 .bf16) : FVec Ideal S512x1024 .f32 :=
  fun i => ∑ d : Fin 1024, X (ix2 (i 0) d) * w (ix2 d (i 1))

/-- An entry of the rows times an entry of the weights. -/
def times (X : FVec Ideal S512x1024 .f32) (w : FVec Ideal S1024x1024 .bf16) (u : S512x1024.Idx) (v : S1024x1024.Idx) : EReal := X u * w v

section Regions

variable (V : (c : Dev nD) → (b : Ref sig .tc) → Buf (Elt Ideal) ((c : Thread nD τ).loc b))

/-- What the body stores at a row and a column, in launch 1. -/
theorem product0_at (x : FVec Ideal S512x1024 .f32) (w : FVec Ideal S1024x1024 .bf16) (r : Fin 512) (k : Fin 1024) :
    k0_pay1 (F := Ideal) x w (ix2 r k) = ∑ d : Fin 1024, x (ix2 r d) * w (ix2 d k) := by
  pointwise [k0_pay1]

/-- There is one point, and every window holds its whole array. -/
theorem idx0 : ∀ t : Fin cfg0.N, win0_0.index t = ![0, 0] ∧ win0_1.index t = ![0, 0] ∧ win0_2.index t = ![0, 0] :=
  (by decide +kernel : ∀ t : Fin grid0.N, _)

/-- What launch 1 leaves in its output array. -/
theorem left0 (c : Dev nD) : (dat0 V c).arrAt 2 cfg0.N = Prod (V c main_v2) (V c main_v4) := by
  refine (dat0 V c).arrAt_eq_of_covers 2 _ (by decide +kernel) fun t _ y => ?_
  blk_simp
  rw [after0_2]; frame_out
  idx_vars y
  have he : ((View.whole main_v5).slice (win0_2.rect t)).emb (ix2 y0 y1) = ix2 y0 y1 := by blk_ext [idx0 t]
  rw [he]
  refine (product0_at _ _ y0 y1).trans ?_
  have hx : ∀ d : Fin 1024, (win0_0.blk t).view.emb (ix2 y0 d) = ix2 y0 d := fun d => by blk_ext [idx0 t]
  have hw : ∀ d : Fin 1024, (win0_1.blk t).view.emb (ix2 d y1) = ix2 d y1 := fun d => by blk_ext [idx0 t]
  refine Finset.sum_congr rfl fun d _ => ?_
  exact congrArg₂ (times (V c main_v2) (V c main_v4)) (hx d) (hw d)

/-- What the body stores at a row and a column, in launch 2. -/
theorem product1_at (x : FVec Ideal S512x1024 .f32) (w : FVec Ideal S1024x1024 .bf16) (r : Fin 512) (k : Fin 1024) :
    k1_pay1 (F := Ideal) x w (ix2 r k) = ∑ d : Fin 1024, x (ix2 r d) * w (ix2 d k) := by
  pointwise [k1_pay1]

/-- There is one point, and every window holds its whole array. -/
theorem idx1 : ∀ t : Fin cfg1.N, win1_0.index t = ![0, 0] ∧ win1_1.index t = ![0, 0] ∧ win1_2.index t = ![0, 0] :=
  (by decide +kernel : ∀ t : Fin grid1.N, _)

/-- What launch 2 leaves in its output array. -/
theorem left1 (c : Dev nD) : (dat1 V c).arrAt 2 cfg1.N = Prod (V c main_v2) (V c main_v7) := by
  refine (dat1 V c).arrAt_eq_of_covers 2 _ (by decide +kernel) fun t _ y => ?_
  blk_simp
  rw [after1_2]; frame_out
  idx_vars y
  have he : ((View.whole main_v8).slice (win1_2.rect t)).emb (ix2 y0 y1) = ix2 y0 y1 := by blk_ext [idx1 t]
  rw [he]
  refine (product1_at _ _ y0 y1).trans ?_
  have hx : ∀ d : Fin 1024, (win1_0.blk t).view.emb (ix2 y0 d) = ix2 y0 d := fun d => by blk_ext [idx1 t]
  have hw : ∀ d : Fin 1024, (win1_1.blk t).view.emb (ix2 d y1) = ix2 d y1 := fun d => by blk_ext [idx1 t]
  refine Finset.sum_congr rfl fun d _ => ?_
  exact congrArg₂ (times (V c main_v2) (V c main_v7)) (hx d) (hw d)

/-- What the body stores at a row and a column, in launch 3. -/
theorem product2_at (x : FVec Ideal S512x1024 .f32) (w : FVec Ideal S1024x1024 .bf16) (r : Fin 512) (k : Fin 1024) :
    k2_pay1 (F := Ideal) x w (ix2 r k) = ∑ d : Fin 1024, x (ix2 r d) * w (ix2 d k) := by
  pointwise [k2_pay1]

/-- There is one point, and every window holds its whole array. -/
theorem idx2 : ∀ t : Fin cfg2.N, win2_0.index t = ![0, 0] ∧ win2_1.index t = ![0, 0] ∧ win2_2.index t = ![0, 0] :=
  (by decide +kernel : ∀ t : Fin grid2.N, _)

/-- What launch 3 leaves in its output array. -/
theorem left2 (c : Dev nD) : (dat2 V c).arrAt 2 cfg2.N = Prod (V c main_v2) (V c main_v10) := by
  refine (dat2 V c).arrAt_eq_of_covers 2 _ (by decide +kernel) fun t _ y => ?_
  blk_simp
  rw [after2_2]; frame_out
  idx_vars y
  have he : ((View.whole main_v11).slice (win2_2.rect t)).emb (ix2 y0 y1) = ix2 y0 y1 := by blk_ext [idx2 t]
  rw [he]
  refine (product2_at _ _ y0 y1).trans ?_
  have hx : ∀ d : Fin 1024, (win2_0.blk t).view.emb (ix2 y0 d) = ix2 y0 d := fun d => by blk_ext [idx2 t]
  have hw : ∀ d : Fin 1024, (win2_1.blk t).view.emb (ix2 d y1) = ix2 d y1 := fun d => by blk_ext [idx2 t]
  refine Finset.sum_congr rfl fun d _ => ?_
  exact congrArg₂ (times (V c main_v2) (V c main_v10)) (hx d) (hw d)

/-- What the body stores at a row and a column, in launch 4. -/
theorem product3_at (x : FVec Ideal S512x1024 .f32) (w : FVec Ideal S1024x1024 .bf16) (r : Fin 512) (k : Fin 1024) :
    k3_pay1 (F := Ideal) x w (ix2 r k) = ∑ d : Fin 1024, x (ix2 r d) * w (ix2 d k) := by
  pointwise [k3_pay1]

/-- There is one point, and every window holds its whole array. -/
theorem idx3 : ∀ t : Fin cfg3.N, win3_0.index t = ![0, 0] ∧ win3_1.index t = ![0, 0] ∧ win3_2.index t = ![0, 0] :=
  (by decide +kernel : ∀ t : Fin grid3.N, _)

/-- What launch 4 leaves in its output array. -/
theorem left3 (c : Dev nD) : (dat3 V c).arrAt 2 cfg3.N = Prod (V c main_v2) (V c main_v13) := by
  refine (dat3 V c).arrAt_eq_of_covers 2 _ (by decide +kernel) fun t _ y => ?_
  blk_simp
  rw [after3_2]; frame_out
  idx_vars y
  have he : ((View.whole main_v14).slice (win3_2.rect t)).emb (ix2 y0 y1) = ix2 y0 y1 := by blk_ext [idx3 t]
  rw [he]
  refine (product3_at _ _ y0 y1).trans ?_
  have hx : ∀ d : Fin 1024, (win3_0.blk t).view.emb (ix2 y0 d) = ix2 y0 d := fun d => by blk_ext [idx3 t]
  have hw : ∀ d : Fin 1024, (win3_1.blk t).view.emb (ix2 d y1) = ix2 d y1 := fun d => by blk_ext [idx3 t]
  refine Finset.sum_congr rfl fun d _ => ?_
  exact congrArg₂ (times (V c main_v2) (V c main_v13)) (hx d) (hw d)

end Regions

/-- The launches' weights: the two weights side by side, converted. -/
def Side (K U : FVec Ideal S4x1024x512 .f32) : FVec Ideal S4x1024x1024 .bf16 :=
  truncf .bf16 (concatenate S4x1024x1024 2 [⟨S4x1024x512, K⟩, ⟨S4x1024x512, U⟩] concatenates_S4x1024x512_S4x1024x512_S4x1024x1024_d2) bitsLt_bf16_f32

/-- The memory in rows. -/
def Rows (M : FVec Ideal S2x256x1024 .f32) : FVec Ideal S512x1024 .f32 := shapeCast _ M shapeCasts_S2x256x1024_S512x1024

/-- A row of the memory. -/
theorem rows_at (M : FVec Ideal S2x256x1024 .f32) (b : Fin 2) (t : Fin 256) (d : Fin 1024) :
    Rows M (ix2 ⟨b.val * 256 + t.val, by omega⟩ d) = M (ix3 b t d) := by
  pointwise [Rows]

/-- The weights of layer 1. -/
def Layer0 (w : FVec Ideal S4x1024x1024 .bf16) : FVec Ideal S1024x1024 .bf16 :=
  shapeCast _ (extractStridedSlice S1x1024x1024 ![0, 0, 0] w slices_S4x1024x1024_S1x1024x1024_0_0_0) shapeCasts_S1x1024x1024_S1024x1024

/-- An entry of them. -/
theorem layer0_at (K U : FVec Ideal S4x1024x512 .f32) (d k : Fin 1024) :
    Layer0 (Side K U) (ix2 d k) = if h : k.val < 512 then K (ix3 0 d ⟨k.val, h⟩) else U (ix3 0 d ⟨k.val - 512, by omega⟩) := by
  pointwise [Layer0, Side]

/-- The weights of layer 2. -/
def Layer1 (w : FVec Ideal S4x1024x1024 .bf16) : FVec Ideal S1024x1024 .bf16 :=
  shapeCast _ (extractStridedSlice S1x1024x1024 ![1, 0, 0] w slices_S4x1024x1024_S1x1024x1024_1_0_0) shapeCasts_S1x1024x1024_S1024x1024

/-- An entry of them. -/
theorem layer1_at (K U : FVec Ideal S4x1024x512 .f32) (d k : Fin 1024) :
    Layer1 (Side K U) (ix2 d k) = if h : k.val < 512 then K (ix3 1 d ⟨k.val, h⟩) else U (ix3 1 d ⟨k.val - 512, by omega⟩) := by
  pointwise [Layer1, Side]

/-- The weights of layer 3. -/
def Layer2 (w : FVec Ideal S4x1024x1024 .bf16) : FVec Ideal S1024x1024 .bf16 :=
  shapeCast _ (extractStridedSlice S1x1024x1024 ![2, 0, 0] w slices_S4x1024x1024_S1x1024x1024_2_0_0) shapeCasts_S1x1024x1024_S1024x1024

/-- An entry of them. -/
theorem layer2_at (K U : FVec Ideal S4x1024x512 .f32) (d k : Fin 1024) :
    Layer2 (Side K U) (ix2 d k) = if h : k.val < 512 then K (ix3 2 d ⟨k.val, h⟩) else U (ix3 2 d ⟨k.val - 512, by omega⟩) := by
  pointwise [Layer2, Side]

/-- The weights of layer 4. -/
def Layer3 (w : FVec Ideal S4x1024x1024 .bf16) : FVec Ideal S1024x1024 .bf16 :=
  shapeCast _ (extractStridedSlice S1x1024x1024 ![3, 0, 0] w slices_S4x1024x1024_S1x1024x1024_3_0_0) shapeCasts_S1x1024x1024_S1024x1024

/-- An entry of them. -/
theorem layer3_at (K U : FVec Ideal S4x1024x512 .f32) (d k : Fin 1024) :
    Layer3 (Side K U) (ix2 d k) = if h : k.val < 512 then K (ix3 3 d ⟨k.val, h⟩) else U (ix3 3 d ⟨k.val - 512, by omega⟩) := by
  pointwise [Layer3, Side]

/-- The four layers' arrays stacked, each row split into keys and values and both into heads. -/
def All (A B C D : FVec Ideal S512x1024 .f32) : FVec Ideal S4x2x256x2x4x128 .f32 :=
  shapeCast _ (concatenate S4x512x1024 0 [⟨S1x512x1024, broadcastInDim S1x512x1024 ![1, 2] bcast_S512x1024_S1x512x1024_1_2 A⟩, ⟨S1x512x1024, broadcastInDim S1x512x1024 ![1, 2] bcast_S512x1024_S1x512x1024_1_2 B⟩, ⟨S1x512x1024, broadcastInDim S1x512x1024 ![1, 2] bcast_S512x1024_S1x512x1024_1_2 C⟩, ⟨S1x512x1024, broadcastInDim S1x512x1024 ![1, 2] bcast_S512x1024_S1x512x1024_1_2 D⟩] concatenates_S1x512x1024_S1x512x1024_S1x512x1024_S1x512x1024_S4x512x1024_d0) shapeCasts_S4x512x1024_S4x2x256x2x4x128

/-- An entry of the stack. -/
theorem all_at (A B C D : FVec Ideal S512x1024 .f32) (l : Fin 4) (b : Fin 2) (t : Fin 256) (s : Fin 2) (h : Fin 4) (e : Fin 128) :
    All A B C D (ix6 l b t s h e) = (if l.val < 1 then A else if l.val < 2 then B else if l.val < 3 then C else D)
      (ix2 ⟨b.val * 256 + t.val, by omega⟩ ⟨s.val * 512 + h.val * 128 + e.val, by omega⟩) := by
  pointwise [All]
  by_cases h1 : l.val < 1
  · rw [dif_pos h1, if_pos h1]
  · rw [dif_neg h1, if_neg h1]
    by_cases h2 : l.val < 2
    · rw [dif_pos (by omega), if_pos h2]
    · rw [dif_neg (by omega), if_neg h2]
      by_cases h3 : l.val < 3
      · rw [dif_pos (by omega), if_pos h3]
      · rw [dif_neg (by omega), if_neg h3]

variable (m : (ℓ : Loc nD τ sig) → Buf (Elt Ideal) ℓ) (ρ : Dev nD → PrngReg)

/-- The run of the four launches: the result array ends as the last stretch leaves it. -/
theorem run_all : θ_run defs (onTc (τ := τ) (main (F := Ideal))) ⟨m, fun _ => 0, ρ⟩ (fun r => ∀ c : Dev nD,
      r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => (fun c =>
      ⟨h c _ (mem_uc main_v20 (by decide)), (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩))

/-- The memory's rows, before the first launch. -/
theorem rows_eq (c : Dev nD) : W1 m ρ c (Proc.devRef .tc main_v2) = Rows (m ((c : Thread nD τ).loc main_arg0)) := rfl

/-- The launches' weights, before the first launch. -/
theorem side_eq (c : Dev nD) : W1 m ρ c (Proc.devRef .tc main_v1) = Side (m ((c : Thread nD τ).loc main_arg1)) (m ((c : Thread nD τ).loc main_arg2)) := rfl

/-- The rows stay what they were up to the later launches. -/
theorem rows3 (c : Dev nD) : W3 m ρ c (Proc.devRef .tc main_v2) = W1 m ρ c (Proc.devRef .tc main_v2) :=
  (W3_of m ρ c main_v2 (by decide)).trans (W2_of m ρ c main_v2 (by decide))

theorem rows5 (c : Dev nD) : W5 m ρ c (Proc.devRef .tc main_v2) = W1 m ρ c (Proc.devRef .tc main_v2) :=
  (W5_of m ρ c main_v2 (by decide)).trans ((W4_of m ρ c main_v2 (by decide)).trans (rows3 m ρ c))

theorem rows7 (c : Dev nD) : W7 m ρ c (Proc.devRef .tc main_v2) = W1 m ρ c (Proc.devRef .tc main_v2) :=
  (W7_of m ρ c main_v2 (by decide)).trans ((W6_of m ρ c main_v2 (by decide)).trans (rows5 m ρ c))

/-- So do the weights. -/
theorem side2 (c : Dev nD) : W2 m ρ c (Proc.devRef .tc main_v1) = W1 m ρ c (Proc.devRef .tc main_v1) := W2_of m ρ c main_v1 (by decide)

theorem side4 (c : Dev nD) : W4 m ρ c (Proc.devRef .tc main_v1) = W1 m ρ c (Proc.devRef .tc main_v1) :=
  (W4_of m ρ c main_v1 (by decide)).trans ((W3_of m ρ c main_v1 (by decide)).trans (side2 m ρ c))

theorem side6 (c : Dev nD) : W6 m ρ c (Proc.devRef .tc main_v1) = W1 m ρ c (Proc.devRef .tc main_v1) :=
  (W6_of m ρ c main_v1 (by decide)).trans ((W5_of m ρ c main_v1 (by decide)).trans (side4 m ρ c))

/-- Each launch's weights are its layer's. -/
theorem layer0_eq (c : Dev nD) : W1 m ρ c (Proc.devRef .tc main_v4) = Layer0 (W1 m ρ c (Proc.devRef .tc main_v1)) := rfl

theorem layer1_eq (c : Dev nD) : W3 m ρ c (Proc.devRef .tc main_v7) = Layer1 (W2 m ρ c (Proc.devRef .tc main_v1)) := by
  show StableHlo.after _ _ _ = _; rfl

theorem layer2_eq (c : Dev nD) : W5 m ρ c (Proc.devRef .tc main_v10) = Layer2 (W4 m ρ c (Proc.devRef .tc main_v1)) := by
  show StableHlo.after _ _ _ = _; rfl

theorem layer3_eq (c : Dev nD) : W7 m ρ c (Proc.devRef .tc main_v13) = Layer3 (W6 m ρ c (Proc.devRef .tc main_v1)) := by
  show StableHlo.after _ _ _ = _; rfl

/-- What each launch leaves, over the argument arrays. -/
theorem out3 (c : Dev nD) : W8 m ρ c (Proc.devRef .tc main_v14)
    = Prod (Rows (m ((c : Thread nD τ).loc main_arg0))) (Layer3 (Side (m ((c : Thread nD τ).loc main_arg1)) (m ((c : Thread nD τ).loc main_arg2)))) :=
  (W8_arr m ρ c 2).trans ((left3 (V7 m ρ) c).trans
    (congrArg₂ Prod ((rows7 m ρ c).trans (rows_eq m ρ c)) ((layer3_eq m ρ c).trans (congrArg Layer3 ((side6 m ρ c).trans (side_eq m ρ c))))))

theorem out2 (c : Dev nD) : W8 m ρ c (Proc.devRef .tc main_v11)
    = Prod (Rows (m ((c : Thread nD τ).loc main_arg0))) (Layer2 (Side (m ((c : Thread nD τ).loc main_arg1)) (m ((c : Thread nD τ).loc main_arg2)))) :=
  (W8_of m ρ c main_v11 (by decide)).trans ((W7_of m ρ c main_v11 (by decide)).trans ((W6_arr m ρ c 2).trans ((left2 (V5 m ρ) c).trans
    (congrArg₂ Prod ((rows5 m ρ c).trans (rows_eq m ρ c)) ((layer2_eq m ρ c).trans (congrArg Layer2 ((side4 m ρ c).trans (side_eq m ρ c))))))))

theorem out1 (c : Dev nD) : W8 m ρ c (Proc.devRef .tc main_v8)
    = Prod (Rows (m ((c : Thread nD τ).loc main_arg0))) (Layer1 (Side (m ((c : Thread nD τ).loc main_arg1)) (m ((c : Thread nD τ).loc main_arg2)))) :=
  (W8_of m ρ c main_v8 (by decide)).trans ((W7_of m ρ c main_v8 (by decide)).trans ((W6_of m ρ c main_v8 (by decide)).trans
    ((W5_of m ρ c main_v8 (by decide)).trans ((W4_arr m ρ c 2).trans ((left1 (V3 m ρ) c).trans
      (congrArg₂ Prod ((rows3 m ρ c).trans (rows_eq m ρ c)) ((layer1_eq m ρ c).trans (congrArg Layer1 ((side2 m ρ c).trans (side_eq m ρ c))))))))))

theorem out0 (c : Dev nD) : W8 m ρ c (Proc.devRef .tc main_v5)
    = Prod (Rows (m ((c : Thread nD τ).loc main_arg0))) (Layer0 (Side (m ((c : Thread nD τ).loc main_arg1)) (m ((c : Thread nD τ).loc main_arg2)))) :=
  (W8_of m ρ c main_v5 (by decide)).trans ((W7_of m ρ c main_v5 (by decide)).trans ((W6_of m ρ c main_v5 (by decide)).trans
    ((W5_of m ρ c main_v5 (by decide)).trans ((W4_of m ρ c main_v5 (by decide)).trans ((W3_of m ρ c main_v5 (by decide)).trans
      ((W2_arr m ρ c 2).trans ((left0 (V1 m ρ) c).trans
        (congrArg₂ Prod (rows_eq m ρ c) ((layer0_eq m ρ c).trans (congrArg Layer0 (side_eq m ρ c)))))))))))

/-- The result is the four arrays, stacked. -/
theorem stacked (c : Dev nD) : W9 m ρ c (Proc.devRef .tc main_v20)
    = All (W8 m ρ c (Proc.devRef .tc main_v5)) (W8 m ρ c (Proc.devRef .tc main_v8)) (W8 m ρ c (Proc.devRef .tc main_v11)) (W8 m ρ c (Proc.devRef .tc main_v14)) := by
  show StableHlo.after _ _ _ = _; rfl

/-- The reference's term over this program's argument arrays. -/
abbrev Out (c : Dev nD) : FVec Ideal Cert.MemoryRefIdeal.S4x2x256x2x4x128 .f32 :=
  Cert.MemoryRefIdeal.Value.Stack (m ((c : Thread nD τ).loc main_arg0)) (m ((c : Thread nD τ).loc main_arg1)) (m ((c : Thread nD τ).loc main_arg2))

/-- A layer's entry: the memory's row times a key's or a value's weights. -/
theorem entry (M : FVec Ideal S2x256x1024 .f32) (K U : FVec Ideal S4x1024x512 .f32) (w : FVec Ideal S1024x1024 .bf16) (l : Fin 4)
    (hw : ∀ d k : Fin 1024, w (ix2 d k) = if h : k.val < 512 then K (ix3 l d ⟨k.val, h⟩) else U (ix3 l d ⟨k.val - 512, by omega⟩))
    (b : Fin 2) (t : Fin 256) (s : Fin 2) (h : Fin 4) (e : Fin 128) :
    Prod (Rows M) w (ix2 ⟨b.val * 256 + t.val, by omega⟩ ⟨s.val * 512 + h.val * 128 + e.val, by omega⟩)
      = Cert.MemoryRefIdeal.Value.Stack M K U (ix6 l b t s h e) := by
  rw [Cert.MemoryRefIdeal.Value.stack_at]
  show ∑ d : Fin 1024, Rows M (ix2 ⟨b.val * 256 + t.val, by omega⟩ d) * w (ix2 d ⟨s.val * 512 + h.val * 128 + e.val, by omega⟩) = _
  by_cases hs : s.val < 1
  · rw [if_pos hs]
    refine Finset.sum_congr rfl fun d _ => ?_
    rw [rows_at, hw, dif_pos (show s.val * 512 + h.val * 128 + e.val < 512 by omega), mul_comm]
    refine congrArg (fun y => K (ix3 l d y) * M (ix3 b t d)) (Fin.ext ?_)
    show s.val * 512 + h.val * 128 + e.val = h.val * 128 + e.val
    omega
  · rw [if_neg hs]
    refine Finset.sum_congr rfl fun d _ => ?_
    rw [rows_at, hw, dif_neg (show ¬ s.val * 512 + h.val * 128 + e.val < 512 by omega), mul_comm]
    refine congrArg (fun y => U (ix3 l d y) * M (ix3 b t d)) (Fin.ext ?_)
    show s.val * 512 + h.val * 128 + e.val - 512 = h.val * 128 + e.val
    omega

/-- The result is the reference's term. -/
theorem final (c : Dev nD) : W9 m ρ c (Proc.devRef .tc main_v20) = Out m c := by
  rw [stacked, out0, out1, out2, out3]
  refine funext fun i => ?_
  idx_vars i
  rw [all_at]
  match i0 with
  | ⟨0, _⟩ => exact entry _ _ _ _ 0 (layer0_at _ _) i1 i2 i3 i4 i5
  | ⟨1, _⟩ => exact entry _ _ _ _ 1 (layer1_at _ _) i1 i2 i3 i4 i5
  | ⟨2, _⟩ => exact entry _ _ _ _ 2 (layer2_at _ _) i1 i2 i3 i4 i5
  | ⟨3, _⟩ => exact entry _ _ _ _ 3 (layer3_at _ _) i1 i2 i3 i4 i5

end Cert.MemoryIdeal.Value

end
-- ==== Proof.OddIn.lean ====
/- The projection of an odd layer: rows times weights. -/
module

public import proofs.«01_k».proof.Proof.Gen.OddInIdeal.Value
public import proofs.«01_k».proof.Proof.Gen.OddInRefIdeal.Run
public import Idealize.ShloMosaic.Lib.Pipeline.ValueKit

@[expose] public section

set_option maxRecDepth 16384

noncomputable section

namespace Cert.OddInRefIdeal.Value

open Idealize.ShloMosaic Idealize.ShloMosaic.TcCoe Idealize.SL.Sem
open Cert.OddInRefIdeal Cert.OddInRefIdeal.Gen

/-- The reference: the rows times the weights. -/
def Product (X : FVec Ideal S16384x1024 .f32) (W : FVec Ideal S1024x1280 .f32) : FVec Ideal S16384x1280 .f32 :=
  Host.dotGeneral dot_S16384x1024_S1024x1280_S16384x1280_1_0_0_1_n_n none X W

/-- An entry of the product is the sum over the 1024 features. -/
theorem product_at (X : FVec Ideal S16384x1024 .f32) (W : FVec Ideal S1024x1280 .f32) (r : Fin 16384) (k : Fin 1280) :
    Product X W (ix2 r k) = ∑ d : Fin 1024, X (ix2 r d) * W (ix2 d k) := by
  pointwise [Product]

end Cert.OddInRefIdeal.Value

namespace Cert.OddInIdeal.Value

open Idealize.ShloMosaic Idealize.ShloMosaic.TcCoe Idealize.SL.Sem
open Idealize.ShloMosaic.Pipeline (Dat)
open Cert.OddInIdeal Cert.OddInIdeal.Gen

/-- What the body stores at row `r` and column `k`. -/
theorem product_at (x : FVec Ideal S512x1024 .f32) (w : FVec Ideal S1024x1280 .bf16) (r : Fin 512) (k : Fin 1280) :
    k0_pay1 (F := Ideal) x w (ix2 r k) = ∑ d : Fin 1024, x (ix2 r d) * w (ix2 d k) := by
  pointwise [k0_pay1]

variable (m : (ℓ : Loc nD τ sig) → Buf (Elt Ideal) ℓ)

/-- The windows' block indices: the row windows move with the point, the weights stay. -/
theorem idx : ∀ t : Fin cfg0.N, win0_0.index t = ![t.val, 0] ∧ win0_1.index t = ![0, 0] ∧ win0_2.index t = ![t.val, 0] :=
  (by decide +kernel : ∀ t : Fin grid0.N, _)

/-- The reference's term over this program's argument arrays. -/
abbrev Out (c : Dev nD) : FVec Ideal Cert.OddInRefIdeal.S16384x1280 .f32 :=
  Cert.OddInRefIdeal.Value.Product (m ((c : Thread nD τ).loc main_arg0)) (m ((c : Thread nD τ).loc main_arg1))

/-- The array after the run is the reference's term. -/
theorem final (c : Dev nD) : (dats m 0 c).arrAt 2 (cfgs 0).N = Out m c := by
  refine (dats m 0 c).arrAt_eq_of_covers 2 _ (by decide +kernel) fun t _ y => ?_
  blk_simp
  rw [after0_2]; frame_out
  idx_vars y
  have ht : t.val < 32 := t.isLt
  have he : ((View.whole main_v1).slice (win0_2.rect t)).emb (ix2 y0 y1)
      = ix2 (⟨t.val * 512 + y0.val, by omega⟩ : Fin 16384) y1 := by blk_ext [idx t]
  rw [he]
  refine (product_at _ _ y0 y1).trans (Eq.trans ?_ (Cert.OddInRefIdeal.Value.product_at _ _ _ _).symm)
  blk_point [iblk, V, idx t]

end Cert.OddInIdeal.Value

end
-- ==== Proof.Xq.lean ====
/- The query projection of the cross attention: rows times weights. -/
module

public import proofs.«01_k».proof.Proof.Gen.XqIdeal.Value
public import proofs.«01_k».proof.Proof.Gen.XqRefIdeal.Run
public import Idealize.ShloMosaic.Lib.Pipeline.ValueKit

@[expose] public section

set_option maxRecDepth 16384

noncomputable section

namespace Cert.XqRefIdeal.Value

open Idealize.ShloMosaic Idealize.ShloMosaic.TcCoe Idealize.SL.Sem
open Cert.XqRefIdeal Cert.XqRefIdeal.Gen

/-- The reference: the rows times the weights. -/
def Product (X : FVec Ideal S16384x1024 .f32) (W : FVec Ideal S1024x512 .f32) : FVec Ideal S16384x512 .f32 :=
  Host.dotGeneral dot_S16384x1024_S1024x512_S16384x512_1_0_0_1_n_n none X W

/-- An entry of the product is the sum over the 1024 features. -/
theorem product_at (X : FVec Ideal S16384x1024 .f32) (W : FVec Ideal S1024x512 .f32) (r : Fin 16384) (k : Fin 512) :
    Product X W (ix2 r k) = ∑ d : Fin 1024, X (ix2 r d) * W (ix2 d k) := by
  pointwise [Product]

end Cert.XqRefIdeal.Value

namespace Cert.XqIdeal.Value

open Idealize.ShloMosaic Idealize.ShloMosaic.TcCoe Idealize.SL.Sem
open Idealize.ShloMosaic.Pipeline (Dat)
open Cert.XqIdeal Cert.XqIdeal.Gen

/-- What the body stores at row `r` and column `k`. -/
theorem product_at (x : FVec Ideal S512x1024 .f32) (w : FVec Ideal S1024x512 .bf16) (r : Fin 512) (k : Fin 512) :
    k0_pay1 (F := Ideal) x w (ix2 r k) = ∑ d : Fin 1024, x (ix2 r d) * w (ix2 d k) := by
  pointwise [k0_pay1]

variable (m : (ℓ : Loc nD τ sig) → Buf (Elt Ideal) ℓ)

/-- The windows' block indices: the row windows move with the point, the weights stay. -/
theorem idx : ∀ t : Fin cfg0.N, win0_0.index t = ![t.val, 0] ∧ win0_1.index t = ![0, 0] ∧ win0_2.index t = ![t.val, 0] :=
  (by decide +kernel : ∀ t : Fin grid0.N, _)

/-- The reference's term over this program's argument arrays. -/
abbrev Out (c : Dev nD) : FVec Ideal Cert.XqRefIdeal.S16384x512 .f32 :=
  Cert.XqRefIdeal.Value.Product (m ((c : Thread nD τ).loc main_arg0)) (m ((c : Thread nD τ).loc main_arg1))

/-- The array after the run is the reference's term. -/
theorem final (c : Dev nD) : (dats m 0 c).arrAt 2 (cfgs 0).N = Out m c := by
  refine (dats m 0 c).arrAt_eq_of_covers 2 _ (by decide +kernel) fun t _ y => ?_
  blk_simp
  rw [after0_2]; frame_out
  idx_vars y
  have ht : t.val < 32 := t.isLt
  have he : ((View.whole main_v1).slice (win0_2.rect t)).emb (ix2 y0 y1)
      = ix2 (⟨t.val * 512 + y0.val, by omega⟩ : Fin 16384) y1 := by blk_ext [idx t]
  rw [he]
  refine (product_at _ _ y0 y1).trans (Eq.trans ?_ (Cert.XqRefIdeal.Value.product_at _ _ _ _).symm)
  blk_point [iblk, V, idx t]

end Cert.XqIdeal.Value

end
-- ==== Proof.ResLn.lean ====
/- The output projection of the cross attention with its residual sum and layer norm. -/
module

public import proofs.«01_k».proof.Proof.Gen.ResLnIdeal.Value
public import proofs.«01_k».proof.Proof.Gen.ResLnRefIdeal.Run
public import proofs.«01_k».proof.Proof.FfnRef
public import Idealize.ShloMosaic.Lib.Pipeline.ValueKit

@[expose] public section

set_option maxRecDepth 16384

noncomputable section

namespace Cert.ResLnRefIdeal.Value

open Idealize.ShloMosaic Idealize.ShloMosaic.TcCoe Idealize.SL.Sem
open Cert.ResLnRefIdeal Cert.ResLnRefIdeal.Gen

/-- The reference's residual sum, as a term over its arguments. -/
def Sum (X : FVec Ideal S16384x512 .f32) (W : FVec Ideal S512x1024 .f32) (H : FVec Ideal S16384x1024 .f32) : FVec Ideal S16384x1024 .f32 :=
  addf (mulf (broadcastInDim S16384x1024 ![] bcast_S_S16384x1024 (constant S_ .f32 0x3FD744FD#32)) H) (Host.dotGeneral dot_S16384x512_S512x1024_S16384x1024_1_0_0_1_n_n none X W)

/-- The residual sum at row `r` and column `k`. -/
theorem sum_at (X : FVec Ideal S16384x512 .f32) (W : FVec Ideal S512x1024 .f32) (H : FVec Ideal S16384x1024 .f32) (r : Fin 16384) (k : Fin 1024) :
    Sum X W H (ix2 r k) = Rows.carry (H (ix2 r k)) (∑ d : Fin 512, X (ix2 r d) * W (ix2 d k)) := by
  pointwise [Sum]
  simp only [Rows.carry]

end Cert.ResLnRefIdeal.Value

namespace Cert.ResLnIdeal.Value

open Idealize.ShloMosaic Idealize.ShloMosaic.TcCoe Idealize.SL.Sem
open Idealize.ShloMosaic.Pipeline (Dat)
open Cert.ResLnIdeal Cert.ResLnIdeal.Gen

/-- The entry of the product of two blocks at row `r` and column `k`. -/
def entry (x : FVec Ideal S512x512 .f32) (w : FVec Ideal S512x1024 .bf16) (r : Fin 512) (k : Fin 1024) : EReal :=
  ∑ d : Fin 512, x (ix2 r d) * w (ix2 d k)

/-- What the body stores at row `r` and column `k`. -/
theorem norm_at (x : FVec Ideal S512x512 .f32) (w : FVec Ideal S512x1024 .bf16) (h : FVec Ideal S512x1024 .f32) (g b : FVec Ideal S1x1024 .f32)
    (r : Fin 512) (k : Fin 1024) :
    k0_pay1 (F := Ideal) x w h g b (ix2 r k) = Rows.norm (fun l => Rows.carry (h (ix2 r l)) (entry x w r l))
      (g (ix2 0 k)) (b (ix2 0 k)) k := by
  pointwise [k0_pay1]
  simp only [Rows.norm, Rows.mean, Rows.carry, entry]

variable (m : (ℓ : Loc nD τ sig) → Buf (Elt Ideal) ℓ)

/-- The windows' block indices: the row windows move with the point, the weights stay. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The reference's term over this program's argument arrays. -/
abbrev Out (c : Dev nD) : FVec Ideal Cert.FfnRefIdeal.S16384x1024 .f32 :=
  Cert.FfnRefIdeal.Value.Norm (Cert.ResLnRefIdeal.Value.Sum (m ((c : Thread nD τ).loc main_arg0)) (m ((c : Thread nD τ).loc main_arg1))
    (m ((c : Thread nD τ).loc main_arg2))) (m ((c : Thread nD τ).loc main_arg3)) (m ((c : Thread nD τ).loc main_arg4))

/-- The array after the run is the reference's term. -/
theorem final (c : Dev nD) : (dats m 0 c).arrAt 5 (cfgs 0).N = Out m c := by
  refine (dats m 0 c).arrAt_eq_of_covers 5 _ (by decide +kernel) fun t _ y => ?_
  blk_simp
  rw [after0_5]; frame_out
  idx_vars y
  have ht : t.val < 32 := t.isLt
  have he : ((View.whole main_v3).slice (win0_5.rect t)).emb (ix2 y0 y1)
      = ix2 (⟨t.val * 512 + y0.val, by omega⟩ : Fin 16384) y1 := by blk_ext [idx t]
  rw [he]
  refine (norm_at _ _ _ _ _ y0 y1).trans (Eq.trans ?_ (Cert.FfnRefIdeal.Value.norm_at _ _ _ _ _).symm)
  have hrow : ∀ l : Fin 1024, Rows.carry (iblk m c 2 t (ix2 y0 l)) (entry (iblk m c 0 t) (iblk m c 1 t) y0 l)
      = Cert.ResLnRefIdeal.Value.Sum (m ((c : Thread nD τ).loc main_arg0)) (m ((c : Thread nD τ).loc main_arg1))
        (m ((c : Thread nD τ).loc main_arg2)) (ix2 (⟨t.val * 512 + y0.val, by omega⟩ : Fin 16384) l) := by
    intro l
    refine Eq.trans ?_ (Cert.ResLnRefIdeal.Value.sum_at _ _ _ _ _).symm
    refine congrArg₂ Rows.carry (by blk_point [iblk, V, idx t]) (Finset.sum_congr rfl fun d _ => ?_)
    refine congrArg₂ (· * ·) (by blk_point [iblk, V, idx t]) ?_
    blk_point [iblk, V, idx t]
  have hg : ∀ k : Fin 1024, iblk m c 3 t (ix2 0 k) = m ((c : Thread nD τ).loc main_arg3) (ix1 k) := by
    intro k
    blk_point [iblk, V, idx t]
  have hb : ∀ k : Fin 1024, iblk m c 4 t (ix2 0 k) = m ((c : Thread nD τ).loc main_arg4) (ix1 k) := by
    intro k
    blk_point [iblk, V, idx t]
  simp only [← hrow]
  exact congrArg₂ (fun g b => Rows.norm _ g b y1) (hg y1) (hb y1)

end Cert.ResLnIdeal.Value

end
-- ==== Proof.OddOut.lean ====
/- The output projection of an odd layer, head by head, with its residual sum and layer norm. -/
module

public import proofs.«01_k».proof.Proof.Gen.OddOutIdeal.Value
public import proofs.«01_k».proof.Proof.Gen.OddOutRefIdeal.Run
public import proofs.«01_k».proof.Proof.Rows
public import Idealize.ShloMosaic.Lib.Pipeline.ValueKit

@[expose] public section

set_option maxRecDepth 16384

noncomputable section

namespace Cert.OddOutRefIdeal.Value

open Idealize.ShloMosaic Idealize.ShloMosaic.TcCoe Idealize.SL.Sem
open Cert.OddOutRefIdeal Cert.OddOutRefIdeal.Gen

/-- The reference's layer norm of an array `U` of rows. -/
def Norm (U : FVec Ideal S2x8192x1024 .f32) (G B : FVec Ideal S1024 .f32) : FVec Ideal S2x8192x1024 .f32 :=
  addf (mulf (mulf (subf U (broadcastInDim S2x8192x1024 ![0, 1, 2] bcast_S2x8192x1_S2x8192x1024_0_1_2 (Host.divf (broadcastInDim S2x8192x1 ![0, 1] bcast_S2x8192_S2x8192x1_0_1 (Host.reduceAdd U (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf U (broadcastInDim S2x8192x1024 ![0, 1, 2] bcast_S2x8192x1_S2x8192x1024_0_1_2 (Host.divf (broadcastInDim S2x8192x1 ![0, 1] bcast_S2x8192_S2x8192x1_0_1 (Host.reduceAdd U (constant S_ .f32 0x00000000#32) reducesTo_S2x8192x1024_S2x8192_d2 h_S_)) (broadcastInDim S2x8192x1 ![] bcast_S_S2x8192x1 (constant S_ .f32 0x44800000#32))))) (subf U (broadcastInDim S2x8192x1024 ![0, 1, 2] bcast_S2x8192x1_S2x8192x1024_0_1_2 (Host.divf (broadcastInDim S2x8192x1 ![0, 1] bcast_S2x8192_S2x8192x1_0_1 (Host.reduceAdd U (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 G))) (broadcastInDim S2x8192x1024 ![0, 1, 2] bcast_S1x1x1024_S2x8192x1024_0_1_2 (broadcastInDim S1x1x1024 ![2] bcast_S1024_S1x1x1024_2 B))

/-- The norm at row `(n, r)` and column `k` is the row function of that row. -/
theorem norm_at (U : FVec Ideal S2x8192x1024 .f32) (G B : FVec Ideal S1024 .f32) (n : Fin 2) (r : Fin 8192) (k : Fin 1024) :
    Norm U G B (ix3 n r k) = Rows.norm (fun l => U (ix3 n r l)) (G (ix1 k)) (B (ix1 k)) k := by
  pointwise [Norm]
  simp only [Rows.norm, Rows.mean, zero_add]

/-- The reference's residual sum: the heads side by side, times the weights. -/
def Sum (O : FVec Ideal S2x16x8192x64 .f32) (W : FVec Ideal S1024x1024 .f32) (H : FVec Ideal S2x8192x1024 .f32) : FVec Ideal S2x8192x1024 .f32 :=
  addf (mulf (broadcastInDim S2x8192x1024 ![] bcast_S_S2x8192x1024 (constant S_ .f32 0x3FD744FD#32)) H) (Host.dotGeneral dot_S2x8192x1024_S1024x1024_S2x8192x1024_2_0_01_1_n_n none (shapeCast _ (transpose S2x8192x16x64 [0, 2, 1, 3] O transposes_S2x16x8192x64_S2x8192x16x64_0_2_1_3) shapeCasts_S2x8192x16x64_S2x8192x1024) W)

/-- The residual sum at row `(n, r)` and column `k`, by heads. -/
theorem sum_at (O : FVec Ideal S2x16x8192x64 .f32) (W : FVec Ideal S1024x1024 .f32) (H : FVec Ideal S2x8192x1024 .f32)
    (n : Fin 2) (r : Fin 8192) (k : Fin 1024) :
    Sum O W H (ix3 n r k) = Rows.carry (H (ix3 n r k))
      (∑ h : Fin 16, ∑ d : Fin 64, O (ix4 n h r d) * W (ix2 ⟨h.val * 64 + d.val, by omega⟩ k)) := by
  pointwise [Sum]
  refine congrArg (Rows.carry (H (ix3 n r k))) ((Rows.sum_heads _).symm.trans ?_)
  refine Finset.sum_congr rfl fun h _ => Finset.sum_congr rfl fun d _ => ?_
  have eh : (h.val * 64 + d.val) / 64 = h.val := by omega
  have ed : (h.val * 64 + d.val) % 64 = d.val := by omega
  simp only [eh, ed]

end Cert.OddOutRefIdeal.Value

namespace Cert.OddOutIdeal.Value

open Idealize.ShloMosaic Idealize.ShloMosaic.TcCoe Idealize.SL.Sem
open Idealize.ShloMosaic.Pipeline (Dat)
open Cert.OddOutIdeal Cert.OddOutIdeal.Gen

/-- A head's rows as the body converts them. -/
theorem head_at (o : FVec Ideal S1x1x512x64 .f32) (r : Fin 512) (d : Fin 64) : k0_pay3 (F := Ideal) o (ix2 r d) = o (ix4 0 0 r d) := by
  pointwise [k0_pay3]

/-- The share of one head in the output at row `r` and column `k`. -/
def share (o : FVec Ideal S1x1x512x64 .f32) (w : FVec Ideal S1x64x1024 .bf16) (r : Fin 512) (k : Fin 1024) : EReal :=
  ∑ d : Fin 64, o (ix4 0 0 r d) * w (ix3 0 d k)

/-- The first three heads. -/
theorem first_at (o0 o1 o2 : FVec Ideal S1x1x512x64 .f32) (w0 w1 w2 : FVec Ideal S1x64x1024 .bf16) (r : Fin 512) (k : Fin 1024) :
    k0_pay2 (F := Ideal) o0 w0 o1 w1 o2 w2 (ix2 r k) = 0 + share o0 w0 r k + share o1 w1 r k + share o2 w2 r k := by
  pointwise [k0_pay2]
  simp only [share]

/-- Four more heads onto a sum `u`. -/
theorem next_at (u : FVec Ideal S512x1024 .f32) (o0 o1 o2 o3 : FVec Ideal S1x1x512x64 .f32) (w0 w1 w2 w3 : FVec Ideal S1x64x1024 .bf16)
    (r : Fin 512) (k : Fin 1024) :
    k0_pay4 (F := Ideal) u (k0_pay3 o0) w0 o1 w1 o2 w2 o3 w3 (ix2 r k)
      = u (ix2 r k) + share o0 w0 r k + share o1 w1 r k + share o2 w2 r k + share o3 w3 r k := by
  pointwise [k0_pay4, k0_pay3]
  simp only [share]

/-- The last head onto a sum `u`, the residual sum and the norm. -/
theorem last_at (u : FVec Ideal S512x1024 .f32) (o : FVec Ideal S1x1x512x64 .f32) (w : FVec Ideal S1x64x1024 .bf16)
    (h : FVec Ideal S1x512x1024 .f32) (g b : FVec Ideal S1x1024 .f32) (r : Fin 512) (k : Fin 1024) :
    k0_pay1 (F := Ideal) u (k0_pay3 o) w h g b (ix3 0 r k)
      = Rows.norm (fun l => Rows.carry (h (ix3 0 r l)) (u (ix2 r l) + share o w r l)) (g (ix2 0 k)) (b (ix2 0 k)) k := by
  pointwise [k0_pay1, k0_pay3]
  simp only [Rows.norm, Rows.mean, Rows.carry, share]

/-- What the body stores at row `r` and column `k`, of its sixteen heads. -/
theorem stored_at (o : Fin 16 → FVec Ideal S1x1x512x64 .f32) (w : Fin 16 → FVec Ideal S1x64x1024 .bf16)
    (h : FVec Ideal S1x512x1024 .f32) (g b : FVec Ideal S1x1024 .f32) (r : Fin 512) (k : Fin 1024) :
    k0_pay1 (F := Ideal) (k0_pay8 (k0_pay6 (k0_pay4 (k0_pay2 (o 0) (w 0) (o 1) (w 1) (o 2) (w 2))
        (k0_pay3 (o 3)) (w 3) (o 4) (w 4) (o 5) (w 5) (o 6) (w 6)) (k0_pay5 (o 7)) (w 7) (o 8) (w 8) (o 9) (w 9) (o 10) (w 10))
        (k0_pay7 (o 11)) (w 11) (o 12) (w 12) (o 13) (w 13) (o 14) (w 14)) (k0_pay9 (o 15)) (w 15) h g b (ix3 0 r k)
      = Rows.norm (fun l => Rows.carry (h (ix3 0 r l)) (∑ j, share (o j) (w j) r l)) (g (ix2 0 k)) (b (ix2 0 k)) k := by
  refine (last_at _ _ _ _ _ _ r k).trans ?_
  refine congrArg (fun f : Fin 1024 → EReal => Rows.norm (fun l => Rows.carry (h (ix3 0 r l)) (f l)) (g (ix2 0 k)) (b (ix2 0 k)) k) (funext fun l => ?_)
  rw [← Rows.sum_sixteen]
  refine congrArg (· + share (o 15) (w 15) r l) ?_
  refine (next_at _ _ _ _ _ _ _ _ _ r l).trans ?_
  refine congrArg (· + share (o 11) (w 11) r l + share (o 12) (w 12) r l + share (o 13) (w 13) r l + share (o 14) (w 14) r l) ?_
  refine (next_at _ _ _ _ _ _ _ _ _ r l).trans ?_
  refine congrArg (· + share (o 7) (w 7) r l + share (o 8) (w 8) r l + share (o 9) (w 9) r l + share (o 10) (w 10) r l) ?_
  refine (next_at _ _ _ _ _ _ _ _ _ r l).trans ?_
  refine congrArg (· + share (o 3) (w 3) r l + share (o 4) (w 4) r l + share (o 5) (w 5) r l + share (o 6) (w 6) r l) ?_
  exact first_at _ _ _ _ _ _ r l

/-- Head `j` of a block of sixteen. -/
def headOf (B : FVec Ideal S1x16x512x64 .f32) (j : Fin 16) : FVec Ideal S1x1x512x64 .f32 :=
  View.ld (Val := Elt Ideal) (e' := .f32) B (Rect.unit (s := S1x16x512x64) ![0, j.val, 0, 0] S1x1x512x64.size (by
    intro a; have := j.isLt; fin_cases a <;> simp <;> omega))

/-- Its rows. -/
theorem headOf_at (B : FVec Ideal S1x16x512x64 .f32) (j : Fin 16) (r : Fin 512) (d : Fin 64) :
    headOf B j (ix4 0 0 r d) = B (ix4 0 j r d) := by
  refine congrArg B ?_
  blk_ext []
  · show j.val + 1 * 0 = j.val; omega
  · show 0 + 1 * r.val = r.val; omega
  · show 0 + 1 * d.val = d.val; omega

/-- The weights of head `j`. -/
def weightOf (B : FVec Ideal S16x64x1024 .bf16) (j : Fin 16) : FVec Ideal S1x64x1024 .bf16 :=
  View.ld (Val := Elt Ideal) (e' := .bf16) B (Rect.unit (s := S16x64x1024) ![j.val, 0, 0] S1x64x1024.size (by
    intro a; have := j.isLt; fin_cases a <;> simp <;> omega))

/-- Their rows. -/
theorem weightOf_at (B : FVec Ideal S16x64x1024 .bf16) (j : Fin 16) (d : Fin 64) (k : Fin 1024) :
    weightOf B j (ix3 0 d k) = B (ix3 j d k) := by
  refine congrArg B ?_
  blk_ext []
  · show j.val + 1 * 0 = j.val; omega
  · show 0 + 1 * d.val = d.val; omega
  · show 0 + 1 * k.val = k.val; omega

variable (m : (ℓ : Loc nD τ sig) → Buf (Elt Ideal) ℓ)

/-- The windows' block indices: point `t` is row block `t % 16` of sequence `t / 16`; the weights stay. -/
theorem idx : ∀ t : Fin cfg0.N, win0_0.index t = ![t.val / 16, 0, t.val % 16, 0] ∧ win0_1.index t = ![0, 0, 0]
    ∧ win0_2.index t = ![t.val / 16, t.val % 16, 0] ∧ win0_3.index t = ![0, 0] ∧ win0_4.index t = ![0, 0]
    ∧ win0_5.index t = ![t.val / 16, t.val % 16, 0] :=
  (by decide +kernel : ∀ t : Fin grid0.N, _)

/-- The reference's term over this program's argument arrays. -/
abbrev Out (c : Dev nD) : FVec Ideal Cert.OddOutRefIdeal.S2x8192x1024 .f32 :=
  Cert.OddOutRefIdeal.Value.Norm (Cert.OddOutRefIdeal.Value.Sum (m ((c : Thread nD τ).loc main_arg0)) (m ((c : Thread nD τ).loc main_arg1))
    (m ((c : Thread nD τ).loc main_arg2))) (m ((c : Thread nD τ).loc main_arg3)) (m ((c : Thread nD τ).loc main_arg4))

/-- The array after the run is the reference's term. -/
theorem final (c : Dev nD) : (dats m 0 c).arrAt 5 (cfgs 0).N = Out m c := by
  refine (dats m 0 c).arrAt_eq_of_covers 5 _ (by decide +kernel) fun t _ y => ?_
  blk_simp
  rw [after0_5]; frame_out
  idx_vars y
  have ht : t.val < 32 := t.isLt
  obtain rfl : y0 = 0 := Subsingleton.elim _ _
  have he : ((View.whole main_v4).slice (win0_5.rect t)).emb (ix3 0 y1 y2)
      = ix3 (⟨t.val / 16, by omega⟩ : Fin 2) (⟨t.val % 16 * 512 + y1.val, by omega⟩ : Fin 8192) y2 := by blk_ext [idx t]
  rw [he]
  refine (stored_at (headOf (iblk m c 0 t)) (weightOf (iblk m c 1 t)) _ _ _ y1 y2).trans (Eq.trans ?_ (Cert.OddOutRefIdeal.Value.norm_at _ _ _ _ _ _).symm)
  have hrow : ∀ l : Fin 1024, Rows.carry (iblk m c 2 t (ix3 0 y1 l)) (∑ j, share (headOf (iblk m c 0 t) j) (weightOf (iblk m c 1 t) j) y1 l)
      = Cert.OddOutRefIdeal.Value.Sum (m ((c : Thread nD τ).loc main_arg0)) (m ((c : Thread nD τ).loc main_arg1))
        (m ((c : Thread nD τ).loc main_arg2)) (ix3 (⟨t.val / 16, by omega⟩ : Fin 2) (⟨t.val % 16 * 512 + y1.val, by omega⟩ : Fin 8192) l) := by
    intro l
    refine Eq.trans ?_ (Cert.OddOutRefIdeal.Value.sum_at _ _ _ _ _ _).symm
    refine congrArg₂ Rows.carry (by blk_point [iblk, V, idx t]) (Finset.sum_congr rfl fun j _ => Finset.sum_congr rfl fun d _ => ?_)
    rw [headOf_at, weightOf_at]
    refine congrArg₂ (· * ·) (by blk_point [iblk, V, idx t]) ?_
    blk_point [iblk, V, idx t]
  have hg : ∀ k : Fin 1024, iblk m c 3 t (ix2 0 k) = m ((c : Thread nD τ).loc main_arg3) (ix1 k) := by
    intro k
    blk_point [iblk, V, idx t]
  have hb : ∀ k : Fin 1024, iblk m c 4 t (ix2 0 k) = m ((c : Thread nD τ).loc main_arg4) (ix1 k) := by
    intro k
    blk_point [iblk, V, idx t]
  simp only [← hrow]
  exact congrArg₂ (fun g b => Rows.norm _ g b y2) (hg y2) (hb y2)

end Cert.OddOutIdeal.Value

end
-- ==== Proof.EvenOut.lean ====
/- The output projection of an even layer, over the heads of its two attentions, with its residual sum and layer norm. -/
module

public import proofs.«01_k».proof.Proof.Gen.EvenOutIdeal.Value
public import proofs.«01_k».proof.Proof.Gen.EvenOutRefIdeal.Run
public import proofs.«01_k».proof.Proof.OddOut
public import Idealize.ShloMosaic.Lib.Pipeline.ValueKit

@[expose] public section

set_option maxRecDepth 16384

noncomputable section

namespace Cert.EvenOutRefIdeal.Value

open Idealize.ShloMosaic Idealize.ShloMosaic.TcCoe Idealize.SL.Sem
open Cert.EvenOutRefIdeal Cert.EvenOutRefIdeal.Gen

/-- The reference's residual sum: the heads of both attentions side by side, times the weights. -/
def Sum (A B : FVec Ideal S2x8x8192x64 .f32) (W : FVec Ideal S1024x1024 .f32) (H : FVec Ideal S2x8192x1024 .f32) : FVec Ideal S2x8192x1024 .f32 :=
  addf (mulf (broadcastInDim S2x8192x1024 ![] bcast_S_S2x8192x1024 (constant S_ .f32 0x3FD744FD#32)) H) (Host.dotGeneral dot_S2x8192x1024_S1024x1024_S2x8192x1024_2_0_01_1_n_n none (concatenate S2x8192x1024 2 [⟨S2x8192x512, (shapeCast _ (transpose S2x8192x8x64 [0, 2, 1, 3] A transposes_S2x8x8192x64_S2x8192x8x64_0_2_1_3) shapeCasts_S2x8192x8x64_S2x8192x512)⟩, ⟨S2x8192x512, (shapeCast _ (transpose S2x8192x8x64 [0, 2, 1, 3] B transposes_S2x8x8192x64_S2x8192x8x64_0_2_1_3) shapeCasts_S2x8192x8x64_S2x8192x512)⟩] concatenates_S2x8192x512_S2x8192x512_S2x8192x1024_d2) W)

/-- Head `h` of the sixteen: the first attention's eight, then the second's. -/
def headAt (A B : FVec Ideal S2x8x8192x64 .f32) (n : Fin 2) (h : Fin 16) (r : Fin 8192) (d : Fin 64) : EReal :=
  if p : h.val < 8 then A (ix4 n ⟨h.val, p⟩ r d) else B (ix4 n ⟨h.val - 8, by omega⟩ r d)

/-- Sixteen terms are eight and eight. -/
theorem sum_eights (G : Fin 16 → EReal) :
    ∑ h, G h = ∑ h : Fin 8, G ⟨h.val, by omega⟩ + ∑ h : Fin 8, G ⟨8 + h.val, by omega⟩ :=
  Fin.sum_univ_add (a := 8) (b := 8) G

/-- A sum over 512 columns is the sum over eight heads of the sums over their 64 columns. -/
theorem sum_tiles (f : Fin 512 → EReal) : ∑ k, f k = ∑ h : Fin 8, ∑ d : Fin 64, f ⟨h.val * 64 + d.val, by omega⟩ :=
  Fin.sum_univ_tiles 8 64 rfl f

/-- Two equal heads and columns read the same. -/
theorem read_eq (A : FVec Ideal S2x8x8192x64 .f32) (n : Fin 2) (r : Fin 8192) (h h' : Fin 8) (d d' : Fin 64) (eh : h.val = h'.val) (ed : d.val = d'.val) :
    A (ix4 n h r d) = A (ix4 n h' r d') := by
  rw [Fin.ext eh, Fin.ext ed]

/-- The residual sum at row `(n, r)` and column `k`, by heads. -/
theorem sum_at (A B : FVec Ideal S2x8x8192x64 .f32) (W : FVec Ideal S1024x1024 .f32) (H : FVec Ideal S2x8192x1024 .f32)
    (n : Fin 2) (r : Fin 8192) (k : Fin 1024) :
    Sum A B W H (ix3 n r k) = Rows.carry (H (ix3 n r k))
      (∑ h : Fin 16, ∑ d : Fin 64, headAt A B n h r d * W (ix2 ⟨h.val * 64 + d.val, by omega⟩ k)) := by
  pointwise [Sum]
  refine congrArg (Rows.carry (H (ix3 n r k))) ?_
  rw [sum_eights, sum_tiles, sum_tiles]
  refine congrArg₂ (· + ·) (Finset.sum_congr rfl fun h _ => Finset.sum_congr rfl fun d _ => ?_)
    (Finset.sum_congr rfl fun h _ => Finset.sum_congr rfl fun d _ => ?_)
  · have e : headAt A B n ⟨h.val, by omega⟩ r d = A (ix4 n h r d) := dif_pos h.isLt
    rw [e]
    exact congrArg₂ (· * ·) (read_eq A n r _ _ _ _ (by show (h.val * 64 + d.val) / 64 = h.val; omega) (by show (h.val * 64 + d.val) % 64 = d.val; omega)) rfl
  · have e : headAt A B n ⟨8 + h.val, by omega⟩ r d = B (ix4 n ⟨8 + h.val - 8, by omega⟩ r d) := dif_neg (by show ¬ 8 + h.val < 8; omega)
    rw [e]
    refine congrArg₂ (· * ·) (read_eq B n r _ _ _ _ (by show (h.val * 64 + d.val) / 64 = 8 + h.val - 8; omega) (by show (h.val * 64 + d.val) % 64 = d.val; omega)) ?_
    exact congrArg (fun x => W (ix2 x k)) (Fin.ext (by show 512 + (h.val * 64 + d.val) = (8 + h.val) * 64 + d.val; omega))

end Cert.EvenOutRefIdeal.Value

namespace Cert.EvenOutIdeal.Value

open Idealize.ShloMosaic Idealize.ShloMosaic.TcCoe Idealize.SL.Sem
open Idealize.ShloMosaic.Pipeline (Dat)
open Cert.EvenOutIdeal Cert.EvenOutIdeal.Gen
open Cert.OddOutIdeal.Value (share weightOf weightOf_at)

/-- Head `j` of two blocks of eight. -/
def headOf (A B : FVec Ideal S1x8x512x64 .f32) (j : Fin 16) : FVec Ideal S1x1x512x64 .f32 :=
  if p : j.val < 8 then
    View.ld (Val := Elt Ideal) (e' := .f32) A (Rect.unit (s := S1x8x512x64) ![0, j.val, 0, 0] S1x1x512x64.size (by
      intro a; fin_cases a <;> simp <;> omega))
  else
    View.ld (Val := Elt Ideal) (e' := .f32) B (Rect.unit (s := S1x8x512x64) ![0, j.val - 8, 0, 0] S1x1x512x64.size (by
      intro a; have := j.isLt; fin_cases a <;> simp <;> omega))

/-- Its rows. -/
theorem headOf_at (A B : FVec Ideal S1x8x512x64 .f32) (j : Fin 16) (r : Fin 512) (d : Fin 64) :
    headOf A B j (ix4 0 0 r d) = if p : j.val < 8 then A (ix4 0 ⟨j.val, p⟩ r d) else B (ix4 0 ⟨j.val - 8, by omega⟩ r d) := by
  unfold headOf
  by_cases p : j.val < 8
  · rw [dif_pos p, dif_pos p]
    refine congrArg A ?_
    blk_ext []
    · show j.val + 1 * 0 = j.val; omega
    · show 0 + 1 * r.val = r.val; omega
    · show 0 + 1 * d.val = d.val; omega
  · rw [dif_neg p, dif_neg p]
    refine congrArg B ?_
    blk_ext []
    · show j.val - 8 + 1 * 0 = j.val - 8; omega
    · show 0 + 1 * r.val = r.val; omega
    · show 0 + 1 * d.val = d.val; omega

variable (m : (ℓ : Loc nD τ sig) → Buf (Elt Ideal) ℓ)

/-- The windows' block indices: point `t` is row block `t % 16` of sequence `t / 16`; the weights stay. -/
theorem idx : ∀ t : Fin cfg0.N, win0_0.index t = ![t.val / 16, 0, t.val % 16, 0] ∧ win0_1.index t = ![t.val / 16, 0, t.val % 16, 0]
    ∧ win0_2.index t = ![0, 0, 0] ∧ win0_3.index t = ![t.val / 16, t.val % 16, 0] ∧ win0_4.index t = ![0, 0] ∧ win0_5.index t = ![0, 0]
    ∧ win0_6.index t = ![t.val / 16, t.val % 16, 0] :=
  (by decide +kernel : ∀ t : Fin grid0.N, _)

/-- The reference's term over this program's argument arrays. -/
abbrev Out (c : Dev nD) : FVec Ideal Cert.OddOutRefIdeal.S2x8192x1024 .f32 :=
  Cert.OddOutRefIdeal.Value.Norm (Cert.EvenOutRefIdeal.Value.Sum (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5))

/-- The array after the run is the reference's term. -/
theorem final (c : Dev nD) : (dats m 0 c).arrAt 6 (cfgs 0).N = Out m c := by
  refine (dats m 0 c).arrAt_eq_of_covers 6 _ (by decide +kernel) fun t _ y => ?_
  blk_simp
  rw [after0_6]; frame_out
  idx_vars y
  have ht : t.val < 32 := t.isLt
  obtain rfl : y0 = 0 := Subsingleton.elim _ _
  have he : ((View.whole main_v4).slice (win0_6.rect t)).emb (ix3 0 y1 y2)
      = ix3 (⟨t.val / 16, by omega⟩ : Fin 2) (⟨t.val % 16 * 512 + y1.val, by omega⟩ : Fin 8192) y2 := by blk_ext [idx t]
  rw [he]
  refine (Cert.OddOutIdeal.Value.stored_at (headOf (iblk m c 0 t) (iblk m c 1 t)) (weightOf (iblk m c 2 t)) _ _ _ y1 y2).trans
    (Eq.trans ?_ (Cert.OddOutRefIdeal.Value.norm_at _ _ _ _ _ _).symm)
  have hrow : ∀ l : Fin 1024, Rows.carry (iblk m c 3 t (ix3 0 y1 l)) (∑ j, share (headOf (iblk m c 0 t) (iblk m c 1 t) j) (weightOf (iblk m c 2 t) j) y1 l)
      = Cert.EvenOutRefIdeal.Value.Sum (m ((c : Thread nD τ).loc main_arg0)) (m ((c : Thread nD τ).loc main_arg1))
        (m ((c : Thread nD τ).loc main_arg2)) (m ((c : Thread nD τ).loc main_arg3)) (ix3 (⟨t.val / 16, by omega⟩ : Fin 2) (⟨t.val % 16 * 512 + y1.val, by omega⟩ : Fin 8192) l) := by
    intro l
    refine Eq.trans ?_ (Cert.EvenOutRefIdeal.Value.sum_at _ _ _ _ _ _ _).symm
    refine congrArg₂ Rows.carry (by blk_point [iblk, V, idx t]) (Finset.sum_congr rfl fun j _ => Finset.sum_congr rfl fun d _ => ?_)
    rw [headOf_at, weightOf_at]
    refine congrArg₂ (· * ·) ?_ (by blk_point [iblk, V, idx t])
    by_cases p : j.val < 8
    · simp only [Cert.EvenOutRefIdeal.Value.headAt, dif_pos p]
      blk_point [iblk, V, idx t]
    · simp only [Cert.EvenOutRefIdeal.Value.headAt, dif_neg p]
      blk_point [iblk, V, idx t]
  have hg : ∀ k : Fin 1024, iblk m c 4 t (ix2 0 k) = m ((c : Thread nD τ).loc main_arg4) (ix1 k) := by
    intro k
    blk_point [iblk, V, idx t]
  have hb : ∀ k : Fin 1024, iblk m c 5 t (ix2 0 k) = m ((c : Thread nD τ).loc main_arg5) (ix1 k) := by
    intro k
    blk_point [iblk, V, idx t]
  simp only [← hrow]
  exact congrArg₂ (fun g b => Rows.norm _ g b y2) (hg y2) (hb y2)

end Cert.EvenOutIdeal.Value

end
-- ==== Proof.SwaRow.lean ====
/- One query's softmax with a sink over a window of keys: two tiles of logits less a shift, against all the keys. -/
module

public import Idealize.ShloMosaic.PureOps.Ideal
public import Idealize.ShloMosaic.Lib.Pointwise

@[expose] public section

set_option maxRecDepth 16384

noncomputable section

namespace Cert.Row

open Idealize.ShloMosaic

/-- Softmax of the logits `L` with the sink `s` among them, then the weighted sum of the values `v`. -/
def full (L : Fin 8192 → EReal) (s : EReal) (v : Fin 8192 → EReal) : EReal :=
  ∑ j, Ideal.div (Ideal.exp (L j - max (Finset.univ.sup L) s))
    (∑ k, Ideal.exp (L k - max (Finset.univ.sup L) s) + Ideal.exp (s - max (Finset.univ.sup L) s)) * v j

/-- The same over two tiles of keys, divided once at the end, less the shift `M`. -/
def tilesAt (M : EReal) (p o : Fin 128 → EReal) (s : EReal) (vp vo : Fin 128 → EReal) : EReal :=
  Ideal.div (∑ c, Ideal.exp (p c - M) * vp c + ∑ c, Ideal.exp (o c - M) * vo c)
    (∑ c, Ideal.exp (p c - M) + ∑ c, Ideal.exp (o c - M) + Ideal.exp (s - M))

/-- The shift is the largest of the two tiles and the sink. -/
def tiles (p o : Fin 128 → EReal) (s : EReal) (vp vo : Fin 128 → EReal) : EReal :=
  tilesAt (max (max (Finset.univ.sup p) (Finset.univ.sup o)) s) p o s vp vo

/-- The largest of a row with one more entry behind it. -/
theorem sup_last (L : Fin 8192 → EReal) (s : EReal) :
    (Finset.univ.sup fun k : Fin 8193 => if hk : k.val < 8192 then L ⟨k.val, hk⟩ else s) = max (Finset.univ.sup L) s := by
  refine le_antisymm (Finset.sup_le fun k _ => ?_) (max_le (Finset.sup_le fun j _ => ?_) ?_)
  · split
    · exact le_trans (Finset.le_sup (f := L) (Finset.mem_univ _)) (le_max_left _ _)
    · exact le_max_right _ _
  · have h := Finset.le_sup (f := fun k : Fin 8193 => if hk : k.val < 8192 then L ⟨k.val, hk⟩ else s) (Finset.mem_univ (j.castSucc))
    have e : (if hk : (j.castSucc : Fin 8193).val < 8192 then L ⟨(j.castSucc : Fin 8193).val, hk⟩ else s) = L j := dif_pos j.isLt
    exact e ▸ h
  · have h := Finset.le_sup (f := fun k : Fin 8193 => if hk : k.val < 8192 then L ⟨k.val, hk⟩ else s) (Finset.mem_univ (Fin.last 8192))
    have e : (if hk : (Fin.last 8192).val < 8192 then L ⟨(Fin.last 8192).val, hk⟩ else s) = s := dif_neg (lt_irrefl 8192)
    exact e ▸ h

/-- The row with the sink as its last entry. -/
theorem full_of_last (L : Fin 8192 → EReal) (s : EReal) (v : Fin 8192 → EReal) :
    ∑ x : Fin 8192, Ideal.div (Ideal.exp ((if hk : x.val < 8192 then L ⟨x.val, hk⟩ else s)
        - Finset.univ.sup fun k : Fin 8193 => if hk : k.val < 8192 then L ⟨k.val, hk⟩ else s))
      (∑ y : Fin 8193, Ideal.exp ((if hk : y.val < 8192 then L ⟨y.val, hk⟩ else s)
        - Finset.univ.sup fun k : Fin 8193 => if hk : k.val < 8192 then L ⟨k.val, hk⟩ else s)) * v x = full L s v := by
  rw [sup_last]
  unfold full
  generalize max (Finset.univ.sup L) s = M
  have hsum : ∑ y : Fin 8193, Ideal.exp ((if hk : y.val < 8192 then L ⟨y.val, hk⟩ else s) - M)
      = ∑ k, Ideal.exp (L k - M) + Ideal.exp (s - M) := by
    rw [Fin.sum_univ_castSucc]
    refine congrArg₂ (· + ·) (Finset.sum_congr rfl fun k _ => ?_) ?_
    · exact congrArg (fun x => Ideal.exp (x - M)) (dif_pos k.isLt)
    · exact congrArg (fun x => Ideal.exp (x - M)) (dif_neg (lt_irrefl 8192))
  rw [hsum]
  refine Finset.sum_congr rfl fun x _ => ?_
  rw [dif_pos x.isLt]

/-- A constant that is neither negative nor infinite comes out of a sum of extended reals. -/
theorem mul_sum {ι : Type} (S : Finset ι) (c : EReal) (h0 : 0 ≤ c) (h1 : c ≠ ⊤) (F : ι → EReal) :
    c * ∑ j ∈ S, F j = ∑ j ∈ S, c * F j := by
  classical
  induction S using Finset.induction_on with
  | empty => simp
  | insert a S ha ih =>
    rw [Finset.sum_insert ha, Finset.sum_insert ha, EReal.left_distrib_of_nonneg_of_ne_top h0 h1, ih]

/-- A finite sum of reals is the same sum of extended reals. -/
theorem coe_sum {ι : Type} [Fintype ι] (e : ι → ℝ) : ∑ j, (e j : EReal) = ((∑ j, e j : ℝ) : EReal) :=
  (map_sum (⟨⟨Real.toEReal, EReal.coe_zero⟩, EReal.coe_add⟩ : ℝ →+ EReal) e Finset.univ).symm

/-- A sum over all the keys is the sum over the tiles that hold any. -/
theorem sum_window (i : Fin 64) (F : Fin 8192 → EReal) (hF : ∀ j : Fin 8192, j.val / 128 ≠ i.val → j.val / 128 + 1 ≠ i.val → F j = 0) :
    ∑ j, F j = (∑ c : Fin 128, if h : 1 ≤ i.val then F ⟨(i.val - 1) * 128 + c.val, by omega⟩ else 0)
      + ∑ c : Fin 128, F ⟨i.val * 128 + c.val, by omega⟩ := by
  rw [Fin.sum_univ_tiles 64 128 rfl F]
  by_cases hi : 1 ≤ i.val
  · simp only [hi, dite_true]
    rw [Finset.sum_eq_add (⟨i.val - 1, by omega⟩ : Fin 64) i (fun e => by have := congrArg Fin.val e; simp at this; omega)
      (fun n _ hn => ?_) (fun h => absurd (Finset.mem_univ _) h) (fun h => absurd (Finset.mem_univ _) h)]
    refine Finset.sum_eq_zero fun c _ => hF _ ?_ ?_
    · have h1 := hn.2
      have : n.val ≠ i.val := fun e => h1 (Fin.ext e)
      show (n.val * 128 + c.val) / 128 ≠ i.val
      omega
    · have h1 := hn.1
      have : n.val ≠ i.val - 1 := fun e => h1 (Fin.ext e)
      show (n.val * 128 + c.val) / 128 + 1 ≠ i.val
      omega
  · simp only [hi, dite_false, Finset.sum_const_zero, zero_add]
    rw [Finset.sum_eq_single i (fun n _ hn => ?_) (fun h => absurd (Finset.mem_univ _) h)]
    refine Finset.sum_eq_zero fun c _ => hF _ ?_ ?_
    · have : n.val ≠ i.val := fun e => hn (Fin.ext e)
      show (n.val * 128 + c.val) / 128 ≠ i.val
      omega
    · show (n.val * 128 + c.val) / 128 + 1 ≠ i.val
      omega

/-- The exponential of a logit does not see a shift taken from the logit and from the largest alike. -/
theorem exp_shift (x : EReal) (hx : x = ⊥ ∨ ∃ r : ℝ, x = r) (M f : ℝ) :
    Ideal.exp (x - (f : EReal) - ((M : EReal) - (f : EReal))) = Ideal.exp (x - (M : EReal)) := by
  rcases hx with rfl | ⟨r, rfl⟩
  · simp [EReal.bot_sub]
  · have : (r : EReal) - f - ((M : EReal) - f) = ((r - f - (M - f) : ℝ) : EReal) := by norm_cast
    have h2 : (r : EReal) - M = ((r - M : ℝ) : EReal) := by norm_cast
    rw [this, h2]
    congr 2
    ring

/-- A key that is not read has the exponential zero. -/
theorem exp_masked (M : EReal) : Ideal.exp (⊥ - M) = 0 := by rw [EReal.bot_sub, Ideal.exp_bot]

/-- Such an exponential is a real number, not negative. -/
theorem exp_real (x : EReal) (hx : x = ⊥ ∨ ∃ r : ℝ, x = r) (M : ℝ) : ∃ e : ℝ, 0 ≤ e ∧ Ideal.exp (x - (M : EReal)) = e := by
  rcases hx with rfl | ⟨r, rfl⟩
  · exact ⟨0, le_refl _, by simp [EReal.bot_sub]⟩
  · refine ⟨Real.exp (r - M), (Real.exp_pos _).le, ?_⟩
    have h2 : (r : EReal) - M = ((r - M : ℝ) : EReal) := by norm_cast
    rw [h2, Ideal.exp_coe]

variable (i : Fin 64) (f s : ℝ) (L v : Fin 8192 → EReal) (p o vp vo : Fin 128 → EReal)
  (hL : ∀ j, L j = ⊥ ∨ ∃ r : ℝ, L j = r)
  (hoff : ∀ j : Fin 8192, j.val / 128 ≠ i.val → j.val / 128 + 1 ≠ i.val → L j = ⊥)
  (ho : ∀ c : Fin 128, o c = L ⟨i.val * 128 + c.val, by omega⟩ - (f : EReal))
  (hp : ∀ c : Fin 128, p c = if h : 1 ≤ i.val then L ⟨(i.val - 1) * 128 + c.val, by omega⟩ - (f : EReal) else ⊥)

include hL in
/-- The largest of the logits and the sink is a real number. -/
theorem max_real : ∃ M : ℝ, max (Finset.univ.sup L) (s : EReal) = M := by
  have h1 : max (Finset.univ.sup L) (s : EReal) ≠ ⊤ := by
    refine ne_of_lt (max_lt ?_ (EReal.coe_lt_top s))
    refine (Finset.sup_lt_iff (by exact bot_lt_top)).2 fun j _ => ?_
    rcases hL j with h | ⟨r, h⟩ <;> rw [h]
    · exact bot_lt_top
    · exact EReal.coe_lt_top r
  have h2 : max (Finset.univ.sup L) (s : EReal) ≠ ⊥ :=
    ne_of_gt (lt_of_lt_of_le (EReal.bot_lt_coe s) (le_max_right _ _))
  exact ⟨_, (EReal.coe_toReal h1 h2).symm⟩

include hL hoff ho hp in
/-- The tiles' shift is the row's largest less `f`. -/
theorem max_tiles : max (max (Finset.univ.sup p) (Finset.univ.sup o)) ((s : EReal) - (f : EReal))
    = max (Finset.univ.sup L) (s : EReal) - (f : EReal) := by
  have hb : (f : EReal) ≠ ⊥ := EReal.coe_ne_bot f
  have ht : (f : EReal) ≠ ⊤ := EReal.coe_ne_top f
  refine le_antisymm (max_le (max_le ?_ ?_) ?_) ?_
  · refine Finset.sup_le fun c _ => ?_
    rw [hp]
    split
    · exact EReal.sub_le_sub (le_trans (Finset.le_sup (Finset.mem_univ _)) (le_max_left _ _)) le_rfl
    · exact bot_le
  · refine Finset.sup_le fun c _ => ?_
    rw [ho]
    exact EReal.sub_le_sub (le_trans (Finset.le_sup (Finset.mem_univ _)) (le_max_left _ _)) le_rfl
  · exact EReal.sub_le_sub (le_max_right _ _) le_rfl
  · rw [EReal.sub_le_iff_le_add (Or.inl hb) (Or.inl ht)]
    refine max_le (Finset.sup_le fun j _ => ?_) ?_
    · by_cases h1 : j.val / 128 = i.val
      · have e := ho ⟨j.val % 128, by omega⟩
        have ej : (⟨i.val * 128 + j.val % 128, by omega⟩ : Fin 8192) = j := Fin.ext (by show i.val * 128 + j.val % 128 = j.val; omega)
        simp only [ej] at e
        rw [← EReal.sub_le_iff_le_add (Or.inl hb) (Or.inl ht), ← e]
        exact le_trans (le_trans (Finset.le_sup (Finset.mem_univ _)) (le_max_right _ _)) (le_max_left _ _)
      · by_cases h2 : j.val / 128 + 1 = i.val
        · have e := hp ⟨j.val % 128, by omega⟩
          have ej : (⟨(i.val - 1) * 128 + j.val % 128, by omega⟩ : Fin 8192) = j := Fin.ext (by show (i.val - 1) * 128 + j.val % 128 = j.val; omega)
          rw [dif_pos (by omega)] at e
          simp only [ej] at e
          rw [← EReal.sub_le_iff_le_add (Or.inl hb) (Or.inl ht), ← e]
          exact le_trans (le_trans (Finset.le_sup (Finset.mem_univ _)) (le_max_left _ _)) (le_max_left _ _)
        · rw [hoff j h1 h2]; exact bot_le
    · rw [← EReal.sub_le_iff_le_add (Or.inl hb) (Or.inl ht)]
      exact le_max_right _ _

include hL hoff ho hp in
/-- The two tiles, shifted, give what all the keys give. -/
theorem tiles_eq (hvo : ∀ c : Fin 128, vo c = v ⟨i.val * 128 + c.val, by omega⟩)
    (hvp : ∀ h : 1 ≤ i.val, ∀ c : Fin 128, vp c = v ⟨(i.val - 1) * 128 + c.val, by omega⟩) :
    tiles p o ((s : EReal) - (f : EReal)) vp vo = full L s v := by
  obtain ⟨M, hM⟩ := max_real s L hL
  have hT := max_tiles i f s L p o hL hoff ho hp
  choose e he0 he using fun j => exp_real (L j) (hL j) M
  obtain ⟨es, hes0, hes⟩ := exp_real (s : EReal) (Or.inr ⟨s, rfl⟩) M
  have hsp : (0 : ℝ) < es := by
    have h2 : (s : EReal) - M = ((s - M : ℝ) : EReal) := by norm_cast
    rw [h2, Ideal.exp_coe, EReal.coe_eq_coe_iff] at hes
    rw [← hes]; exact Real.exp_pos _
  have hez : ∀ j : Fin 8192, j.val / 128 ≠ i.val → j.val / 128 + 1 ≠ i.val → (e j : EReal) = 0 := by
    intro j h1 h2
    rw [← he j, hoff j h1 h2, exp_masked]
  have ho' : ∀ c : Fin 128, Ideal.exp (o c - ((M : EReal) - (f : EReal))) = e ⟨i.val * 128 + c.val, by omega⟩ := by
    intro c
    rw [ho c, exp_shift _ (hL _) M f, he]
  have hp' : ∀ c : Fin 128, Ideal.exp (p c - ((M : EReal) - (f : EReal)))
      = if h : 1 ≤ i.val then (e ⟨(i.val - 1) * 128 + c.val, by omega⟩ : EReal) else 0 := by
    intro c
    rw [hp c]
    split
    · rw [exp_shift _ (hL _) M f, he]
    · exact exp_masked _
  have hs' : Ideal.exp ((s : EReal) - (f : EReal) - ((M : EReal) - (f : EReal))) = es := by
    rw [exp_shift _ (Or.inr ⟨s, rfl⟩) M f, hes]
  have hnum : (∑ c, Ideal.exp (p c - ((M : EReal) - (f : EReal))) * vp c + ∑ c, Ideal.exp (o c - ((M : EReal) - (f : EReal))) * vo c)
      = ∑ j, (e j : EReal) * v j := by
    rw [sum_window i (fun j => (e j : EReal) * v j) (fun j h1 h2 => by simp only [hez j h1 h2, zero_mul])]
    refine congrArg₂ (· + ·) (Finset.sum_congr rfl fun c _ => ?_) (Finset.sum_congr rfl fun c _ => ?_)
    · rw [hp' c]
      split
      · rename_i h; rw [hvp h c]
      · rw [zero_mul]
    · rw [ho' c, hvo c]
  have hden : (∑ c, Ideal.exp (p c - ((M : EReal) - (f : EReal))) + ∑ c, Ideal.exp (o c - ((M : EReal) - (f : EReal))))
      = ∑ j, (e j : EReal) := by
    rw [sum_window i (fun j => (e j : EReal)) hez]
    refine congrArg₂ (· + ·) (Finset.sum_congr rfl fun c _ => ?_) (Finset.sum_congr rfl fun c _ => ?_)
    · rw [hp' c]
    · rw [ho' c]
  have hD : (∑ j, (e j : EReal)) + (es : EReal) = ((∑ j, e j + es : ℝ) : EReal) := by
    rw [EReal.coe_add, coe_sum]
  have hpos : (0 : ℝ) < ∑ j, e j + es := add_pos_of_nonneg_of_pos (Finset.sum_nonneg fun j _ => he0 j) hsp
  unfold tiles full
  rw [hT, hM]
  unfold tilesAt
  rw [hnum, hden, hs', hes]
  simp only [he]
  rw [hD]
  obtain ⟨D, hDe⟩ : ∃ D : ℝ, D = ∑ j, e j + es := ⟨_, rfl⟩
  rw [← hDe] at hpos ⊢
  rw [Ideal.div_coe hpos.ne', mul_comm, mul_sum _ _ (by exact_mod_cast (one_div_pos.2 hpos).le) (EReal.coe_ne_top _)]
  refine Finset.sum_congr rfl fun j _ => ?_
  rw [Ideal.div_coe hpos.ne']
  rw [← mul_assoc, mul_comm ((1 / D : ℝ) : EReal) (e j : EReal)]

end Cert.Row
-- ==== Proof.SwaKernel.lean ====
/- What the attention kernel stores at a grid point, read at an index. -/
module

public import proofs.«01_k».proof.Proof.Gen.SwaIdeal.Value
public import proofs.«01_k».proof.Proof.SwaRow
public import Idealize.ShloMosaic.Lib.Pipeline.ValueKit

@[expose] public section

set_option maxRecDepth 16384

noncomputable section

namespace Cert.SwaIdeal.Value

open Idealize.ShloMosaic Idealize.ShloMosaic.TcCoe Idealize.SL.Sem
open Idealize.ShloMosaic.Pipeline (Dat)
open Cert.SwaIdeal Cert.SwaIdeal.Gen

/-- The first key head's queries, head upon head, scaled. -/
theorem query0_at (q : FVec Ideal S1x128x1024 .f32) (h : Fin 8) (a : Fin 128) (x : Fin 64) :
    k0_pay3 (F := Ideal) q (ix2 (⟨h.val * 128 + a.val, by omega⟩ : Fin 1024) x)
      = q (ix3 0 a ⟨h.val * 64 + x.val, by omega⟩) * Ideal.ofBits .f32 0x3E000000#32 := by
  pointwise [k0_pay3, k0_pay1]
  blk_point []

/-- The second key head's queries, head upon head, scaled. -/
theorem query1_at (q : FVec Ideal S1x128x1024 .f32) (h : Fin 8) (a : Fin 128) (x : Fin 64) :
    k0_pay21 (F := Ideal) (k0_pay1 q) (ix2 (⟨h.val * 128 + a.val, by omega⟩ : Fin 1024) x)
      = q (ix3 0 a ⟨512 + h.val * 64 + x.val, by omega⟩) * Ideal.ofBits .f32 0x3E000000#32 := by
  pointwise [k0_pay21, k0_pay1]
  blk_point []

/-- Small words compare as the numbers they hold. -/
theorem word_le (n k : Nat) (hn : n < 2147483648) (hk : k < 2147483648) :
    (BitVec.ofNat 32 n).sle (BitVec.ofNat 32 k) = decide (n ≤ k) := by
  have e : ∀ n : Nat, n < 2147483648 → (BitVec.ofNat 32 n).toInt = n := by
    intro n hn
    rw [BitVec.toInt_eq_toNat_bmod, BitVec.toNat_ofNat, Int.bmod_def]
    split <;> omega
  rw [BitVec.sle_eq_decide, e n hn, e k hk]
  congr 1
  exact propext ⟨fun h => by omega, fun h => by omega⟩

/-- Small words compare strictly as the numbers they hold. -/
theorem word_lt (n k : Nat) (hn : n < 2147483648) (hk : k < 2147483648) :
    (BitVec.ofNat 32 n).slt (BitVec.ofNat 32 k) = decide (n < k) := by
  have e : ∀ n : Nat, n < 2147483648 → (BitVec.ofNat 32 n).toInt = n := by
    intro n hn
    rw [BitVec.toInt_eq_toNat_bmod, BitVec.toNat_ofNat, Int.bmod_def]
    split <;> omega
  rw [BitVec.slt_eq_decide, e n hn, e k hk]
  congr 1
  exact propext ⟨fun h => by omega, fun h => by omega⟩

/-- Which keys of the tile before are read: none at the first tile, else those past the query's row. -/
theorem prevMask_at (i : grid0.Coords) (a j : Fin 128) :
    k0_pay2 i (ix2 a j) = if 1 ≤ (i 1).val ∧ a.val < j.val then 1#1 else 0#1 := by
  have hi : (i 1).val < 64 := (i 1).isLt
  have c0 : IntOp.cmpi CmpIPredicate.sge (BitVec.ofNat 32 (i 1).val) 1#32 = BitVec.ofBool (decide (1 ≤ (i 1).val)) :=
    congrArg BitVec.ofBool (word_le 1 (i 1).val (by omega) (by omega))
  have c1 : IntOp.cmpi CmpIPredicate.sgt (BitVec.ofNat 32 j.val) (BitVec.ofNat 32 a.val) = BitVec.ofBool (decide (a.val < j.val)) :=
    congrArg BitVec.ofBool (word_lt a.val j.val (by omega) (by omega))
  have e : k0_pay2 i (ix2 a j) = IntOp.andi (IntOp.cmpi CmpIPredicate.sge (BitVec.ofNat 32 (i 1).val) 1#32)
      (IntOp.cmpi CmpIPredicate.sgt (BitVec.ofNat 32 j.val) (BitVec.ofNat 32 a.val)) := by
    pointwise [k0_pay2]
    rfl
  rw [e, c0, c1]
  by_cases h0 : 1 ≤ (i 1).val <;> by_cases h1 : a.val < j.val <;> simp only [h0, h1, decide_true, decide_false, and_self, and_true, true_and, and_false, false_and, if_true, if_false] <;> rfl

/-- Which keys of the query's own tile are read: those up to its row. -/
theorem ownMask_at (a j : Fin 128) : k0_pay4 (ix2 a j) = if j.val ≤ a.val then 1#1 else 0#1 := by
  have c1 : IntOp.cmpi CmpIPredicate.sle (BitVec.ofNat 32 j.val) (BitVec.ofNat 32 a.val) = BitVec.ofBool (decide (j.val ≤ a.val)) :=
    congrArg BitVec.ofBool (word_le j.val a.val (by omega) (by omega))
  have e : k0_pay4 (ix2 a j) = IntOp.cmpi CmpIPredicate.sle (BitVec.ofNat 32 j.val) (BitVec.ofNat 32 a.val) := by
    pointwise [k0_pay4]
  rw [e, c1]
  by_cases h1 : j.val ≤ a.val <;> simp only [h1, decide_true, decide_false, if_true, if_false] <;> rfl

/-- The mask's named value. -/
theorem mask_eq : (Named.named κ "mask" 0xF149F2CA#32 : Ideal .f32) = ⊥ :=
  IdealRules.named_const.ideal_named_scalar _ _ _ _ rfl

/-- A masked choice. -/
theorem select_if {α : Type} (p : Prop) [Decidable p] (x y : α) : Scalar.select (if p then 1#1 else 0#1) x y = if p then x else y := by
  split <;> rfl

/-- A logit of the first key head against a key of the tile before. -/
theorem prev0_at (i : grid0.Coords) (q : FVec Ideal S1x128x1024 .f32) (k : FVec Ideal S1x128x64 .f32) (b : FVec Ideal S8x128x128 .f32) (h : Fin 8) (a j : Fin 128) :
    k0_pay7 (F := Ideal) (k0_pay2 i) (k0_pay6 q k b) (ix2 (⟨h.val * 128 + a.val, by omega⟩ : Fin 1024) j)
      = if 1 ≤ (i 1).val ∧ a.val < j.val then
          (∑ x : Fin 64, q (ix3 0 a ⟨h.val * 64 + x.val, by omega⟩) * Ideal.ofBits .f32 0x3E000000#32 * k (ix3 0 j x)) + b (ix3 h a j) else ⊥ := by
  pointwise [k0_pay7, k0_pay6]
  simp only [query0_at, prevMask_at, mask_eq, select_if]

/-- A logit of the second key head against a key of the tile before. -/
theorem prev1_at (i : grid0.Coords) (q : FVec Ideal S1x128x1024 .f32) (k : FVec Ideal S1x128x64 .f32) (b : FVec Ideal S8x128x128 .f32) (h : Fin 8) (a j : Fin 128) :
    k0_pay24 (F := Ideal) (k0_pay1 q) (k0_pay2 i) k b (ix2 (⟨h.val * 128 + a.val, by omega⟩ : Fin 1024) j)
      = if 1 ≤ (i 1).val ∧ a.val < j.val then
          (∑ x : Fin 64, q (ix3 0 a ⟨512 + h.val * 64 + x.val, by omega⟩) * Ideal.ofBits .f32 0x3E000000#32 * k (ix3 0 j x)) + b (ix3 h a j) else ⊥ := by
  pointwise [k0_pay24]
  simp only [query1_at, prevMask_at, mask_eq, select_if]

/-- A logit of the first key head against a key of the query's own tile. -/
theorem own0_at (q : FVec Ideal S1x128x1024 .f32) (k : FVec Ideal S1x128x64 .f32) (b : FVec Ideal S8x128x128 .f32) (h : Fin 8) (a j : Fin 128) :
    k0_pay9 (F := Ideal) (k0_pay3 q) k0_pay4 k b (ix2 (⟨h.val * 128 + a.val, by omega⟩ : Fin 1024) j)
      = if j.val ≤ a.val then
          (∑ x : Fin 64, q (ix3 0 a ⟨h.val * 64 + x.val, by omega⟩) * Ideal.ofBits .f32 0x3E000000#32 * k (ix3 0 j x)) + b (ix3 h a j) else ⊥ := by
  pointwise [k0_pay9]
  simp only [query0_at, ownMask_at, mask_eq, select_if]

/-- A logit of the second key head against a key of the query's own tile. -/
theorem own1_at (q : FVec Ideal S1x128x1024 .f32) (k : FVec Ideal S1x128x64 .f32) (b : FVec Ideal S8x128x128 .f32) (h : Fin 8) (a j : Fin 128) :
    k0_pay27 (F := Ideal) (k0_pay21 (k0_pay1 q)) (k0_pay22 (iota .tc S128x128 32 [0] iota_S128x128_d0_w32) (iota .tc S128x128 32 [1] iota_S128x128_d1_w32)) (k0_pay25 k) b
        (ix2 (⟨h.val * 128 + a.val, by omega⟩ : Fin 1024) j)
      = if j.val ≤ a.val then
          (∑ x : Fin 64, q (ix3 0 a ⟨512 + h.val * 64 + x.val, by omega⟩) * Ideal.ofBits .f32 0x3E000000#32 * k (ix3 0 j x)) + b (ix3 h a j) else ⊥ := by
  have e : k0_pay22 (iota .tc S128x128 32 [0] iota_S128x128_d0_w32) (iota .tc S128x128 32 [1] iota_S128x128_d1_w32) = k0_pay4 := rfl
  rw [e]
  pointwise [k0_pay27, k0_pay25]
  simp only [query1_at, ownMask_at, mask_eq, select_if]

/-- A group's stored block from its logits, sinks and values. -/
theorem out_at (vo vp : FVec Ideal S1x128x64 .f32) (P O : FVec Ideal S1024x128 .f32) (s0 s1 s2 : FVec Ideal S128x1 .f32) (s3 s4 s5 s6 s7 : FVec Ideal S1x1x1 .f32) (h : Fin 8) (a : Fin 128) (d : Fin 64) :
    k0_pay20 (F := Ideal) (k0_pay8 vo) (k0_pay17 P O s0 s1 s2 s3 s4 s5 s6 s7) (k0_pay18 (k0_pay5 vp) P O s0 s1 s2 s3 s4 s5 s6 s7) (k0_pay19 P O s0 s1 s2 s3 s4 s5 s6 s7) (ix4 0 h a d)
      = Row.tiles (fun j => P (ix2 (⟨h.val * 128 + a.val, by omega⟩ : Fin 1024) j)) (fun j => O (ix2 (⟨h.val * 128 + a.val, by omega⟩ : Fin 1024) j))
          (k0_pay13 s0 s1 s2 s3 s4 s5 s6 s7 (ix2 (⟨h.val * 128 + a.val, by omega⟩ : Fin 1024) 0)) (fun j => vp (ix3 0 j d)) (fun j => vo (ix3 0 j d)) := by
  have hb : Ideal.ofBits .f32 0xFF800000#32 = ⊥ := by simp [Ideal.ofBits, Ideal.ieee]
  pointwise [k0_pay20, k0_pay17, k0_pay18, k0_pay19, k0_pay15, k0_pay16, k0_pay14, k0_pay5, k0_pay8]
  rw [hb]
  rfl

/-- The second group's block is computed as the first's. -/
theorem group1_eq (vp : FVec Ideal S1x128x64 .f32) (P : FVec Ideal S1024x128 .f32) (vo : FVec Ideal S1x128x64 .f32) (O : FVec Ideal S1024x128 .f32) (s0 s1 s2 s3 s4 s5 s6 s7 : FVec Ideal S1x1x1 .f32) :
    k0_pay33 (F := Ideal) (k0_pay23 vp) P (k0_pay26 vo) O (k0_pay28 s0) (k0_pay29 s1) (k0_pay30 s2) (k0_pay31 s3) (k0_pay32 s4) s5 s6 s7
      = k0_pay20 (F := Ideal) (k0_pay8 vo) (k0_pay17 P O (k0_pay10 s0) (k0_pay11 s1) (k0_pay12 s2) s3 s4 s5 s6 s7)
          (k0_pay18 (k0_pay5 vp) P O (k0_pay10 s0) (k0_pay11 s1) (k0_pay12 s2) s3 s4 s5 s6 s7) (k0_pay19 P O (k0_pay10 s0) (k0_pay11 s1) (k0_pay12 s2) s3 s4 s5 s6 s7) := rfl

/-- The sinks of eight heads, one below the other, each for a tile's rows. -/
theorem sink_at (s : Fin 8 → EReal) (h : Fin 8) (a : Fin 128) (s0 s1 s2 s3 s4 s5 s6 s7 : FVec Ideal S1x1x1 .f32)
    (h0 : s0 (ix3 0 0 0) = s 0) (h1 : s1 (ix3 0 0 0) = s 1) (h2 : s2 (ix3 0 0 0) = s 2) (h3 : s3 (ix3 0 0 0) = s 3) (h4 : s4 (ix3 0 0 0) = s 4) (h5 : s5 (ix3 0 0 0) = s 5) (h6 : s6 (ix3 0 0 0) = s 6) (h7 : s7 (ix3 0 0 0) = s 7) :
    k0_pay13 (F := Ideal) (k0_pay10 s0) (k0_pay11 s1) (k0_pay12 s2) s3 s4 s5 s6 s7 (ix2 (⟨h.val * 128 + a.val, by omega⟩ : Fin 1024) 0) = s h := by
  pointwise [k0_pay13, k0_pay10, k0_pay11, k0_pay12]
  rw [h0, h1, h2, h3, h4, h5, h6, h7]
  have ha := a.isLt
  obtain ⟨h, hh⟩ := h
  interval_cases h <;> simp (disch := omega) only [dif_pos, dif_neg] <;> rfl

end Cert.SwaIdeal.Value
-- ==== Proof.Lit.lean ====
/- The band's table of distances, which the host holds as a literal, in closed form. -/
module

public import proofs.«01_k».proof.SwaIdeal

@[expose] public section

set_option maxRecDepth 16384

noncomputable section

namespace Cert.SwaIdeal.Value

/-- Entry `r` of the table's run `k` of 128 entries: row minus key plus 128, held between 0 and 255. -/
abbrev dist (k r : Nat) : BitVec 32 := BitVec.ofNat 32 (min (k / 2 + 128 - (128 * (k % 2) + r)) 255)

/-- A choice among 128 values of one function is the function. -/
theorem pick (g : Nat → BitVec 32) (n : Nat) : n < 128 → (match n with
  | 0 => g 0 | 1 => g 1 | 2 => g 2 | 3 => g 3 | 4 => g 4 | 5 => g 5 | 6 => g 6 | 7 => g 7 | 8 => g 8 | 9 => g 9 | 10 => g 10 | 11 => g 11 | 12 => g 12 | 13 => g 13 | 14 => g 14 | 15 => g 15 | 16 => g 16 | 17 => g 17 | 18 => g 18 | 19 => g 19 | 20 => g 20 | 21 => g 21 | 22 => g 22 | 23 => g 23 | 24 => g 24 | 25 => g 25 | 26 => g 26 | 27 => g 27 | 28 => g 28 | 29 => g 29 | 30 => g 30 | 31 => g 31 | 32 => g 32 | 33 => g 33 | 34 => g 34 | 35 => g 35 | 36 => g 36 | 37 => g 37 | 38 => g 38 | 39 => g 39 | 40 => g 40 | 41 => g 41 | 42 => g 42 | 43 => g 43 | 44 => g 44 | 45 => g 45 | 46 => g 46 | 47 => g 47 | 48 => g 48 | 49 => g 49 | 50 => g 50 | 51 => g 51 | 52 => g 52 | 53 => g 53 | 54 => g 54 | 55 => g 55 | 56 => g 56 | 57 => g 57 | 58 => g 58 | 59 => g 59 | 60 => g 60 | 61 => g 61 | 62 => g 62 | 63 => g 63 | 64 => g 64 | 65 => g 65 | 66 => g 66 | 67 => g 67 | 68 => g 68 | 69 => g 69 | 70 => g 70 | 71 => g 71 | 72 => g 72 | 73 => g 73 | 74 => g 74 | 75 => g 75 | 76 => g 76 | 77 => g 77 | 78 => g 78 | 79 => g 79 | 80 => g 80 | 81 => g 81 | 82 => g 82 | 83 => g 83 | 84 => g 84 | 85 => g 85 | 86 => g 86 | 87 => g 87 | 88 => g 88 | 89 => g 89 | 90 => g 90 | 91 => g 91 | 92 => g 92 | 93 => g 93 | 94 => g 94 | 95 => g 95 | 96 => g 96 | 97 => g 97 | 98 => g 98 | 99 => g 99 | 100 => g 100 | 101 => g 101 | 102 => g 102 | 103 => g 103 | 104 => g 104 | 105 => g 105 | 106 => g 106 | 107 => g 107 | 108 => g 108 | 109 => g 109 | 110 => g 110 | 111 => g 111 | 112 => g 112 | 113 => g 113 | 114 => g 114 | 115 => g 115 | 116 => g 116 | 117 => g 117 | 118 => g 118 | 119 => g 119 | 120 => g 120 | 121 => g 121 | 122 => g 122 | 123 => g 123 | 124 => g 124 | 125 => g 125 | 126 => g 126 | 127 => g 127 | _ => 0#32) = g n := by
  intro h
  interval_cases n <;> rfl

/-- A choice among 128 values, each of which is a function's, is the function. -/
theorem pick_of (g : Nat → BitVec 32) (n : Nat) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 x84 x85 x86 x87 x88 x89 x90 x91 x92 x93 x94 x95 x96 x97 x98 x99 x100 x101 x102 x103 x104 x105 x106 x107 x108 x109 x110 x111 x112 x113 x114 x115 x116 x117 x118 x119 x120 x121 x122 x123 x124 x125 x126 x127 : BitVec 32) : n < 128 → x0 = g 0 → x1 = g 1 → x2 = g 2 → x3 = g 3 → x4 = g 4 → x5 = g 5 → x6 = g 6 → x7 = g 7 → x8 = g 8 → x9 = g 9 → x10 = g 10 → x11 = g 11 → x12 = g 12 → x13 = g 13 → x14 = g 14 → x15 = g 15 → x16 = g 16 → x17 = g 17 → x18 = g 18 → x19 = g 19 → x20 = g 20 → x21 = g 21 → x22 = g 22 → x23 = g 23 → x24 = g 24 → x25 = g 25 → x26 = g 26 → x27 = g 27 → x28 = g 28 → x29 = g 29 → x30 = g 30 → x31 = g 31 → x32 = g 32 → x33 = g 33 → x34 = g 34 → x35 = g 35 → x36 = g 36 → x37 = g 37 → x38 = g 38 → x39 = g 39 → x40 = g 40 → x41 = g 41 → x42 = g 42 → x43 = g 43 → x44 = g 44 → x45 = g 45 → x46 = g 46 → x47 = g 47 → x48 = g 48 → x49 = g 49 → x50 = g 50 → x51 = g 51 → x52 = g 52 → x53 = g 53 → x54 = g 54 → x55 = g 55 → x56 = g 56 → x57 = g 57 → x58 = g 58 → x59 = g 59 → x60 = g 60 → x61 = g 61 → x62 = g 62 → x63 = g 63 → x64 = g 64 → x65 = g 65 → x66 = g 66 → x67 = g 67 → x68 = g 68 → x69 = g 69 → x70 = g 70 → x71 = g 71 → x72 = g 72 → x73 = g 73 → x74 = g 74 → x75 = g 75 → x76 = g 76 → x77 = g 77 → x78 = g 78 → x79 = g 79 → x80 = g 80 → x81 = g 81 → x82 = g 82 → x83 = g 83 → x84 = g 84 → x85 = g 85 → x86 = g 86 → x87 = g 87 → x88 = g 88 → x89 = g 89 → x90 = g 90 → x91 = g 91 → x92 = g 92 → x93 = g 93 → x94 = g 94 → x95 = g 95 → x96 = g 96 → x97 = g 97 → x98 = g 98 → x99 = g 99 → x100 = g 100 → x101 = g 101 → x102 = g 102 → x103 = g 103 → x104 = g 104 → x105 = g 105 → x106 = g 106 → x107 = g 107 → x108 = g 108 → x109 = g 109 → x110 = g 110 → x111 = g 111 → x112 = g 112 → x113 = g 113 → x114 = g 114 → x115 = g 115 → x116 = g 116 → x117 = g 117 → x118 = g 118 → x119 = g 119 → x120 = g 120 → x121 = g 121 → x122 = g 122 → x123 = g 123 → x124 = g 124 → x125 = g 125 → x126 = g 126 → x127 = g 127 → (match n with
  | 0 => x0 | 1 => x1 | 2 => x2 | 3 => x3 | 4 => x4 | 5 => x5 | 6 => x6 | 7 => x7 | 8 => x8 | 9 => x9 | 10 => x10 | 11 => x11 | 12 => x12 | 13 => x13 | 14 => x14 | 15 => x15 | 16 => x16 | 17 => x17 | 18 => x18 | 19 => x19 | 20 => x20 | 21 => x21 | 22 => x22 | 23 => x23 | 24 => x24 | 25 => x25 | 26 => x26 | 27 => x27 | 28 => x28 | 29 => x29 | 30 => x30 | 31 => x31 | 32 => x32 | 33 => x33 | 34 => x34 | 35 => x35 | 36 => x36 | 37 => x37 | 38 => x38 | 39 => x39 | 40 => x40 | 41 => x41 | 42 => x42 | 43 => x43 | 44 => x44 | 45 => x45 | 46 => x46 | 47 => x47 | 48 => x48 | 49 => x49 | 50 => x50 | 51 => x51 | 52 => x52 | 53 => x53 | 54 => x54 | 55 => x55 | 56 => x56 | 57 => x57 | 58 => x58 | 59 => x59 | 60 => x60 | 61 => x61 | 62 => x62 | 63 => x63 | 64 => x64 | 65 => x65 | 66 => x66 | 67 => x67 | 68 => x68 | 69 => x69 | 70 => x70 | 71 => x71 | 72 => x72 | 73 => x73 | 74 => x74 | 75 => x75 | 76 => x76 | 77 => x77 | 78 => x78 | 79 => x79 | 80 => x80 | 81 => x81 | 82 => x82 | 83 => x83 | 84 => x84 | 85 => x85 | 86 => x86 | 87 => x87 | 88 => x88 | 89 => x89 | 90 => x90 | 91 => x91 | 92 => x92 | 93 => x93 | 94 => x94 | 95 => x95 | 96 => x96 | 97 => x97 | 98 => x98 | 99 => x99 | 100 => x100 | 101 => x101 | 102 => x102 | 103 => x103 | 104 => x104 | 105 => x105 | 106 => x106 | 107 => x107 | 108 => x108 | 109 => x109 | 110 => x110 | 111 => x111 | 112 => x112 | 113 => x113 | 114 => x114 | 115 => x115 | 116 => x116 | 117 => x117 | 118 => x118 | 119 => x119 | 120 => x120 | 121 => x121 | 122 => x122 | 123 => x123 | 124 => x124 | 125 => x125 | 126 => x126 | 127 => x127 | _ => 0#32) = g n := by
  intro h
  intros
  interval_cases n <;> assumption

/-- Run 0 of the table. -/
theorem run_0 (i : Nat) : lit0t0_0 i = dist 0 (i % 128) := pick (dist 0) (i % 128) (Nat.mod_lt i (by decide))

/-- Run 1 of the table. -/
theorem run_1 (i : Nat) : lit0t0_1 i = dist 1 (i % 128) := pick (dist 1) (i % 128) (Nat.mod_lt i (by decide))

/-- Run 2 of the table. -/
theorem run_2 (i : Nat) : lit0t0_2 i = dist 2 (i % 128) := pick (dist 2) (i % 128) (Nat.mod_lt i (by decide))

/-- Run 3 of the table. -/
theorem run_3 (i : Nat) : lit0t0_3 i = dist 3 (i % 128) := pick (dist 3) (i % 128) (Nat.mod_lt i (by decide))

/-- Run 4 of the table. -/
theorem run_4 (i : Nat) : lit0t0_4 i = dist 4 (i % 128) := pick (dist 4) (i % 128) (Nat.mod_lt i (by decide))

/-- Run 5 of the table. -/
theorem run_5 (i : Nat) : lit0t0_5 i = dist 5 (i % 128) := pick (dist 5) (i % 128) (Nat.mod_lt i (by decide))

/-- Run 6 of the table. -/
theorem run_6 (i : Nat) : lit0t0_6 i = dist 6 (i % 128) := pick (dist 6) (i % 128) (Nat.mod_lt i (by decide))

/-- Run 7 of the table. -/
theorem run_7 (i : Nat) : lit0t0_7 i = dist 7 (i % 128) := pick (dist 7) (i % 128) (Nat.mod_lt i (by decide))

/-- Run 8 of the table. -/
theorem run_8 (i : Nat) : lit0t0_8 i = dist 8 (i % 128) := pick (dist 8) (i % 128) (Nat.mod_lt i (by decide))

/-- Run 9 of the table. -/
theorem run_9 (i : Nat) : lit0t0_9 i = dist 9 (i % 128) := pick (dist 9) (i % 128) (Nat.mod_lt i (by decide))

/-- Run 10 of the table. -/
theorem run_10 (i : Nat) : lit0t0_10 i = dist 10 (i % 128) := pick (dist 10) (i % 128) (Nat.mod_lt i (by decide))

/-- Run 11 of the table. -/
theorem run_11 (i : Nat) : lit0t0_11 i = dist 11 (i % 128) := pick (dist 11) (i % 128) (Nat.mod_lt i (by decide))

/-- Run 12 of the table. -/
theorem run_12 (i : Nat) : lit0t0_12 i = dist 12 (i % 128) := pick (dist 12) (i % 128) (Nat.mod_lt i (by decide))

/-- Run 13 of the table. -/
theorem run_13 (i : Nat) : lit0t0_13 i = dist 13 (i % 128) := pick (dist 13) (i % 128) (Nat.mod_lt i (by decide))

/-- Run 14 of the table. -/
theorem run_14 (i : Nat) : lit0t0_14 i = dist 14 (i % 128) := pick (dist 14) (i % 128) (Nat.mod_lt i (by decide))

/-- Run 15 of the table. -/
theorem run_15 (i : Nat) : lit0t0_15 i = dist 15 (i % 128) := pick (dist 15) (i % 128) (Nat.mod_lt i (by decide))

/-- Run 16 of the table. -/
theorem run_16 (i : Nat) : lit0t0_16 i = dist 16 (i % 128) := pick (dist 16) (i % 128) (Nat.mod_lt i (by decide))

/-- Run 17 of the table. -/
theorem run_17 (i : Nat) : lit0t0_17 i = dist 17 (i % 128) := pick (dist 17) (i % 128) (Nat.mod_lt i (by decide))

/-- Run 18 of the table. -/
theorem run_18 (i : Nat) : lit0t0_18 i = dist 18 (i % 128) := pick (dist 18) (i % 128) (Nat.mod_lt i (by decide))

/-- Run 19 of the table. -/
theorem run_19 (i : Nat) : lit0t0_19 i = dist 19 (i % 128) := pick (dist 19) (i % 128) (Nat.mod_lt i (by decide))

/-- Run 20 of the table. -/
theorem run_20 (i : Nat) : lit0t0_20 i = dist 20 (i % 128) := pick (dist 20) (i % 128) (Nat.mod_lt i (by decide))

/-- Run 21 of the table. -/
theorem run_21 (i : Nat) : lit0t0_21 i = dist 21 (i % 128) := pick (dist 21) (i % 128) (Nat.mod_lt i (by decide))

/-- Run 22 of the table. -/
theorem run_22 (i : Nat) : lit0t0_22 i = dist 22 (i % 128) := pick (dist 22) (i % 128) (Nat.mod_lt i (by decide))

/-- Run 23 of the table. -/
theorem run_23 (i : Nat) : lit0t0_23 i = dist 23 (i % 128) := pick (dist 23) (i % 128) (Nat.mod_lt i (by decide))

/-- Run 24 of the table. -/
theorem run_24 (i : Nat) : lit0t0_24 i = dist 24 (i % 128) := pick (dist 24) (i % 128) (Nat.mod_lt i (by decide))

/-- Run 25 of the table. -/
theorem run_25 (i : Nat) : lit0t0_25 i = dist 25 (i % 128) := pick (dist 25) (i % 128) (Nat.mod_lt i (by decide))

/-- Run 26 of the table. -/
theorem run_26 (i : Nat) : lit0t0_26 i = dist 26 (i % 128) := pick (dist 26) (i % 128) (Nat.mod_lt i (by decide))

/-- Run 27 of the table. -/
theorem run_27 (i : Nat) : lit0t0_27 i = dist 27 (i % 128) := pick (dist 27) (i % 128) (Nat.mod_lt i (by decide))

/-- Run 28 of the table. -/
theorem run_28 (i : Nat) : lit0t0_28 i = dist 28 (i % 128) := pick (dist 28) (i % 128) (Nat.mod_lt i (by decide))

/-- Run 29 of the table. -/
theorem run_29 (i : Nat) : lit0t0_29 i = dist 29 (i % 128) := pick (dist 29) (i % 128) (Nat.mod_lt i (by decide))

/-- Run 30 of the table. -/
theorem run_30 (i : Nat) : lit0t0_30 i = dist 30 (i % 128) := pick (dist 30) (i % 128) (Nat.mod_lt i (by decide))

/-- Run 31 of the table. -/
theorem run_31 (i : Nat) : lit0t0_31 i = dist 31 (i % 128) := pick (dist 31) (i % 128) (Nat.mod_lt i (by decide))

/-- Run 32 of the table. -/
theorem run_32 (i : Nat) : lit0t0_32 i = dist 32 (i % 128) := pick (dist 32) (i % 128) (Nat.mod_lt i (by decide))

/-- Run 33 of the table. -/
theorem run_33 (i : Nat) : lit0t0_33 i = dist 33 (i % 128) := pick (dist 33) (i % 128) (Nat.mod_lt i (by decide))

/-- Run 34 of the table. -/
theorem run_34 (i : Nat) : lit0t0_34 i = dist 34 (i % 128) := pick (dist 34) (i % 128) (Nat.mod_lt i (by decide))

/-- Run 35 of the table. -/
theorem run_35 (i : Nat) : lit0t0_35 i = dist 35 (i % 128) := pick (dist 35) (i % 128) (Nat.mod_lt i (by decide))

/-- Run 36 of the table. -/
theorem run_36 (i : Nat) : lit0t0_36 i = dist 36 (i % 128) := pick (dist 36) (i % 128) (Nat.mod_lt i (by decide))

/-- Run 37 of the table. -/
theorem run_37 (i : Nat) : lit0t0_37 i = dist 37 (i % 128) := pick (dist 37) (i % 128) (Nat.mod_lt i (by decide))

/-- Run 38 of the table. -/
theorem run_38 (i : Nat) : lit0t0_38 i = dist 38 (i % 128) := pick (dist 38) (i % 128) (Nat.mod_lt i (by decide))

/-- Run 39 of the table. -/
theorem run_39 (i : Nat) : lit0t0_39 i = dist 39 (i % 128) := pick (dist 39) (i % 128) (Nat.mod_lt i (by decide))

/-- Run 40 of the table. -/
theorem run_40 (i : Nat) : lit0t0_40 i = dist 40 (i % 128) := pick (dist 40) (i % 128) (Nat.mod_lt i (by decide))

/-- Run 41 of the table. -/
theorem run_41 (i : Nat) : lit0t0_41 i = dist 41 (i % 128) := pick (dist 41) (i % 128) (Nat.mod_lt i (by decide))

/-- Run 42 of the table. -/
theorem run_42 (i : Nat) : lit0t0_42 i = dist 42 (i % 128) := pick (dist 42) (i % 128) (Nat.mod_lt i (by decide))

/-- Run 43 of the table. -/
theorem run_43 (i : Nat) : lit0t0_43 i = dist 43 (i % 128) := pick (dist 43) (i % 128) (Nat.mod_lt i (by decide))

/-- Run 44 of the table. -/
theorem run_44 (i : Nat) : lit0t0_44 i = dist 44 (i % 128) := pick (dist 44) (i % 128) (Nat.mod_lt i (by decide))

/-- Run 45 of the table. -/
theorem run_45 (i : Nat) : lit0t0_45 i = dist 45 (i % 128) := pick (dist 45) (i % 128) (Nat.mod_lt i (by decide))

/-- Run 46 of the table. -/
theorem run_46 (i : Nat) : lit0t0_46 i = dist 46 (i % 128) := pick (dist 46) (i % 128) (Nat.mod_lt i (by decide))

/-- Run 47 of the table. -/
theorem run_47 (i : Nat) : lit0t0_47 i = dist 47 (i % 128) := pick (dist 47) (i % 128) (Nat.mod_lt i (by decide))

/-- Run 48 of the table. -/
theorem run_48 (i : Nat) : lit0t0_48 i = dist 48 (i % 128) := pick (dist 48) (i % 128) (Nat.mod_lt i (by decide))

/-- Run 49 of the table. -/
theorem run_49 (i : Nat) : lit0t0_49 i = dist 49 (i % 128) := pick (dist 49) (i % 128) (Nat.mod_lt i (by decide))

/-- Run 50 of the table. -/
theorem run_50 (i : Nat) : lit0t0_50 i = dist 50 (i % 128) := pick (dist 50) (i % 128) (Nat.mod_lt i (by decide))

/-- Run 51 of the table. -/
theorem run_51 (i : Nat) : lit0t0_51 i = dist 51 (i % 128) := pick (dist 51) (i % 128) (Nat.mod_lt i (by decide))

/-- Run 52 of the table. -/
theorem run_52 (i : Nat) : lit0t0_52 i = dist 52 (i % 128) := pick (dist 52) (i % 128) (Nat.mod_lt i (by decide))

/-- Run 53 of the table. -/
theorem run_53 (i : Nat) : lit0t0_53 i = dist 53 (i % 128) := pick (dist 53) (i % 128) (Nat.mod_lt i (by decide))

/-- Run 54 of the table. -/
theorem run_54 (i : Nat) : lit0t0_54 i = dist 54 (i % 128) := pick (dist 54) (i % 128) (Nat.mod_lt i (by decide))

/-- Run 55 of the table. -/
theorem run_55 (i : Nat) : lit0t0_55 i = dist 55 (i % 128) := pick (dist 55) (i % 128) (Nat.mod_lt i (by decide))

/-- Run 56 of the table. -/
theorem run_56 (i : Nat) : lit0t0_56 i = dist 56 (i % 128) := pick (dist 56) (i % 128) (Nat.mod_lt i (by decide))

/-- Run 57 of the table. -/
theorem run_57 (i : Nat) : lit0t0_57 i = dist 57 (i % 128) := pick (dist 57) (i % 128) (Nat.mod_lt i (by decide))

/-- Run 58 of the table. -/
theorem run_58 (i : Nat) : lit0t0_58 i = dist 58 (i % 128) := pick (dist 58) (i % 128) (Nat.mod_lt i (by decide))

/-- Run 59 of the table. -/
theorem run_59 (i : Nat) : lit0t0_59 i = dist 59 (i % 128) := pick (dist 59) (i % 128) (Nat.mod_lt i (by decide))

/-- Run 60 of the table. -/
theorem run_60 (i : Nat) : lit0t0_60 i = dist 60 (i % 128) := pick (dist 60) (i % 128) (Nat.mod_lt i (by decide))

/-- Run 61 of the table. -/
theorem run_61 (i : Nat) : lit0t0_61 i = dist 61 (i % 128) := pick (dist 61) (i % 128) (Nat.mod_lt i (by decide))

/-- Run 62 of the table. -/
theorem run_62 (i : Nat) : lit0t0_62 i = dist 62 (i % 128) := pick (dist 62) (i % 128) (Nat.mod_lt i (by decide))

/-- Run 63 of the table. -/
theorem run_63 (i : Nat) : lit0t0_63 i = dist 63 (i % 128) := pick (dist 63) (i % 128) (Nat.mod_lt i (by decide))

/-- Run 64 of the table. -/
theorem run_64 (i : Nat) : lit0t0_64 i = dist 64 (i % 128) := pick (dist 64) (i % 128) (Nat.mod_lt i (by decide))

/-- Run 65 of the table. -/
theorem run_65 (i : Nat) : lit0t0_65 i = dist 65 (i % 128) := pick (dist 65) (i % 128) (Nat.mod_lt i (by decide))

/-- Run 66 of the table. -/
theorem run_66 (i : Nat) : lit0t0_66 i = dist 66 (i % 128) := pick (dist 66) (i % 128) (Nat.mod_lt i (by decide))

/-- Run 67 of the table. -/
theorem run_67 (i : Nat) : lit0t0_67 i = dist 67 (i % 128) := pick (dist 67) (i % 128) (Nat.mod_lt i (by decide))

/-- Run 68 of the table. -/
theorem run_68 (i : Nat) : lit0t0_68 i = dist 68 (i % 128) := pick (dist 68) (i % 128) (Nat.mod_lt i (by decide))

/-- Run 69 of the table. -/
theorem run_69 (i : Nat) : lit0t0_69 i = dist 69 (i % 128) := pick (dist 69) (i % 128) (Nat.mod_lt i (by decide))

/-- Run 70 of the table. -/
theorem run_70 (i : Nat) : lit0t0_70 i = dist 70 (i % 128) := pick (dist 70) (i % 128) (Nat.mod_lt i (by decide))

/-- Run 71 of the table. -/
theorem run_71 (i : Nat) : lit0t0_71 i = dist 71 (i % 128) := pick (dist 71) (i % 128) (Nat.mod_lt i (by decide))

/-- Run 72 of the table. -/
theorem run_72 (i : Nat) : lit0t0_72 i = dist 72 (i % 128) := pick (dist 72) (i % 128) (Nat.mod_lt i (by decide))

/-- Run 73 of the table. -/
theorem run_73 (i : Nat) : lit0t0_73 i = dist 73 (i % 128) := pick (dist 73) (i % 128) (Nat.mod_lt i (by decide))

/-- Run 74 of the table. -/
theorem run_74 (i : Nat) : lit0t0_74 i = dist 74 (i % 128) := pick (dist 74) (i % 128) (Nat.mod_lt i (by decide))

/-- Run 75 of the table. -/
theorem run_75 (i : Nat) : lit0t0_75 i = dist 75 (i % 128) := pick (dist 75) (i % 128) (Nat.mod_lt i (by decide))

/-- Run 76 of the table. -/
theorem run_76 (i : Nat) : lit0t0_76 i = dist 76 (i % 128) := pick (dist 76) (i % 128) (Nat.mod_lt i (by decide))

/-- Run 77 of the table. -/
theorem run_77 (i : Nat) : lit0t0_77 i = dist 77 (i % 128) := pick (dist 77) (i % 128) (Nat.mod_lt i (by decide))

/-- Run 78 of the table. -/
theorem run_78 (i : Nat) : lit0t0_78 i = dist 78 (i % 128) := pick (dist 78) (i % 128) (Nat.mod_lt i (by decide))

/-- Run 79 of the table. -/
theorem run_79 (i : Nat) : lit0t0_79 i = dist 79 (i % 128) := pick (dist 79) (i % 128) (Nat.mod_lt i (by decide))

/-- Run 80 of the table. -/
theorem run_80 (i : Nat) : lit0t0_80 i = dist 80 (i % 128) := pick (dist 80) (i % 128) (Nat.mod_lt i (by decide))

/-- Run 81 of the table. -/
theorem run_81 (i : Nat) : lit0t0_81 i = dist 81 (i % 128) := pick (dist 81) (i % 128) (Nat.mod_lt i (by decide))

/-- Run 82 of the table. -/
theorem run_82 (i : Nat) : lit0t0_82 i = dist 82 (i % 128) := pick (dist 82) (i % 128) (Nat.mod_lt i (by decide))

/-- Run 83 of the table. -/
theorem run_83 (i : Nat) : lit0t0_83 i = dist 83 (i % 128) := pick (dist 83) (i % 128) (Nat.mod_lt i (by decide))

/-- Run 84 of the table. -/
theorem run_84 (i : Nat) : lit0t0_84 i = dist 84 (i % 128) := pick (dist 84) (i % 128) (Nat.mod_lt i (by decide))

/-- Run 85 of the table. -/
theorem run_85 (i : Nat) : lit0t0_85 i = dist 85 (i % 128) := pick (dist 85) (i % 128) (Nat.mod_lt i (by decide))

/-- Run 86 of the table. -/
theorem run_86 (i : Nat) : lit0t0_86 i = dist 86 (i % 128) := pick (dist 86) (i % 128) (Nat.mod_lt i (by decide))

/-- Run 87 of the table. -/
theorem run_87 (i : Nat) : lit0t0_87 i = dist 87 (i % 128) := pick (dist 87) (i % 128) (Nat.mod_lt i (by decide))

/-- Run 88 of the table. -/
theorem run_88 (i : Nat) : lit0t0_88 i = dist 88 (i % 128) := pick (dist 88) (i % 128) (Nat.mod_lt i (by decide))

/-- Run 89 of the table. -/
theorem run_89 (i : Nat) : lit0t0_89 i = dist 89 (i % 128) := pick (dist 89) (i % 128) (Nat.mod_lt i (by decide))

/-- Run 90 of the table. -/
theorem run_90 (i : Nat) : lit0t0_90 i = dist 90 (i % 128) := pick (dist 90) (i % 128) (Nat.mod_lt i (by decide))

/-- Run 91 of the table. -/
theorem run_91 (i : Nat) : lit0t0_91 i = dist 91 (i % 128) := pick (dist 91) (i % 128) (Nat.mod_lt i (by decide))

/-- Run 92 of the table. -/
theorem run_92 (i : Nat) : lit0t0_92 i = dist 92 (i % 128) := pick (dist 92) (i % 128) (Nat.mod_lt i (by decide))

/-- Run 93 of the table. -/
theorem run_93 (i : Nat) : lit0t0_93 i = dist 93 (i % 128) := pick (dist 93) (i % 128) (Nat.mod_lt i (by decide))

/-- Run 94 of the table. -/
theorem run_94 (i : Nat) : lit0t0_94 i = dist 94 (i % 128) := pick (dist 94) (i % 128) (Nat.mod_lt i (by decide))

/-- Run 95 of the table. -/
theorem run_95 (i : Nat) : lit0t0_95 i = dist 95 (i % 128) := pick (dist 95) (i % 128) (Nat.mod_lt i (by decide))

/-- Run 96 of the table. -/
theorem run_96 (i : Nat) : lit0t0_96 i = dist 96 (i % 128) := pick (dist 96) (i % 128) (Nat.mod_lt i (by decide))

/-- Run 97 of the table. -/
theorem run_97 (i : Nat) : lit0t0_97 i = dist 97 (i % 128) := pick (dist 97) (i % 128) (Nat.mod_lt i (by decide))

/-- Run 98 of the table. -/
theorem run_98 (i : Nat) : lit0t0_98 i = dist 98 (i % 128) := pick (dist 98) (i % 128) (Nat.mod_lt i (by decide))

/-- Run 99 of the table. -/
theorem run_99 (i : Nat) : lit0t0_99 i = dist 99 (i % 128) := pick (dist 99) (i % 128) (Nat.mod_lt i (by decide))

/-- Run 100 of the table. -/
theorem run_100 (i : Nat) : lit0t0_100 i = dist 100 (i % 128) := pick (dist 100) (i % 128) (Nat.mod_lt i (by decide))

/-- Run 101 of the table. -/
theorem run_101 (i : Nat) : lit0t0_101 i = dist 101 (i % 128) := pick (dist 101) (i % 128) (Nat.mod_lt i (by decide))

/-- Run 102 of the table. -/
theorem run_102 (i : Nat) : lit0t0_102 i = dist 102 (i % 128) := pick (dist 102) (i % 128) (Nat.mod_lt i (by decide))

/-- Run 103 of the table. -/
theorem run_103 (i : Nat) : lit0t0_103 i = dist 103 (i % 128) := pick (dist 103) (i % 128) (Nat.mod_lt i (by decide))

/-- Run 104 of the table. -/
theorem run_104 (i : Nat) : lit0t0_104 i = dist 104 (i % 128) := pick (dist 104) (i % 128) (Nat.mod_lt i (by decide))

/-- Run 105 of the table. -/
theorem run_105 (i : Nat) : lit0t0_105 i = dist 105 (i % 128) := pick (dist 105) (i % 128) (Nat.mod_lt i (by decide))

/-- Run 106 of the table. -/
theorem run_106 (i : Nat) : lit0t0_106 i = dist 106 (i % 128) := pick (dist 106) (i % 128) (Nat.mod_lt i (by decide))

/-- Run 107 of the table. -/
theorem run_107 (i : Nat) : lit0t0_107 i = dist 107 (i % 128) := pick (dist 107) (i % 128) (Nat.mod_lt i (by decide))

/-- Run 108 of the table. -/
theorem run_108 (i : Nat) : lit0t0_108 i = dist 108 (i % 128) := pick (dist 108) (i % 128) (Nat.mod_lt i (by decide))

/-- Run 109 of the table. -/
theorem run_109 (i : Nat) : lit0t0_109 i = dist 109 (i % 128) := pick (dist 109) (i % 128) (Nat.mod_lt i (by decide))

/-- Run 110 of the table. -/
theorem run_110 (i : Nat) : lit0t0_110 i = dist 110 (i % 128) := pick (dist 110) (i % 128) (Nat.mod_lt i (by decide))

/-- Run 111 of the table. -/
theorem run_111 (i : Nat) : lit0t0_111 i = dist 111 (i % 128) := pick (dist 111) (i % 128) (Nat.mod_lt i (by decide))

/-- Run 112 of the table. -/
theorem run_112 (i : Nat) : lit0t0_112 i = dist 112 (i % 128) := pick (dist 112) (i % 128) (Nat.mod_lt i (by decide))

/-- Run 113 of the table. -/
theorem run_113 (i : Nat) : lit0t0_113 i = dist 113 (i % 128) := pick (dist 113) (i % 128) (Nat.mod_lt i (by decide))

/-- Run 114 of the table. -/
theorem run_114 (i : Nat) : lit0t0_114 i = dist 114 (i % 128) := pick (dist 114) (i % 128) (Nat.mod_lt i (by decide))

/-- Run 115 of the table. -/
theorem run_115 (i : Nat) : lit0t0_115 i = dist 115 (i % 128) := pick (dist 115) (i % 128) (Nat.mod_lt i (by decide))

/-- Run 116 of the table. -/
theorem run_116 (i : Nat) : lit0t0_116 i = dist 116 (i % 128) := pick (dist 116) (i % 128) (Nat.mod_lt i (by decide))

/-- Run 117 of the table. -/
theorem run_117 (i : Nat) : lit0t0_117 i = dist 117 (i % 128) := pick (dist 117) (i % 128) (Nat.mod_lt i (by decide))

/-- Run 118 of the table. -/
theorem run_118 (i : Nat) : lit0t0_118 i = dist 118 (i % 128) := pick (dist 118) (i % 128) (Nat.mod_lt i (by decide))

/-- Run 119 of the table. -/
theorem run_119 (i : Nat) : lit0t0_119 i = dist 119 (i % 128) := pick (dist 119) (i % 128) (Nat.mod_lt i (by decide))

/-- Run 120 of the table. -/
theorem run_120 (i : Nat) : lit0t0_120 i = dist 120 (i % 128) := pick (dist 120) (i % 128) (Nat.mod_lt i (by decide))

/-- Run 121 of the table. -/
theorem run_121 (i : Nat) : lit0t0_121 i = dist 121 (i % 128) := pick (dist 121) (i % 128) (Nat.mod_lt i (by decide))

/-- Run 122 of the table. -/
theorem run_122 (i : Nat) : lit0t0_122 i = dist 122 (i % 128) := pick (dist 122) (i % 128) (Nat.mod_lt i (by decide))

/-- Run 123 of the table. -/
theorem run_123 (i : Nat) : lit0t0_123 i = dist 123 (i % 128) := pick (dist 123) (i % 128) (Nat.mod_lt i (by decide))

/-- Run 124 of the table. -/
theorem run_124 (i : Nat) : lit0t0_124 i = dist 124 (i % 128) := pick (dist 124) (i % 128) (Nat.mod_lt i (by decide))

/-- Run 125 of the table. -/
theorem run_125 (i : Nat) : lit0t0_125 i = dist 125 (i % 128) := pick (dist 125) (i % 128) (Nat.mod_lt i (by decide))

/-- Run 126 of the table. -/
theorem run_126 (i : Nat) : lit0t0_126 i = dist 126 (i % 128) := pick (dist 126) (i % 128) (Nat.mod_lt i (by decide))

/-- Run 127 of the table. -/
theorem run_127 (i : Nat) : lit0t0_127 i = dist 127 (i % 128) := pick (dist 127) (i % 128) (Nat.mod_lt i (by decide))

/-- Run 128 of the table. -/
theorem run_128 (i : Nat) : lit0t0_128 i = dist 128 (i % 128) := pick (dist 128) (i % 128) (Nat.mod_lt i (by decide))

/-- Run 129 of the table. -/
theorem run_129 (i : Nat) : lit0t0_129 i = dist 129 (i % 128) := pick (dist 129) (i % 128) (Nat.mod_lt i (by decide))

/-- Run 130 of the table. -/
theorem run_130 (i : Nat) : lit0t0_130 i = dist 130 (i % 128) := pick (dist 130) (i % 128) (Nat.mod_lt i (by decide))

/-- Run 131 of the table. -/
theorem run_131 (i : Nat) : lit0t0_131 i = dist 131 (i % 128) := pick (dist 131) (i % 128) (Nat.mod_lt i (by decide))

/-- Run 132 of the table. -/
theorem run_132 (i : Nat) : lit0t0_132 i = dist 132 (i % 128) := pick (dist 132) (i % 128) (Nat.mod_lt i (by decide))

/-- Run 133 of the table. -/
theorem run_133 (i : Nat) : lit0t0_133 i = dist 133 (i % 128) := pick (dist 133) (i % 128) (Nat.mod_lt i (by decide))

/-- Run 134 of the table. -/
theorem run_134 (i : Nat) : lit0t0_134 i = dist 134 (i % 128) := pick (dist 134) (i % 128) (Nat.mod_lt i (by decide))

/-- Run 135 of the table. -/
theorem run_135 (i : Nat) : lit0t0_135 i = dist 135 (i % 128) := pick (dist 135) (i % 128) (Nat.mod_lt i (by decide))

/-- Run 136 of the table. -/
theorem run_136 (i : Nat) : lit0t0_136 i = dist 136 (i % 128) := pick (dist 136) (i % 128) (Nat.mod_lt i (by decide))

/-- Run 137 of the table. -/
theorem run_137 (i : Nat) : lit0t0_137 i = dist 137 (i % 128) := pick (dist 137) (i % 128) (Nat.mod_lt i (by decide))

/-- Run 138 of the table. -/
theorem run_138 (i : Nat) : lit0t0_138 i = dist 138 (i % 128) := pick (dist 138) (i % 128) (Nat.mod_lt i (by decide))

/-- Run 139 of the table. -/
theorem run_139 (i : Nat) : lit0t0_139 i = dist 139 (i % 128) := pick (dist 139) (i % 128) (Nat.mod_lt i (by decide))

/-- Run 140 of the table. -/
theorem run_140 (i : Nat) : lit0t0_140 i = dist 140 (i % 128) := pick (dist 140) (i % 128) (Nat.mod_lt i (by decide))

/-- Run 141 of the table. -/
theorem run_141 (i : Nat) : lit0t0_141 i = dist 141 (i % 128) := pick (dist 141) (i % 128) (Nat.mod_lt i (by decide))

/-- Run 142 of the table. -/
theorem run_142 (i : Nat) : lit0t0_142 i = dist 142 (i % 128) := pick (dist 142) (i % 128) (Nat.mod_lt i (by decide))

/-- Run 143 of the table. -/
theorem run_143 (i : Nat) : lit0t0_143 i = dist 143 (i % 128) := pick (dist 143) (i % 128) (Nat.mod_lt i (by decide))

/-- Run 144 of the table. -/
theorem run_144 (i : Nat) : lit0t0_144 i = dist 144 (i % 128) := pick (dist 144) (i % 128) (Nat.mod_lt i (by decide))

/-- Run 145 of the table. -/
theorem run_145 (i : Nat) : lit0t0_145 i = dist 145 (i % 128) := pick (dist 145) (i % 128) (Nat.mod_lt i (by decide))

/-- Run 146 of the table. -/
theorem run_146 (i : Nat) : lit0t0_146 i = dist 146 (i % 128) := pick (dist 146) (i % 128) (Nat.mod_lt i (by decide))

/-- Run 147 of the table. -/
theorem run_147 (i : Nat) : lit0t0_147 i = dist 147 (i % 128) := pick (dist 147) (i % 128) (Nat.mod_lt i (by decide))

/-- Run 148 of the table. -/
theorem run_148 (i : Nat) : lit0t0_148 i = dist 148 (i % 128) := pick (dist 148) (i % 128) (Nat.mod_lt i (by decide))

/-- Run 149 of the table. -/
theorem run_149 (i : Nat) : lit0t0_149 i = dist 149 (i % 128) := pick (dist 149) (i % 128) (Nat.mod_lt i (by decide))

/-- Run 150 of the table. -/
theorem run_150 (i : Nat) : lit0t0_150 i = dist 150 (i % 128) := pick (dist 150) (i % 128) (Nat.mod_lt i (by decide))

/-- Run 151 of the table. -/
theorem run_151 (i : Nat) : lit0t0_151 i = dist 151 (i % 128) := pick (dist 151) (i % 128) (Nat.mod_lt i (by decide))

/-- Run 152 of the table. -/
theorem run_152 (i : Nat) : lit0t0_152 i = dist 152 (i % 128) := pick (dist 152) (i % 128) (Nat.mod_lt i (by decide))

/-- Run 153 of the table. -/
theorem run_153 (i : Nat) : lit0t0_153 i = dist 153 (i % 128) := pick (dist 153) (i % 128) (Nat.mod_lt i (by decide))

/-- Run 154 of the table. -/
theorem run_154 (i : Nat) : lit0t0_154 i = dist 154 (i % 128) := pick (dist 154) (i % 128) (Nat.mod_lt i (by decide))

/-- Run 155 of the table. -/
theorem run_155 (i : Nat) : lit0t0_155 i = dist 155 (i % 128) := pick (dist 155) (i % 128) (Nat.mod_lt i (by decide))

/-- Run 156 of the table. -/
theorem run_156 (i : Nat) : lit0t0_156 i = dist 156 (i % 128) := pick (dist 156) (i % 128) (Nat.mod_lt i (by decide))

/-- Run 157 of the table. -/
theorem run_157 (i : Nat) : lit0t0_157 i = dist 157 (i % 128) := pick (dist 157) (i % 128) (Nat.mod_lt i (by decide))

/-- Run 158 of the table. -/
theorem run_158 (i : Nat) : lit0t0_158 i = dist 158 (i % 128) := pick (dist 158) (i % 128) (Nat.mod_lt i (by decide))

/-- Run 159 of the table. -/
theorem run_159 (i : Nat) : lit0t0_159 i = dist 159 (i % 128) := pick (dist 159) (i % 128) (Nat.mod_lt i (by decide))

/-- Run 160 of the table. -/
theorem run_160 (i : Nat) : lit0t0_160 i = dist 160 (i % 128) := pick (dist 160) (i % 128) (Nat.mod_lt i (by decide))

/-- Run 161 of the table. -/
theorem run_161 (i : Nat) : lit0t0_161 i = dist 161 (i % 128) := pick (dist 161) (i % 128) (Nat.mod_lt i (by decide))

/-- Run 162 of the table. -/
theorem run_162 (i : Nat) : lit0t0_162 i = dist 162 (i % 128) := pick (dist 162) (i % 128) (Nat.mod_lt i (by decide))

/-- Run 163 of the table. -/
theorem run_163 (i : Nat) : lit0t0_163 i = dist 163 (i % 128) := pick (dist 163) (i % 128) (Nat.mod_lt i (by decide))

/-- Run 164 of the table. -/
theorem run_164 (i : Nat) : lit0t0_164 i = dist 164 (i % 128) := pick (dist 164) (i % 128) (Nat.mod_lt i (by decide))

/-- Run 165 of the table. -/
theorem run_165 (i : Nat) : lit0t0_165 i = dist 165 (i % 128) := pick (dist 165) (i % 128) (Nat.mod_lt i (by decide))

/-- Run 166 of the table. -/
theorem run_166 (i : Nat) : lit0t0_166 i = dist 166 (i % 128) := pick (dist 166) (i % 128) (Nat.mod_lt i (by decide))

/-- Run 167 of the table. -/
theorem run_167 (i : Nat) : lit0t0_167 i = dist 167 (i % 128) := pick (dist 167) (i % 128) (Nat.mod_lt i (by decide))

/-- Run 168 of the table. -/
theorem run_168 (i : Nat) : lit0t0_168 i = dist 168 (i % 128) := pick (dist 168) (i % 128) (Nat.mod_lt i (by decide))

/-- Run 169 of the table. -/
theorem run_169 (i : Nat) : lit0t0_169 i = dist 169 (i % 128) := pick (dist 169) (i % 128) (Nat.mod_lt i (by decide))

/-- Run 170 of the table. -/
theorem run_170 (i : Nat) : lit0t0_170 i = dist 170 (i % 128) := pick (dist 170) (i % 128) (Nat.mod_lt i (by decide))

/-- Run 171 of the table. -/
theorem run_171 (i : Nat) : lit0t0_171 i = dist 171 (i % 128) := pick (dist 171) (i % 128) (Nat.mod_lt i (by decide))

/-- Run 172 of the table. -/
theorem run_172 (i : Nat) : lit0t0_172 i = dist 172 (i % 128) := pick (dist 172) (i % 128) (Nat.mod_lt i (by decide))

/-- Run 173 of the table. -/
theorem run_173 (i : Nat) : lit0t0_173 i = dist 173 (i % 128) := pick (dist 173) (i % 128) (Nat.mod_lt i (by decide))

/-- Run 174 of the table. -/
theorem run_174 (i : Nat) : lit0t0_174 i = dist 174 (i % 128) := pick (dist 174) (i % 128) (Nat.mod_lt i (by decide))

/-- Run 175 of the table. -/
theorem run_175 (i : Nat) : lit0t0_175 i = dist 175 (i % 128) := pick (dist 175) (i % 128) (Nat.mod_lt i (by decide))

/-- Run 176 of the table. -/
theorem run_176 (i : Nat) : lit0t0_176 i = dist 176 (i % 128) := pick (dist 176) (i % 128) (Nat.mod_lt i (by decide))

/-- Run 177 of the table. -/
theorem run_177 (i : Nat) : lit0t0_177 i = dist 177 (i % 128) := pick (dist 177) (i % 128) (Nat.mod_lt i (by decide))

/-- Run 178 of the table. -/
theorem run_178 (i : Nat) : lit0t0_178 i = dist 178 (i % 128) := pick (dist 178) (i % 128) (Nat.mod_lt i (by decide))

/-- Run 179 of the table. -/
theorem run_179 (i : Nat) : lit0t0_179 i = dist 179 (i % 128) := pick (dist 179) (i % 128) (Nat.mod_lt i (by decide))

/-- Run 180 of the table. -/
theorem run_180 (i : Nat) : lit0t0_180 i = dist 180 (i % 128) := pick (dist 180) (i % 128) (Nat.mod_lt i (by decide))

/-- Run 181 of the table. -/
theorem run_181 (i : Nat) : lit0t0_181 i = dist 181 (i % 128) := pick (dist 181) (i % 128) (Nat.mod_lt i (by decide))

/-- Run 182 of the table. -/
theorem run_182 (i : Nat) : lit0t0_182 i = dist 182 (i % 128) := pick (dist 182) (i % 128) (Nat.mod_lt i (by decide))

/-- Run 183 of the table. -/
theorem run_183 (i : Nat) : lit0t0_183 i = dist 183 (i % 128) := pick (dist 183) (i % 128) (Nat.mod_lt i (by decide))

/-- Run 184 of the table. -/
theorem run_184 (i : Nat) : lit0t0_184 i = dist 184 (i % 128) := pick (dist 184) (i % 128) (Nat.mod_lt i (by decide))

/-- Run 185 of the table. -/
theorem run_185 (i : Nat) : lit0t0_185 i = dist 185 (i % 128) := pick (dist 185) (i % 128) (Nat.mod_lt i (by decide))

/-- Run 186 of the table. -/
theorem run_186 (i : Nat) : lit0t0_186 i = dist 186 (i % 128) := pick (dist 186) (i % 128) (Nat.mod_lt i (by decide))

/-- Run 187 of the table. -/
theorem run_187 (i : Nat) : lit0t0_187 i = dist 187 (i % 128) := pick (dist 187) (i % 128) (Nat.mod_lt i (by decide))

/-- Run 188 of the table. -/
theorem run_188 (i : Nat) : lit0t0_188 i = dist 188 (i % 128) := pick (dist 188) (i % 128) (Nat.mod_lt i (by decide))

/-- Run 189 of the table. -/
theorem run_189 (i : Nat) : lit0t0_189 i = dist 189 (i % 128) := pick (dist 189) (i % 128) (Nat.mod_lt i (by decide))

/-- Run 190 of the table. -/
theorem run_190 (i : Nat) : lit0t0_190 i = dist 190 (i % 128) := pick (dist 190) (i % 128) (Nat.mod_lt i (by decide))

/-- Run 191 of the table. -/
theorem run_191 (i : Nat) : lit0t0_191 i = dist 191 (i % 128) := pick (dist 191) (i % 128) (Nat.mod_lt i (by decide))

/-- Run 192 of the table. -/
theorem run_192 (i : Nat) : lit0t0_192 i = dist 192 (i % 128) := pick (dist 192) (i % 128) (Nat.mod_lt i (by decide))

/-- Run 193 of the table. -/
theorem run_193 (i : Nat) : lit0t0_193 i = dist 193 (i % 128) := pick (dist 193) (i % 128) (Nat.mod_lt i (by decide))

/-- Run 194 of the table. -/
theorem run_194 (i : Nat) : lit0t0_194 i = dist 194 (i % 128) := pick (dist 194) (i % 128) (Nat.mod_lt i (by decide))

/-- Run 195 of the table. -/
theorem run_195 (i : Nat) : lit0t0_195 i = dist 195 (i % 128) := pick (dist 195) (i % 128) (Nat.mod_lt i (by decide))

/-- Run 196 of the table. -/
theorem run_196 (i : Nat) : lit0t0_196 i = dist 196 (i % 128) := pick (dist 196) (i % 128) (Nat.mod_lt i (by decide))

/-- Run 197 of the table. -/
theorem run_197 (i : Nat) : lit0t0_197 i = dist 197 (i % 128) := pick (dist 197) (i % 128) (Nat.mod_lt i (by decide))

/-- Run 198 of the table. -/
theorem run_198 (i : Nat) : lit0t0_198 i = dist 198 (i % 128) := pick (dist 198) (i % 128) (Nat.mod_lt i (by decide))

/-- Run 199 of the table. -/
theorem run_199 (i : Nat) : lit0t0_199 i = dist 199 (i % 128) := pick (dist 199) (i % 128) (Nat.mod_lt i (by decide))

/-- Run 200 of the table. -/
theorem run_200 (i : Nat) : lit0t0_200 i = dist 200 (i % 128) := pick (dist 200) (i % 128) (Nat.mod_lt i (by decide))

/-- Run 201 of the table. -/
theorem run_201 (i : Nat) : lit0t0_201 i = dist 201 (i % 128) := pick (dist 201) (i % 128) (Nat.mod_lt i (by decide))

/-- Run 202 of the table. -/
theorem run_202 (i : Nat) : lit0t0_202 i = dist 202 (i % 128) := pick (dist 202) (i % 128) (Nat.mod_lt i (by decide))

/-- Run 203 of the table. -/
theorem run_203 (i : Nat) : lit0t0_203 i = dist 203 (i % 128) := pick (dist 203) (i % 128) (Nat.mod_lt i (by decide))

/-- Run 204 of the table. -/
theorem run_204 (i : Nat) : lit0t0_204 i = dist 204 (i % 128) := pick (dist 204) (i % 128) (Nat.mod_lt i (by decide))

/-- Run 205 of the table. -/
theorem run_205 (i : Nat) : lit0t0_205 i = dist 205 (i % 128) := pick (dist 205) (i % 128) (Nat.mod_lt i (by decide))

/-- Run 206 of the table. -/
theorem run_206 (i : Nat) : lit0t0_206 i = dist 206 (i % 128) := pick (dist 206) (i % 128) (Nat.mod_lt i (by decide))

/-- Run 207 of the table. -/
theorem run_207 (i : Nat) : lit0t0_207 i = dist 207 (i % 128) := pick (dist 207) (i % 128) (Nat.mod_lt i (by decide))

/-- Run 208 of the table. -/
theorem run_208 (i : Nat) : lit0t0_208 i = dist 208 (i % 128) := pick (dist 208) (i % 128) (Nat.mod_lt i (by decide))

/-- Run 209 of the table. -/
theorem run_209 (i : Nat) : lit0t0_209 i = dist 209 (i % 128) := pick (dist 209) (i % 128) (Nat.mod_lt i (by decide))

/-- Run 210 of the table. -/
theorem run_210 (i : Nat) : lit0t0_210 i = dist 210 (i % 128) := pick (dist 210) (i % 128) (Nat.mod_lt i (by decide))

/-- Run 211 of the table. -/
theorem run_211 (i : Nat) : lit0t0_211 i = dist 211 (i % 128) := pick (dist 211) (i % 128) (Nat.mod_lt i (by decide))

/-- Run 212 of the table. -/
theorem run_212 (i : Nat) : lit0t0_212 i = dist 212 (i % 128) := pick (dist 212) (i % 128) (Nat.mod_lt i (by decide))

/-- Run 213 of the table. -/
theorem run_213 (i : Nat) : lit0t0_213 i = dist 213 (i % 128) := pick (dist 213) (i % 128) (Nat.mod_lt i (by decide))

/-- Run 214 of the table. -/
theorem run_214 (i : Nat) : lit0t0_214 i = dist 214 (i % 128) := pick (dist 214) (i % 128) (Nat.mod_lt i (by decide))

/-- Run 215 of the table. -/
theorem run_215 (i : Nat) : lit0t0_215 i = dist 215 (i % 128) := pick (dist 215) (i % 128) (Nat.mod_lt i (by decide))

/-- Run 216 of the table. -/
theorem run_216 (i : Nat) : lit0t0_216 i = dist 216 (i % 128) := pick (dist 216) (i % 128) (Nat.mod_lt i (by decide))

/-- Run 217 of the table. -/
theorem run_217 (i : Nat) : lit0t0_217 i = dist 217 (i % 128) := pick (dist 217) (i % 128) (Nat.mod_lt i (by decide))

/-- Run 218 of the table. -/
theorem run_218 (i : Nat) : lit0t0_218 i = dist 218 (i % 128) := pick (dist 218) (i % 128) (Nat.mod_lt i (by decide))

/-- Run 219 of the table. -/
theorem run_219 (i : Nat) : lit0t0_219 i = dist 219 (i % 128) := pick (dist 219) (i % 128) (Nat.mod_lt i (by decide))

/-- Run 220 of the table. -/
theorem run_220 (i : Nat) : lit0t0_220 i = dist 220 (i % 128) := pick (dist 220) (i % 128) (Nat.mod_lt i (by decide))

/-- Run 221 of the table. -/
theorem run_221 (i : Nat) : lit0t0_221 i = dist 221 (i % 128) := pick (dist 221) (i % 128) (Nat.mod_lt i (by decide))

/-- Run 222 of the table. -/
theorem run_222 (i : Nat) : lit0t0_222 i = dist 222 (i % 128) := pick (dist 222) (i % 128) (Nat.mod_lt i (by decide))

/-- Run 223 of the table. -/
theorem run_223 (i : Nat) : lit0t0_223 i = dist 223 (i % 128) := pick (dist 223) (i % 128) (Nat.mod_lt i (by decide))

/-- Run 224 of the table. -/
theorem run_224 (i : Nat) : lit0t0_224 i = dist 224 (i % 128) := pick (dist 224) (i % 128) (Nat.mod_lt i (by decide))

/-- Run 225 of the table. -/
theorem run_225 (i : Nat) : lit0t0_225 i = dist 225 (i % 128) := pick (dist 225) (i % 128) (Nat.mod_lt i (by decide))

/-- Run 226 of the table. -/
theorem run_226 (i : Nat) : lit0t0_226 i = dist 226 (i % 128) := pick (dist 226) (i % 128) (Nat.mod_lt i (by decide))

/-- Run 227 of the table. -/
theorem run_227 (i : Nat) : lit0t0_227 i = dist 227 (i % 128) := pick (dist 227) (i % 128) (Nat.mod_lt i (by decide))

/-- Run 228 of the table. -/
theorem run_228 (i : Nat) : lit0t0_228 i = dist 228 (i % 128) := pick (dist 228) (i % 128) (Nat.mod_lt i (by decide))

/-- Run 229 of the table. -/
theorem run_229 (i : Nat) : lit0t0_229 i = dist 229 (i % 128) := pick (dist 229) (i % 128) (Nat.mod_lt i (by decide))

/-- Run 230 of the table. -/
theorem run_230 (i : Nat) : lit0t0_230 i = dist 230 (i % 128) := pick (dist 230) (i % 128) (Nat.mod_lt i (by decide))

/-- Run 231 of the table. -/
theorem run_231 (i : Nat) : lit0t0_231 i = dist 231 (i % 128) := pick (dist 231) (i % 128) (Nat.mod_lt i (by decide))

/-- Run 232 of the table. -/
theorem run_232 (i : Nat) : lit0t0_232 i = dist 232 (i % 128) := pick (dist 232) (i % 128) (Nat.mod_lt i (by decide))

/-- Run 233 of the table. -/
theorem run_233 (i : Nat) : lit0t0_233 i = dist 233 (i % 128) := pick (dist 233) (i % 128) (Nat.mod_lt i (by decide))

/-- Run 234 of the table. -/
theorem run_234 (i : Nat) : lit0t0_234 i = dist 234 (i % 128) := pick (dist 234) (i % 128) (Nat.mod_lt i (by decide))

/-- Run 235 of the table. -/
theorem run_235 (i : Nat) : lit0t0_235 i = dist 235 (i % 128) := pick (dist 235) (i % 128) (Nat.mod_lt i (by decide))

/-- Run 236 of the table. -/
theorem run_236 (i : Nat) : lit0t0_236 i = dist 236 (i % 128) := pick (dist 236) (i % 128) (Nat.mod_lt i (by decide))

/-- Run 237 of the table. -/
theorem run_237 (i : Nat) : lit0t0_237 i = dist 237 (i % 128) := pick (dist 237) (i % 128) (Nat.mod_lt i (by decide))

/-- Run 238 of the table. -/
theorem run_238 (i : Nat) : lit0t0_238 i = dist 238 (i % 128) := pick (dist 238) (i % 128) (Nat.mod_lt i (by decide))

/-- Run 239 of the table. -/
theorem run_239 (i : Nat) : lit0t0_239 i = dist 239 (i % 128) := pick (dist 239) (i % 128) (Nat.mod_lt i (by decide))

/-- Run 240 of the table. -/
theorem run_240 (i : Nat) : lit0t0_240 i = dist 240 (i % 128) := pick (dist 240) (i % 128) (Nat.mod_lt i (by decide))

/-- Run 241 of the table. -/
theorem run_241 (i : Nat) : lit0t0_241 i = dist 241 (i % 128) := pick (dist 241) (i % 128) (Nat.mod_lt i (by decide))

/-- Run 242 of the table. -/
theorem run_242 (i : Nat) : lit0t0_242 i = dist 242 (i % 128) := pick (dist 242) (i % 128) (Nat.mod_lt i (by decide))

/-- Run 243 of the table. -/
theorem run_243 (i : Nat) : lit0t0_243 i = dist 243 (i % 128) := pick (dist 243) (i % 128) (Nat.mod_lt i (by decide))

/-- Run 244 of the table. -/
theorem run_244 (i : Nat) : lit0t0_244 i = dist 244 (i % 128) := pick (dist 244) (i % 128) (Nat.mod_lt i (by decide))

/-- Run 245 of the table. -/
theorem run_245 (i : Nat) : lit0t0_245 i = dist 245 (i % 128) := pick (dist 245) (i % 128) (Nat.mod_lt i (by decide))

/-- Run 246 of the table. -/
theorem run_246 (i : Nat) : lit0t0_246 i = dist 246 (i % 128) := pick (dist 246) (i % 128) (Nat.mod_lt i (by decide))

/-- Run 247 of the table. -/
theorem run_247 (i : Nat) : lit0t0_247 i = dist 247 (i % 128) := pick (dist 247) (i % 128) (Nat.mod_lt i (by decide))

/-- Run 248 of the table. -/
theorem run_248 (i : Nat) : lit0t0_248 i = dist 248 (i % 128) := pick (dist 248) (i % 128) (Nat.mod_lt i (by decide))

/-- Run 249 of the table. -/
theorem run_249 (i : Nat) : lit0t0_249 i = dist 249 (i % 128) := pick (dist 249) (i % 128) (Nat.mod_lt i (by decide))

/-- Run 250 of the table. -/
theorem run_250 (i : Nat) : lit0t0_250 i = dist 250 (i % 128) := pick (dist 250) (i % 128) (Nat.mod_lt i (by decide))

/-- Run 251 of the table. -/
theorem run_251 (i : Nat) : lit0t0_251 i = dist 251 (i % 128) := pick (dist 251) (i % 128) (Nat.mod_lt i (by decide))

/-- Run 252 of the table. -/
theorem run_252 (i : Nat) : lit0t0_252 i = dist 252 (i % 128) := pick (dist 252) (i % 128) (Nat.mod_lt i (by decide))

/-- Run 253 of the table. -/
theorem run_253 (i : Nat) : lit0t0_253 i = dist 253 (i % 128) := pick (dist 253) (i % 128) (Nat.mod_lt i (by decide))

/-- Run 254 of the table. -/
theorem run_254 (i : Nat) : lit0t0_254 i = dist 254 (i % 128) := pick (dist 254) (i % 128) (Nat.mod_lt i (by decide))

/-- Run 255 of the table. -/
theorem run_255 (i : Nat) : lit0t0_255 i = dist 255 (i % 128) := pick (dist 255) (i % 128) (Nat.mod_lt i (by decide))

/-- The first half of the table. -/
theorem half_0 (i : Nat) : lit0t1_0 i = dist (0 + i / 128 % 128) (i % 128) :=
  pick_of (fun k => dist (0 + k) (i % 128)) (i / 128 % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Nat.mod_lt (i / 128) (by decide))
    (run_0 i) (run_1 i) (run_2 i) (run_3 i) (run_4 i) (run_5 i) (run_6 i) (run_7 i) (run_8 i) (run_9 i) (run_10 i) (run_11 i) (run_12 i) (run_13 i) (run_14 i) (run_15 i) (run_16 i) (run_17 i) (run_18 i) (run_19 i) (run_20 i) (run_21 i) (run_22 i) (run_23 i) (run_24 i) (run_25 i) (run_26 i) (run_27 i) (run_28 i) (run_29 i) (run_30 i) (run_31 i) (run_32 i) (run_33 i) (run_34 i) (run_35 i) (run_36 i) (run_37 i) (run_38 i) (run_39 i) (run_40 i) (run_41 i) (run_42 i) (run_43 i) (run_44 i) (run_45 i) (run_46 i) (run_47 i) (run_48 i) (run_49 i) (run_50 i) (run_51 i) (run_52 i) (run_53 i) (run_54 i) (run_55 i) (run_56 i) (run_57 i) (run_58 i) (run_59 i) (run_60 i) (run_61 i) (run_62 i) (run_63 i) (run_64 i) (run_65 i) (run_66 i) (run_67 i) (run_68 i) (run_69 i) (run_70 i) (run_71 i) (run_72 i) (run_73 i) (run_74 i) (run_75 i) (run_76 i) (run_77 i) (run_78 i) (run_79 i) (run_80 i) (run_81 i) (run_82 i) (run_83 i) (run_84 i) (run_85 i) (run_86 i) (run_87 i) (run_88 i) (run_89 i) (run_90 i) (run_91 i) (run_92 i) (run_93 i) (run_94 i) (run_95 i) (run_96 i) (run_97 i) (run_98 i) (run_99 i) (run_100 i) (run_101 i) (run_102 i) (run_103 i) (run_104 i) (run_105 i) (run_106 i) (run_107 i) (run_108 i) (run_109 i) (run_110 i) (run_111 i) (run_112 i) (run_113 i) (run_114 i) (run_115 i) (run_116 i) (run_117 i) (run_118 i) (run_119 i) (run_120 i) (run_121 i) (run_122 i) (run_123 i) (run_124 i) (run_125 i) (run_126 i) (run_127 i)

/-- The second half of the table. -/
theorem half_1 (i : Nat) : lit0t1_1 i = dist (128 + i / 128 % 128) (i % 128) :=
  pick_of (fun k => dist (128 + k) (i % 128)) (i / 128 % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Nat.mod_lt (i / 128) (by decide))
    (run_128 i) (run_129 i) (run_130 i) (run_131 i) (run_132 i) (run_133 i) (run_134 i) (run_135 i) (run_136 i) (run_137 i) (run_138 i) (run_139 i) (run_140 i) (run_141 i) (run_142 i) (run_143 i) (run_144 i) (run_145 i) (run_146 i) (run_147 i) (run_148 i) (run_149 i) (run_150 i) (run_151 i) (run_152 i) (run_153 i) (run_154 i) (run_155 i) (run_156 i) (run_157 i) (run_158 i) (run_159 i) (run_160 i) (run_161 i) (run_162 i) (run_163 i) (run_164 i) (run_165 i) (run_166 i) (run_167 i) (run_168 i) (run_169 i) (run_170 i) (run_171 i) (run_172 i) (run_173 i) (run_174 i) (run_175 i) (run_176 i) (run_177 i) (run_178 i) (run_179 i) (run_180 i) (run_181 i) (run_182 i) (run_183 i) (run_184 i) (run_185 i) (run_186 i) (run_187 i) (run_188 i) (run_189 i) (run_190 i) (run_191 i) (run_192 i) (run_193 i) (run_194 i) (run_195 i) (run_196 i) (run_197 i) (run_198 i) (run_199 i) (run_200 i) (run_201 i) (run_202 i) (run_203 i) (run_204 i) (run_205 i) (run_206 i) (run_207 i) (run_208 i) (run_209 i) (run_210 i) (run_211 i) (run_212 i) (run_213 i) (run_214 i) (run_215 i) (run_216 i) (run_217 i) (run_218 i) (run_219 i) (run_220 i) (run_221 i) (run_222 i) (run_223 i) (run_224 i) (run_225 i) (run_226 i) (run_227 i) (run_228 i) (run_229 i) (run_230 i) (run_231 i) (run_232 i) (run_233 i) (run_234 i) (run_235 i) (run_236 i) (run_237 i) (run_238 i) (run_239 i) (run_240 i) (run_241 i) (run_242 i) (run_243 i) (run_244 i) (run_245 i) (run_246 i) (run_247 i) (run_248 i) (run_249 i) (run_250 i) (run_251 i) (run_252 i) (run_253 i) (run_254 i) (run_255 i)

/-- The table at row `a` and key `c` of the band. -/
theorem table_at (a : Fin 128) (c : Fin 256) :
    lit0t (a.val * 256 + c.val) = BitVec.ofNat 32 (min (a.val + 128 - c.val) 255) := by
  have ha := a.isLt
  have hc := c.isLt
  have key : ∀ i : Nat, i < 32768 → lit0t i = dist (i / 128) (i % 128) := by
    intro i hi
    rcases Nat.lt_or_ge i 16384 with h | h
    · have e : i / 16384 = 0 := by omega
      have e1 : i / 128 = 0 + i / 128 % 128 := by omega
      rw [lit0t, e, e1]
      simpa using half_0 i
    · have e : i / 16384 = 1 := by omega
      have e1 : i / 128 = 128 + i / 128 % 128 := by omega
      rw [lit0t, e, e1]
      simpa using half_1 i
  have e1 : (a.val * 256 + c.val) / 128 / 2 = a.val := by omega
  have e2 : (a.val * 256 + c.val) / 128 % 2 = c.val / 128 := by omega
  have e3 : (a.val * 256 + c.val) % 128 = c.val % 128 := by omega
  have e4 : 128 * (c.val / 128) + c.val % 128 = c.val := by omega
  rw [key _ (by omega), dist, e1, e2, e3, e4]

end Cert.SwaIdeal.Value
-- ==== Proof.Look.lean ====
/- A table's rows looked up by number, read at an index; and the bucket that a distance falls in. -/
module

public import Idealize.ShloMosaic.Lib.ValueIdxCore
public import Idealize.ShloMosaic.Lib.Pointwise

@[expose] public section

set_option maxRecDepth 16384

noncomputable section

namespace Cert.Look

open Idealize.ShloMosaic

/-- Whole rows of a table `[N, H]` at row numbers `[R, C, 1]`. -/
abbrev dims3 (N H R C : Nat) (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

/-- Whole rows of a table `[N, H]` at row numbers `[R, 1]`. -/
abbrev dims2 (N H R : Nat) (wf : GatherDims.WF ⟨2, ![N, H]⟩ ⟨2, ![R, 1]⟩ ⟨2, ![R, H]⟩ [1] [0] [] [0] [] 1 ![1, H]) :
    GatherDims ⟨2, ![N, H]⟩ ⟨2, ![R, 1]⟩ ⟨2, ![R, H]⟩ where
  offsetDims := [1]
  collapsedSliceDims := [0]
  operandBatchingDims := []
  startIndicesBatchingDims := []
  startIndexMap := [0]
  indexVectorDim := 1
  sliceSizes := ![1, H]
  wf := wf

/-- The look-up at `(r, c, h)`: column `h` of the row the number names, read signed and held within the table. -/
theorem rows3 {N H R C : Nat} (hN : 0 < N) {α : Type}
    (wf : GatherDims.WF ⟨2, ![N, H]⟩ ⟨3, ![R, C, 1]⟩ ⟨3, ![R, C, H]⟩ [2] [0] [] [0] [] 2 ![1, H])
    (x : (⟨2, ![N, H]⟩ : Shape).Idx → α) (w : IVec ⟨3, ![R, C, 1]⟩ 32) (r : Fin R) (c : Fin C) (h : Fin H) :
    Host.gather (dims3 N H R C wf) x w (ix3 r c h) = x (ix2 ⟨min (w (ix3 r c 0)).toInt.toNat (N - 1), by omega⟩ h) := by
  unfold Host.gather
  refine congrArg x (funext fun a => Fin.ext ?_)
  match a with
  | ⟨0, _⟩ =>
    show (dims3 N H R C wf).start (ix3 r c h) w 0 + (dims3 N H R C wf).batchCoord (ix3 r c h) 0
      + (dims3 N H R C wf).offCoord (ix3 r c h) 0 = min (w (ix3 r c 0)).toInt.toNat (N - 1)
    have hs : (dims3 N H R C wf).siIdx (ix3 r c h) ⟨0, Nat.one_pos⟩ = ix3 r c 0 := by
      funext b
      match b with
      | ⟨0, _⟩ => rfl
      | ⟨1, _⟩ => rfl
      | ⟨2, _⟩ => rfl
    have e1 : (dims3 N H R C wf).start (ix3 r c h) w 0
        = min (w ((dims3 N H R C wf).siIdx (ix3 r c h) ⟨0, Nat.one_pos⟩)).toInt.toNat (N - 1) := rfl
    have e2 : (dims3 N H R C wf).batchCoord (ix3 r c h) 0 = 0 := rfl
    have e3 : (dims3 N H R C wf).offCoord (ix3 r c h) 0 = 0 := rfl
    rw [e1, e2, e3, hs]; rfl
  | ⟨1, _⟩ =>
    show (dims3 N H R C wf).start (ix3 r c h) w 1 + (dims3 N H R C wf).batchCoord (ix3 r c h) 1
      + (dims3 N H R C wf).offCoord (ix3 r c h) 1 = h.val
    have e1 : (dims3 N H R C wf).start (ix3 r c h) w 1 = 0 := rfl
    have e2 : (dims3 N H R C wf).batchCoord (ix3 r c h) 1 = 0 := rfl
    have e3 : (dims3 N H R C wf).offCoord (ix3 r c h) 1 = h.val := rfl
    rw [e1, e2, e3]; omega

/-- The look-up at `(r, h)`. -/
theorem rows2 {N H R : Nat} (hN : 0 < N) {α : Type}
    (wf : GatherDims.WF ⟨2, ![N, H]⟩ ⟨2, ![R, 1]⟩ ⟨2, ![R, H]⟩ [1] [0] [] [0] [] 1 ![1, H])
    (x : (⟨2, ![N, H]⟩ : Shape).Idx → α) (w : IVec ⟨2, ![R, 1]⟩ 32) (r : Fin R) (h : Fin H) :
    Host.gather (dims2 N H R wf) x w (ix2 r h) = x (ix2 ⟨min (w (ix2 r 0)).toInt.toNat (N - 1), by omega⟩ h) := by
  unfold Host.gather
  refine congrArg x (funext fun a => Fin.ext ?_)
  match a with
  | ⟨0, _⟩ =>
    show (dims2 N H R wf).start (ix2 r h) w 0 + (dims2 N H R wf).batchCoord (ix2 r h) 0
      + (dims2 N H R wf).offCoord (ix2 r h) 0 = min (w (ix2 r 0)).toInt.toNat (N - 1)
    have hs : (dims2 N H R wf).siIdx (ix2 r h) ⟨0, Nat.one_pos⟩ = ix2 r 0 := by
      funext b
      match b with
      | ⟨0, _⟩ => rfl
      | ⟨1, _⟩ => rfl
    have e1 : (dims2 N H R wf).start (ix2 r h) w 0
        = min (w ((dims2 N H R wf).siIdx (ix2 r h) ⟨0, Nat.one_pos⟩)).toInt.toNat (N - 1) := rfl
    have e2 : (dims2 N H R wf).batchCoord (ix2 r h) 0 = 0 := rfl
    have e3 : (dims2 N H R wf).offCoord (ix2 r h) 0 = 0 := rfl
    rw [e1, e2, e3, hs]; rfl
  | ⟨1, _⟩ =>
    show (dims2 N H R wf).start (ix2 r h) w 1 + (dims2 N H R wf).batchCoord (ix2 r h) 1
      + (dims2 N H R wf).offCoord (ix2 r h) 1 = h.val
    have e1 : (dims2 N H R wf).start (ix2 r h) w 1 = 0 := rfl
    have e2 : (dims2 N H R wf).batchCoord (ix2 r h) 1 = 0 := rfl
    have e3 : (dims2 N H R wf).offCoord (ix2 r h) 1 = h.val := rfl
    rw [e1, e2, e3]; omega

/-- The bucket of a distance: the distance itself while small, then by its logarithm, at most 31. -/
def bucket (d : BitVec 32) : BitVec 32 :=
  Scalar.select (IntOp.cmpi CmpIPredicate.slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32))
        (Ideal.ofBits FTy.f32 0x41800000#32))) (Ideal.ofBits FTy.f32 0x40051592#32) * Ideal.ofBits FTy.f32 0x41800000#32))) 31#32)

/-- The bucket as a look-up takes it: a negative one counts from the end. -/
def wrapped (d : BitVec 32) : BitVec 32 :=
  Scalar.select (IntOp.cmpi CmpIPredicate.slt (bucket d) 0#32) (IntOp.addi (bucket d) 32#32) (bucket d)

/-- The bias of a head at a distance. -/
def bias (T : (⟨2, ![32, 16]⟩ : Shape).Idx → EReal) (d : BitVec 32) (h : Fin 16) : EReal :=
  T (ix2 ⟨min (wrapped d).toInt.toNat 31, by omega⟩ h)

end Cert.Look
-- ==== Proof.SwaHost.lean ====
/- What the attention kernel's host hands to the launch, read at an index. -/
module

public import proofs.«01_k».proof.Proof.Gen.SwaIdeal.Value
public import proofs.«01_k».proof.Proof.Lit
public import proofs.«01_k».proof.Proof.Look
public import Idealize.ShloMosaic.Lib.Pipeline.ValueKit

@[expose] public section

set_option maxRecDepth 16384

noncomputable section

namespace Cert.SwaIdeal.Value

open Idealize.ShloMosaic Idealize.ShloMosaic.TcCoe Idealize.SL.Sem
open Idealize.ShloMosaic.Pipeline (Dat)
open Cert.SwaIdeal Cert.SwaIdeal.Gen

/-- The buckets of the distances below 256. -/
def Bucket : IVec S256 32 :=
  select (cmpi .slt (maxsi (iotaInDim S256 32 0) (broadcastInDim S256 ![] bcast_S_S256 (constantI S_ 32 0#32))) (broadcastInDim S256 ![] bcast_S_S256 (constantI S_ 32 16#32)))
    (maxsi (iotaInDim S256 32 0) (broadcastInDim S256 ![] bcast_S_S256 (constantI S_ 32 0#32)))
    (minsi (addi (broadcastInDim S256 ![] bcast_S_S256 (constantI S_ 32 16#32)) (fptosi 32 (mulf (Host.divf (Host.log (Host.divf
      (sitofp .f32 (maxsi (maxsi (iotaInDim S256 32 0) (broadcastInDim S256 ![] bcast_S_S256 (constantI S_ 32 0#32))) (broadcastInDim S256 ![] bcast_S_S256 (constantI S_ 32 1#32))))
      (broadcastInDim S256 ![] bcast_S_S256 (constant S_ .f32 0x41800000#32)))) (broadcastInDim S256 ![] bcast_S_S256 (constant S_ .f32 0x40051592#32)))
      (broadcastInDim S256 ![] bcast_S_S256 (constant S_ .f32 0x41800000#32)) : FVec Ideal S256 .f32)))
      (broadcastInDim S256 ![] bcast_S_S256 (constantI S_ 32 31#32)))

/-- The buckets as the look-up takes them. -/
def Wrapped : IVec S256 32 :=
  select (cmpi .slt Bucket (broadcastInDim S256 ![] bcast_S_S256 (constantI S_ 32 0#32))) (addi Bucket (broadcastInDim S256 ![] bcast_S_S256 (constantI S_ 32 32#32))) Bucket

/-- Each distance's bias less the farthest bucket's. -/
def Diff (A2 : FVec Ideal S32x16 .f32) : FVec Ideal S256x16 .f32 :=
  subf (Host.gather gather_S32x16_S256x1_S256x16_1_0_n_n_0_1_116 A2 (broadcastInDim S256x1 ![0] bcast_S256_S256x1_0 Wrapped))
    (broadcastInDim S256x16 ![0, 1] bcast_S1x16_S256x16_0_1 (broadcastInDim S1x16 ![1] bcast_S16_S1x16_1
      (shapeCast _ (extractStridedSlice S1x16 ![31, 0] A2 slices_S32x16_S1x16_31_0) shapeCasts_S1x16_S16)))

/-- The table of distances within two tiles. -/
def Table : IVec S128x256 32 := fun i => lit0 (S128x256.rowMajor i)

/-- The table of distances as the look-up takes it. -/
def TableW : IVec S128x256 32 :=
  select (constantI S128x256 1 0#1) (addi Table (broadcastInDim S128x256 ![] bcast_S_S128x256 (constantI S_ 32 256#32))) Table

/-- The band of biases a tile's rows read over two tiles of keys. -/
def Band (A2 : FVec Ideal S32x16 .f32) : FVec Ideal S16x128x256 .f32 :=
  transpose S16x128x256 [2, 0, 1] (Host.gather gather_S256x16_S128x256x1_S128x256x16_2_0_n_n_0_2_116 (Diff A2)
    (broadcastInDim S128x256x1 ![0, 1] bcast_S128x256_S128x256x1_0_1 TableW)) transposes_S128x256x16_S16x128x256_2_0_1

/-- The sinks less the farthest bucket's bias. -/
def Sinks (A1 : FVec Ideal S16 .f32) (A2 : FVec Ideal S32x16 .f32) : FVec Ideal S16x1x1 .f32 :=
  shapeCast _ (subf A1 (shapeCast _ (extractStridedSlice S1x16 ![31, 0] A2 slices_S32x16_S1x16_31_0) shapeCasts_S1x16_S16)) shapeCasts_S16_S16x1x1

variable (m : (ℓ : Loc nD τ sig) → Buf (Elt Ideal) ℓ)

set_option maxHeartbeats 4000000 in
/-- The launch reads that band. -/
theorem band_eq (c : Dev nD) : V m c main_v42 = Band (m ((c : Thread nD τ).loc main_arg2)) := by
  show StableHlo.after _ _ _ = _
  rfl

/-- The launch reads those sinks. -/
theorem sinks_eq (c : Dev nD) : V m c main_v36 = Sinks (m ((c : Thread nD τ).loc main_arg1)) (m ((c : Thread nD τ).loc main_arg2)) := rfl

/-- The launch reads the first argument as it is. -/
theorem proj_eq (c : Dev nD) : V m c main_arg0 = m ((c : Thread nD τ).loc main_arg0) := rfl

/-- A small distance's bucket. -/
theorem wrapped_at (d : Fin 256) : Wrapped (ix1 d) = Look.wrapped (BitVec.ofNat 32 d.val) := by
  pointwise [Wrapped, Bucket]
  rfl

/-- A small distance's bias less the farthest bucket's. -/
theorem diff_at (A2 : FVec Ideal S32x16 .f32) (d : Fin 256) (h : Fin 16) : Diff A2 (ix2 d h) = Look.bias A2 (BitVec.ofNat 32 d.val) h - A2 (ix2 31 h) := by
  have g : (Host.gather gather_S32x16_S256x1_S256x16_1_0_n_n_0_1_116 A2 (broadcastInDim S256x1 ![0] bcast_S256_S256x1_0 Wrapped)) (ix2 d h)
      = Look.bias A2 (BitVec.ofNat 32 d.val) h := by
    refine (Look.rows2 (by decide) _ A2 _ d h).trans ?_
    have e : (broadcastInDim S256x1 ![0] bcast_S256_S256x1_0 Wrapped) (ix2 d 0) = Wrapped (ix1 d) := by pointwise
    unfold Look.bias
    simp only [e, wrapped_at]
  have r : (broadcastInDim S256x16 ![0, 1] bcast_S1x16_S256x16_0_1 (broadcastInDim S1x16 ![1] bcast_S16_S1x16_1
      (shapeCast _ (extractStridedSlice S1x16 ![31, 0] A2 slices_S32x16_S1x16_31_0) shapeCasts_S1x16_S16))) (ix2 d h) = A2 (ix2 31 h) := by
    pointwise
  exact congrArg₂ (· - ·) g r

/-- The table's entry: the distance, held below 256. -/
theorem tableW_at (a : Fin 128) (c : Fin 256) : TableW (ix2 a c) = BitVec.ofNat 32 (min (a.val + 128 - c.val) 255) := by
  have e : TableW (ix2 a c) = Table (ix2 a c) := rfl
  have r : (S128x256.rowMajor (ix2 a c)).val = a.val * 256 + c.val := by
    refine (Shape.rowMajor_val_two _).trans ?_
    rfl
  refine e.trans ?_
  refine Eq.trans ?_ (table_at a c)
  show lit0 (S128x256.rowMajor (ix2 a c)) = _
  rw [← r]

/-- The band at a head, a row and a key of the two tiles. -/
theorem band_at (A2 : FVec Ideal S32x16 .f32) (h : Fin 16) (a : Fin 128) (c : Fin 256) :
    Band A2 (ix3 h a c) = Look.bias A2 (BitVec.ofNat 32 (min (a.val + 128 - c.val) 255)) h - A2 (ix2 31 h) := by
  have t : Band A2 (ix3 h a c) = Host.gather gather_S256x16_S128x256x1_S128x256x16_2_0_n_n_0_2_116 (Diff A2)
    (broadcastInDim S128x256x1 ![0, 1] bcast_S128x256_S128x256x1_0_1 TableW) (ix3 a c h) := by
    unfold Band
    generalize Host.gather gather_S256x16_S128x256x1_S128x256x16_2_0_n_n_0_2_116 (Diff A2)
      (broadcastInDim S128x256x1 ![0, 1] bcast_S128x256_S128x256x1_0_1 TableW) = G
    pointwise
  refine t.trans ((Look.rows3 (by decide) _ (Diff A2) _ a c h).trans ?_)
  have e : (broadcastInDim S128x256x1 ![0, 1] bcast_S128x256_S128x256x1_0_1 TableW) (ix3 a c 0) = BitVec.ofNat 32 (min (a.val + 128 - c.val) 255) := by
    refine Eq.trans ?_ (tableW_at a c)
    generalize TableW = G
    pointwise
  refine (diff_at A2 _ h).trans ?_
  have n : min ((broadcastInDim S128x256x1 ![0, 1] bcast_S128x256_S128x256x1_0_1 TableW) (ix3 a c 0)).toInt.toNat (256 - 1) = min (a.val + 128 - c.val) 255 := by
    rw [e, BitVec.toInt_eq_toNat_bmod, BitVec.toNat_ofNat, Int.bmod_def]
    split <;> omega
  show Look.bias A2 (BitVec.ofNat 32 (min ((broadcastInDim S128x256x1 ![0, 1] bcast_S128x256_S128x256x1_0_1 TableW) (ix3 a c 0)).toInt.toNat (256 - 1))) h - _ = _
  rw [n]

/-- The sinks at a head. -/
theorem sinks_at (A1 : FVec Ideal S16 .f32) (A2 : FVec Ideal S32x16 .f32) (h : Fin 16) : Sinks A1 A2 (ix3 h 0 0) = A1 (ix1 h) - A2 (ix2 31 h) := by
  pointwise [Sinks]

end Cert.SwaIdeal.Value
-- ==== Proof.SwaRef.lean ====
/- The attention reference's result, in named steps and read at an index. -/
module

public import proofs.«01_k».proof.Proof.Gen.SwaRefIdeal.Run
public import proofs.«01_k».proof.Proof.SwaRow
public import proofs.«01_k».proof.Proof.Look
public import Idealize.ShloMosaic.Lib.Pipeline.ValueKit

@[expose] public section

set_option maxRecDepth 16384

noncomputable section

namespace Cert.SwaRefIdeal.Value

open Idealize.ShloMosaic Idealize.ShloMosaic.TcCoe Idealize.SL.Sem
open Cert.SwaRefIdeal Cert.SwaRefIdeal.Gen

/-- Query position minus key position. -/
def Dist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The bucket of each distance. -/
def Bucket : IVec S8192x8192 32 :=
  select (cmpi .slt (maxsi Dist (broadcastInDim S8192x8192 ![] bcast_S_S8192x8192 (constantI S_ 32 0#32)))
      (broadcastInDim S8192x8192 ![] bcast_S_S8192x8192 (constantI S_ 32 16#32)))
    (maxsi Dist (broadcastInDim S8192x8192 ![] bcast_S_S8192x8192 (constantI S_ 32 0#32)))
    (minsi (addi (broadcastInDim S8192x8192 ![] bcast_S_S8192x8192 (constantI S_ 32 16#32)) (fptosi 32 (mulf (Host.divf (Host.log (Host.divf (sitofp .f32 (maxsi (maxsi Dist (broadcastInDim S8192x8192 ![] bcast_S_S8192x8192 (constantI S_ 32 0#32)))
      (broadcastInDim S8192x8192 ![] bcast_S_S8192x8192 (constantI S_ 32 1#32)))) (broadcastInDim S8192x8192 ![] bcast_S_S8192x8192 (constant S_ .f32 0x41800000#32)))) (broadcastInDim S8192x8192 ![] bcast_S_S8192x8192 (constant S_ .f32 0x40051592#32)))
      (broadcastInDim S8192x8192 ![] bcast_S_S8192x8192 (constant S_ .f32 0x41800000#32)) : FVec Ideal S8192x8192 .f32)))
      (broadcastInDim S8192x8192 ![] bcast_S_S8192x8192 (constantI S_ 32 31#32)))

/-- The bucket as the look-up takes it: a negative one counts from the end. -/
def Wrapped : IVec S8192x8192 32 :=
  select (cmpi .slt Bucket (broadcastInDim S8192x8192 ![] bcast_S_S8192x8192 (constantI S_ 32 0#32)))
    (addi Bucket (broadcastInDim S8192x8192 ![] bcast_S_S8192x8192 (constantI S_ 32 32#32))) Bucket

/-- Each head's bias of every query and key. -/
def Bias (A2 : FVec Ideal S32x16 .f32) : FVec Ideal S8192x8192x16 .f32 :=
  Host.gather gather_S32x16_S8192x8192x1_S8192x8192x16_2_0_n_n_0_2_116 A2
    (broadcastInDim S8192x8192x1 ![0, 1] bcast_S8192x8192_S8192x8192x1_0_1 Wrapped)

/-- Which keys a query reads: itself and the 127 before it. -/
def Seen : IVec S8192x8192 1 :=
  andi (cmpi .sge Dist (broadcastInDim S8192x8192 ![] bcast_S_S8192x8192 (constantI S_ 32 0#32)))
    (cmpi .slt Dist (broadcastInDim S8192x8192 ![] bcast_S_S8192x8192 (constantI S_ 32 128#32)))

/-- The keys and values, head by head. -/
abbrev KV (A0 : FVec Ideal S2x8192x1280 .f32) : FVec Ideal S2x8192x2x2x64 .f32 :=
  shapeCast _ (extractStridedSlice S2x8192x256 ![0, 0, 1024] A0 slices_S2x8192x1280_S2x8192x256_0_0_1024) shapeCasts_S2x8192x256_S2x8192x2x2x64

/-- The masked logits. -/
def Logits (A0 : FVec Ideal S2x8192x1280 .f32) (A2 : FVec Ideal S32x16 .f32) : FVec Ideal S2x2x8x8192x8192 .f32 :=
  select (broadcastInDim S2x2x8x8192x8192 ![3, 4] bcast_S8192x8192_S2x2x8x8192x8192_3_4 Seen)
    (addf (mulf (transpose S2x2x8x8192x8192 [0, 1, 4, 3, 2] (Host.dotGeneral dot_S2x8192x2x64_S2x8192x2x8x64_S2x2x8192x8192x8_3_4_1_13_02_02 none (shapeCast _ (extractStridedSlice S2x8192x1x2x64 ![0, 0, 0, 0, 0] (KV A0) slices_S2x8192x2x2x64_S2x8192x1x2x64_0_0_0_0_0) shapeCasts_S2x8192x1x2x64_S2x8192x2x64) (shapeCast _ (extractStridedSlice S2x8192x1024 ![0, 0, 0] A0 slices_S2x8192x1280_S2x8192x1024_0_0_0) shapeCasts_S2x8192x1024_S2x8192x2x8x64)) transposes_S2x2x8192x8192x8_S2x2x8x8192x8192_0_1_4_3_2)
      (broadcastInDim S2x2x8x8192x8192 ![] bcast_S_S2x2x8x8192x8192 (constant S_ .f32 0x3E000000#32)))
      (broadcastInDim S2x2x8x8192x8192 ![0, 1, 2, 3, 4] bcast_S1x2x8x8192x8192_S2x2x8x8192x8192_0_1_2_3_4 (broadcastInDim S1x2x8x8192x8192 ![1, 2, 3, 4] bcast_S2x8x8192x8192_S1x2x8x8192x8192_1_2_3_4 (transpose S2x8x8192x8192 [2, 3, 0, 1] (shapeCast _ (Bias A2) shapeCasts_S8192x8192x16_S8192x8192x2x8) transposes_S8192x8192x2x8_S2x8x8192x8192_2_3_0_1))))
    (broadcastInDim S2x2x8x8192x8192 ![] bcast_S_S2x2x8x8192x8192 (id (constant S_ .f32 0xFF800000#32)))

/-- The logits with the sink behind them. -/
def Row (A0 : FVec Ideal S2x8192x1280 .f32) (A1 : FVec Ideal S16 .f32) (A2 : FVec Ideal S32x16 .f32) : FVec Ideal S2x2x8x8192x8193 .f32 :=
  concatenate S2x2x8x8192x8193 4 [⟨S2x2x8x8192x8192, (Logits A0 A2)⟩, ⟨S2x2x8x8192x1, (broadcastInDim S2x2x8x8192x1 ![0, 1, 2, 3, 4] bcast_S1x2x8x1x1_S2x2x8x8192x1_0_1_2_3_4 (shapeCast _ A1 shapeCasts_S16_S1x2x8x1x1))⟩] concatenates_S2x2x8x8192x8192_S2x2x8x8192x1_S2x2x8x8192x8193_d4

/-- The largest entry of each row. -/
def Largest (R : FVec Ideal S2x2x8x8192x8193 .f32) : FVec Ideal S2x2x8x8192 .f32 :=
  Host.reduce FloatOps.maximumf R (constant S_ .f32 0xFF800000#32) reducesTo_S2x2x8x8192x8193_S2x2x8x8192_d4 h_S_

/-- What each row is shifted by. -/
def Shift (R : FVec Ideal S2x2x8x8192x8193 .f32) : FVec Ideal S2x2x8x8192 .f32 :=
  maximumf (broadcastInDim S2x2x8x8192 ![] bcast_S_S2x2x8x8192 (constant S_ .f32 0xFF800000#32)) (Largest R)

/-- The exponentials of a row of logits less its shift. -/
def Weight (R : FVec Ideal S2x2x8x8192x8193 .f32) : FVec Ideal S2x2x8x8192x8193 .f32 :=
  Host.exp (subf R (broadcastInDim S2x2x8x8192x8193 ![0, 1, 2, 3, 4] bcast_S2x2x8x8192x1_S2x2x8x8192x8193_0_1_2_3_4 (broadcastInDim S2x2x8x8192x1 ![0, 1, 2, 3] bcast_S2x2x8x8192_S2x2x8x8192x1_0_1_2_3 (Shift R))))

/-- The weights over their sum, and with them the values' sums. -/
def Out (A0 : FVec Ideal S2x8192x1280 .f32) (W : FVec Ideal S2x2x8x8192x8193 .f32) : FVec Ideal S2x16x8192x64 .f32 :=
  shapeCast _ (Host.dotGeneral dot_S2x2x8x8192x8192_S2x8192x2x64_S2x2x8x8192x64_4_1_23_3_01_02 none (extractStridedSlice S2x2x8x8192x8192 ![0, 0, 0, 0, 0] (Host.divf W (broadcastInDim S2x2x8x8192x8193 ![0, 1, 2, 3, 4] bcast_S2x2x8x8192x1_S2x2x8x8192x8193_0_1_2_3_4 (broadcastInDim S2x2x8x8192x1 ![0, 1, 2, 3] bcast_S2x2x8x8192_S2x2x8x8192x1_0_1_2_3 (Host.reduceAdd W (constant S_ .f32 0x00000000#32) reducesTo_S2x2x8x8192x8193_S2x2x8x8192_d4 h_S_)))) slices_S2x2x8x8192x8193_S2x2x8x8192x8192_0_0_0_0_0) (shapeCast _ (extractStridedSlice S2x8192x1x2x64 ![0, 0, 1, 0, 0] (KV A0) slices_S2x8192x2x2x64_S2x8192x1x2x64_0_0_1_0_0) shapeCasts_S2x8192x1x2x64_S2x8192x2x64)) shapeCasts_S2x2x8x8192x64_S2x16x8192x64

/-- The whole reference over its arguments. -/
abbrev All (A0 : FVec Ideal S2x8192x1280 .f32) (A1 : FVec Ideal S16 .f32) (A2 : FVec Ideal S32x16 .f32) : FVec Ideal S2x16x8192x64 .f32 :=
  Out A0 (Weight (Row A0 A1 A2))

/-- What the run leaves is that term. -/
theorem result_eq (m : (ℓ : Loc nD τ sig) → Buf (Elt Ideal) ℓ) (c : Dev nD) :
    res_main_v73 m c = All (m ((c : Thread nD τ).loc main_arg0)) (m ((c : Thread nD τ).loc main_arg1)) (m ((c : Thread nD τ).loc main_arg2)) := rfl

/-- The distance at a query and a key. -/
theorem dist_at (t s : Fin 8192) : Dist (ix2 t s) = BitVec.ofNat 32 t.val - BitVec.ofNat 32 s.val := by
  pointwise [Dist]
  rfl

/-- The bucket at a query and a key is the bucket of their distance. -/
theorem wrapped_at (t s : Fin 8192) : Wrapped (ix2 t s) = Look.wrapped (BitVec.ofNat 32 t.val - BitVec.ofNat 32 s.val) := by
  pointwise [Wrapped, Bucket]
  rw [dist_at]
  rfl

/-- The bias at a query, a key and a head. -/
theorem bias_at (A2 : FVec Ideal S32x16 .f32) (t s : Fin 8192) (h : Fin 16) :
    Bias A2 (ix3 t s h) = Look.bias A2 (BitVec.ofNat 32 t.val - BitVec.ofNat 32 s.val) h := by
  unfold Bias
  refine (Look.rows3 (by decide) _ A2 _ t s h).trans ?_
  have e : (broadcastInDim S8192x8192x1 ![0, 1] bcast_S8192x8192_S8192x8192x1_0_1 Wrapped) (ix3 t s 0) = Wrapped (ix2 t s) := by
    pointwise
  unfold Look.bias
  simp only [e, wrapped_at]

/-- What is seen: the query's own position and the 127 before it. -/
theorem seen_iff (t s : Fin 8192) : IntOp.andi (IntOp.cmpi CmpIPredicate.sge (BitVec.ofNat 32 t.val - BitVec.ofNat 32 s.val) 0#32)
    (IntOp.cmpi CmpIPredicate.slt (BitVec.ofNat 32 t.val - BitVec.ofNat 32 s.val) 128#32)
      = if s.val ≤ t.val ∧ t.val < s.val + 128 then 1#1 else 0#1 := by
  have ht := t.isLt
  have hs := s.isLt
  have e : (BitVec.ofNat 32 t.val - BitVec.ofNat 32 s.val).toInt = (t.val : ℤ) - s.val := by
    rw [BitVec.toInt_eq_toNat_bmod, BitVec.toNat_sub, BitVec.toNat_ofNat, BitVec.toNat_ofNat, Int.bmod_def]
    split <;> omega
  have e0 : (0#32 : BitVec 32).toInt = 0 := by decide
  have e1 : (128#32 : BitVec 32).toInt = 128 := by decide
  have c0 : IntOp.cmpi CmpIPredicate.sge (BitVec.ofNat 32 t.val - BitVec.ofNat 32 s.val) 0#32 = BitVec.ofBool (decide (s.val ≤ t.val)) := by
    show BitVec.ofBool ((0#32).sle (BitVec.ofNat 32 t.val - BitVec.ofNat 32 s.val)) = _
    rw [BitVec.sle_eq_decide, e, e0]
    congr 2
    exact propext ⟨fun h => by omega, fun h => by omega⟩
  have c1 : IntOp.cmpi CmpIPredicate.slt (BitVec.ofNat 32 t.val - BitVec.ofNat 32 s.val) 128#32 = BitVec.ofBool (decide (t.val < s.val + 128)) := by
    show BitVec.ofBool ((BitVec.ofNat 32 t.val - BitVec.ofNat 32 s.val).slt 128#32) = _
    rw [BitVec.slt_eq_decide, e, e1]
    congr 2
    exact propext ⟨fun h => by omega, fun h => by omega⟩
  rw [c0, c1]
  by_cases h0 : s.val ≤ t.val <;> by_cases h1 : t.val < s.val + 128 <;> simp only [h0, h1, decide_true, decide_false, and_self, and_true, true_and, and_false, false_and, if_true, if_false] <;> rfl

/-- A masked logit. -/
def logit (A0 : FVec Ideal S2x8192x1280 .f32) (A2 : FVec Ideal S32x16 .f32) (b : Fin 2) (g : Fin 2) (h : Fin 8) (t s : Fin 8192) : EReal :=
  if s.val ≤ t.val ∧ t.val < s.val + 128 then
    (∑ x : Fin 64, A0 (ix3 b s ⟨1024 + (g.val * 64 + x.val), by omega⟩) * A0 (ix3 b t ⟨g.val * 512 + h.val * 64 + x.val, by omega⟩)) *
      Ideal.ofBits FTy.f32 0x3E000000#32 + Look.bias A2 (BitVec.ofNat 32 t.val - BitVec.ofNat 32 s.val) ⟨g.val * 8 + h.val, by omega⟩
  else ⊥

/-- The mask's value. -/
theorem negInf_apply : (id (constant (F := Ideal) S_ .f32 0xFF800000#32)) ix0 = ⊥ := by
  show Ideal.ofBits .f32 0xFF800000#32 = ⊥
  simp [Ideal.ofBits, Ideal.ieee]

/-- The logits read at an index. -/
theorem logits_at (A0 : FVec Ideal S2x8192x1280 .f32) (A2 : FVec Ideal S32x16 .f32) (b : Fin 2) (g : Fin 2) (h : Fin 8) (t s : Fin 8192) :
    Logits A0 A2 (ix5 b g h t s) = logit A0 A2 b g h t s := by
  pointwise [Logits, Seen]
  rw [dist_at, seen_iff, bias_at]
  unfold logit
  split
  · exact ValueIdx.select_one _ _
  · refine (ValueIdx.select_zero _ _).trans ?_
    exact negInf_apply

/-- The row with the sink, read at an index. -/
theorem row_at (A0 : FVec Ideal S2x8192x1280 .f32) (A1 : FVec Ideal S16 .f32) (A2 : FVec Ideal S32x16 .f32) (b : Fin 2) (g : Fin 2) (h : Fin 8) (t : Fin 8192) (s : Fin 8193) :
    Row A0 A1 A2 (ix5 b g h t s) = if hs : s.val < 8192 then logit A0 A2 b g h t ⟨s.val, hs⟩ else A1 (ix1 ⟨g.val * 8 + h.val, by omega⟩) := by
  pointwise [Row]
  simp only [logits_at]

/-- A row's largest, as a fold over the row. -/
theorem max_last {n0 n1 n2 n3 n4 : ℕ} (v : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (b : Fin n0) (g : Fin n1) (k : Fin n2) (t : Fin n3) :
    Host.reduce FloatOps.maximumf v c h h_S_ (ix4 b g k t)
      = Finset.univ.fold max (c (Shape.Idx.first h_S_)) fun s : Fin n4 => v (ix5 b g k t s) := by
  pointwise

/-- A row's largest, read at an index. -/
theorem largest_at (R : FVec Ideal S2x2x8x8192x8193 .f32) (b : Fin 2) (g : Fin 2) (h : Fin 8) (t : Fin 8192) :
    Largest R (ix4 b g h t) = Finset.univ.fold max (Ideal.ofBits .f32 0xFF800000#32) fun s : Fin 8193 => R (ix5 b g h t s) :=
  max_last R _ _ b g h t

/-- The greater of a constant and each row's largest, read at an index. -/
theorem greater_at (w : BitVec 32) (R : FVec Ideal S2x2x8x8192x8193 .f32) (b : Fin 2) (g : Fin 2) (h : Fin 8) (t : Fin 8192) :
    (maximumf (broadcastInDim S2x2x8x8192 ![] bcast_S_S2x2x8x8192 (constant S_ .f32 w)) (Largest R)) (ix4 b g h t)
      = max (Ideal.ofBits .f32 w) (Largest R (ix4 b g h t)) := by
  pointwise

/-- The word of minus infinity. -/
theorem negInf : Ideal.ofBits .f32 0xFF800000#32 = ⊥ := by simp [Ideal.ofBits, Ideal.ieee]

/-- The shift of a row is its largest entry. -/
theorem shift_at (R : FVec Ideal S2x2x8x8192x8193 .f32) (b : Fin 2) (g : Fin 2) (h : Fin 8) (t : Fin 8192) :
    Shift R (ix4 b g h t) = Finset.univ.sup fun s : Fin 8193 => R (ix5 b g h t s) := by
  refine (greater_at _ R b g h t).trans ?_
  rw [largest_at, negInf, max_eq_right bot_le]
  rfl

/-- The exponentials, read at an index. -/
theorem weight_at (R : FVec Ideal S2x2x8x8192x8193 .f32) (b : Fin 2) (g : Fin 2) (h : Fin 8) (t : Fin 8192) (s : Fin 8193) :
    Weight R (ix5 b g h t s) = Ideal.exp (R (ix5 b g h t s) - Shift R (ix4 b g h t)) := by
  pointwise [Weight]

/-- The result over its weights, read at an index. -/
theorem out_at (A0 : FVec Ideal S2x8192x1280 .f32) (R : FVec Ideal S2x2x8x8192x8193 .f32) (b : Fin 2) (h : Fin 16) (t : Fin 8192) (d : Fin 64) :
    Out A0 R (ix4 b h t d) = ∑ x : Fin 8192,
      Ideal.div (R (ix5 b ⟨h.val / 8, by omega⟩ ⟨h.val % 8, by omega⟩ t ⟨x.val, by omega⟩)) (∑ y : Fin 8193, R (ix5 b ⟨h.val / 8, by omega⟩ ⟨h.val % 8, by omega⟩ t y)) *
        A0 (ix3 b x ⟨1024 + (128 + h.val / 8 * 64 + d.val), by omega⟩) := by
  pointwise [Out]

/-- The reference at an index: the row's softmax with its sink, and the values' weighted sum. -/
theorem all_at (A0 : FVec Ideal S2x8192x1280 .f32) (A1 : FVec Ideal S16 .f32) (A2 : FVec Ideal S32x16 .f32) (b : Fin 2) (h : Fin 16) (t : Fin 8192) (d : Fin 64) :
    All A0 A1 A2 (ix4 b h t d) = Cert.Row.full (logit A0 A2 b ⟨h.val / 8, by omega⟩ ⟨h.val % 8, by omega⟩ t) (A1 (ix1 h))
      fun s => A0 (ix3 b s ⟨1024 + (128 + h.val / 8 * 64 + d.val), by omega⟩) := by
  refine (out_at A0 _ b h t d).trans ?_
  have hh : (⟨h.val / 8 * 8 + h.val % 8, by omega⟩ : Fin 16) = h := Fin.ext (by show h.val / 8 * 8 + h.val % 8 = h.val; omega)
  have hrow : ∀ s : Fin 8193, Row A0 A1 A2 (ix5 b ⟨h.val / 8, by omega⟩ ⟨h.val % 8, by omega⟩ t s)
      = if hs : s.val < 8192 then logit A0 A2 b ⟨h.val / 8, by omega⟩ ⟨h.val % 8, by omega⟩ t ⟨s.val, hs⟩ else A1 (ix1 h) := by
    intro s
    rw [row_at]
    simp only [hh]
  simp only [weight_at, shift_at, hrow]
  exact Cert.Row.full_of_last _ _ _

end Cert.SwaRefIdeal.Value
-- ==== Proof.SwaLogit.lean ====
/- A tile's logits beside the reference's, and a stored block beside the reference's result. -/
module

public import proofs.«01_k».proof.Proof.SwaRef

@[expose] public section

set_option maxRecDepth 16384

noncomputable section

namespace Cert.SwaRefIdeal.Value

open Idealize.ShloMosaic Idealize.ShloMosaic.TcCoe Idealize.SL.Sem
open Cert.SwaRefIdeal Cert.SwaRefIdeal.Gen

/-- The logits' scale is an eighth. -/
theorem scale_eq : Ideal.ofBits FTy.f32 0x3E000000#32 = ((1 / 8 : ℝ) : EReal) := by
  simp [Ideal.ofBits, Ideal.ieee]
  refine (EReal.coe_mul _ _).symm.trans ?_
  norm_num

/-- The difference of two positions' words is the word of their difference. -/
theorem word_sub (n k : ℕ) (h : k ≤ n) : BitVec.ofNat 32 n - BitVec.ofNat 32 k = BitVec.ofNat 32 (n - k) := by
  obtain ⟨d, rfl⟩ := Nat.exists_eq_add_of_le h
  have e : k + d - k = d := by omega
  rw [e]
  refine BitVec.eq_of_toNat_eq ?_
  simp only [BitVec.toNat_sub, BitVec.toNat_ofNat]
  omega

/-- Queries scaled before or after the product, a bias less a constant before or after the sum: the same logit. -/
theorem logit_of (s : EReal) (h0 : 0 ≤ s) (h1 : s ≠ ⊤) (q k : Fin 64 → EReal) (β f : EReal) :
    (∑ x, q x * s * k x) + (β - f) = (∑ x, k x * q x) * s + β - f := by
  have e : (∑ x, q x * s * k x) = (∑ x, k x * q x) * s := by
    rw [mul_comm _ s, Row.mul_sum _ s h0 h1]
    refine Finset.sum_congr rfl fun x _ => ?_
    rw [mul_comm (q x) s, mul_assoc, mul_comm (q x)]
  rw [e, sub_eq_add_neg, sub_eq_add_neg, add_assoc]

/-- The scale is not negative. -/
theorem scale_nonneg : 0 ≤ Ideal.ofBits FTy.f32 0x3E000000#32 := by
  rw [scale_eq]; exact EReal.coe_nonneg.2 (by norm_num)

/-- The scale is finite. -/
theorem scale_ne_top : Ideal.ofBits FTy.f32 0x3E000000#32 ≠ ⊤ := by
  rw [scale_eq]; exact EReal.coe_ne_top _

/-- Every entry of an array is a real number. -/
def Reals {S : Shape} (v : S.Idx → EReal) : Prop := ∀ i, ∃ r : ℝ, v i = r

variable (A0 : FVec Ideal S2x8192x1280 .f32) (A1 : FVec Ideal S16 .f32) (A2 : FVec Ideal S32x16 .f32)

/-- A logit against the tile before. -/
theorem prev_logit (b g : Fin 2) (h : Fin 8) (i : Fin 64) (a j : Fin 128) (q k : Fin 64 → EReal) (β f : EReal)
    (hq : ∀ x : Fin 64, q x = A0 (ix3 b ⟨i.val * 128 + a.val, by omega⟩ ⟨g.val * 512 + h.val * 64 + x.val, by omega⟩))
    (hk : ∀ x : Fin 64, k x = A0 (ix3 b ⟨(i.val - 1) * 128 + j.val, by omega⟩ ⟨1024 + (g.val * 64 + x.val), by omega⟩))
    (hβ : β = Look.bias A2 (BitVec.ofNat 32 (min (a.val + 128 - j.val) 255)) ⟨g.val * 8 + h.val, by omega⟩ - f) :
    (if 1 ≤ i.val ∧ a.val < j.val then (∑ x, q x * Ideal.ofBits .f32 0x3E000000#32 * k x) + β else ⊥)
      = if h1 : 1 ≤ i.val then logit A0 A2 b g h ⟨i.val * 128 + a.val, by omega⟩ ⟨(i.val - 1) * 128 + j.val, by omega⟩ - f else ⊥ := by
  by_cases h1 : 1 ≤ i.val
  · rw [dif_pos h1]
    by_cases h2 : a.val < j.val
    · rw [if_pos ⟨h1, h2⟩, hβ, logit_of _ scale_nonneg scale_ne_top]
      unfold logit
      rw [if_pos (by show (i.val - 1) * 128 + j.val ≤ i.val * 128 + a.val ∧ i.val * 128 + a.val < (i.val - 1) * 128 + j.val + 128; omega)]
      simp only [hq, hk]
      rw [word_sub _ _ (by omega)]
      have e : i.val * 128 + a.val - ((i.val - 1) * 128 + j.val) = min (a.val + 128 - j.val) 255 := by omega
      rw [e]
    · rw [if_neg (fun h => h2 h.2)]
      unfold logit
      rw [if_neg (by show ¬ ((i.val - 1) * 128 + j.val ≤ i.val * 128 + a.val ∧ i.val * 128 + a.val < (i.val - 1) * 128 + j.val + 128); omega)]
      rw [EReal.bot_sub]
  · rw [dif_neg h1, if_neg (fun h => h1 h.1)]

/-- A logit against the query's own tile. -/
theorem own_logit (b g : Fin 2) (h : Fin 8) (i : Fin 64) (a j : Fin 128) (q k : Fin 64 → EReal) (β f : EReal)
    (hq : ∀ x : Fin 64, q x = A0 (ix3 b ⟨i.val * 128 + a.val, by omega⟩ ⟨g.val * 512 + h.val * 64 + x.val, by omega⟩))
    (hk : ∀ x : Fin 64, k x = A0 (ix3 b ⟨i.val * 128 + j.val, by omega⟩ ⟨1024 + (g.val * 64 + x.val), by omega⟩))
    (hβ : β = Look.bias A2 (BitVec.ofNat 32 (min (a.val + 128 - (128 + j.val)) 255)) ⟨g.val * 8 + h.val, by omega⟩ - f) :
    (if j.val ≤ a.val then (∑ x, q x * Ideal.ofBits .f32 0x3E000000#32 * k x) + β else ⊥)
      = logit A0 A2 b g h ⟨i.val * 128 + a.val, by omega⟩ ⟨i.val * 128 + j.val, by omega⟩ - f := by
  by_cases h2 : j.val ≤ a.val
  · rw [if_pos h2, hβ, logit_of _ scale_nonneg scale_ne_top]
    unfold logit
    rw [if_pos (by show i.val * 128 + j.val ≤ i.val * 128 + a.val ∧ i.val * 128 + a.val < i.val * 128 + j.val + 128; omega)]
    simp only [hq, hk]
    rw [word_sub _ _ (by omega)]
    have e : i.val * 128 + a.val - (i.val * 128 + j.val) = min (a.val + 128 - (128 + j.val)) 255 := by omega
    rw [e]
  · rw [if_neg h2]
    unfold logit
    rw [if_neg (by show ¬ (i.val * 128 + j.val ≤ i.val * 128 + a.val ∧ i.val * 128 + a.val < i.val * 128 + j.val + 128); omega)]
    rw [EReal.bot_sub]

/-- Of finite arguments every logit is a real number or masked. -/
theorem logit_real (h0 : ∀ i, ∃ r : ℝ, A0 i = r) (h2 : ∀ i, ∃ r : ℝ, A2 i = r) (b g : Fin 2) (h : Fin 8) (t s : Fin 8192) :
    logit A0 A2 b g h t s = ⊥ ∨ ∃ r : ℝ, logit A0 A2 b g h t s = r := by
  unfold logit
  split
  · refine Or.inr ?_
    choose r0 e0 using h0
    obtain ⟨r2, e2⟩ : ∃ r : ℝ, Look.bias A2 (BitVec.ofNat 32 t.val - BitVec.ofNat 32 s.val) ⟨g.val * 8 + h.val, by omega⟩ = r := by
      unfold Look.bias; exact h2 _
    refine ⟨(∑ x : Fin 64, r0 (ix3 b s ⟨1024 + (g.val * 64 + x.val), by omega⟩) * r0 (ix3 b t ⟨g.val * 512 + h.val * 64 + x.val, by omega⟩)) * (1 / 8) + r2, ?_⟩
    rw [e2, scale_eq]
    simp only [e0]
    rw [EReal.coe_add, EReal.coe_mul, ← Row.coe_sum]
    simp only [EReal.coe_mul]
  · exact Or.inl rfl

/-- What the two tiles give is the reference's result. -/
theorem block_eq (h0 : ∀ i, ∃ r : ℝ, A0 i = r) (h1 : ∀ i, ∃ r : ℝ, A1 i = r) (h2 : ∀ i, ∃ r : ℝ, A2 i = r)
    (b g : Fin 2) (h : Fin 8) (i : Fin 64) (a : Fin 128) (d : Fin 64) (p o vp vo : Fin 128 → EReal) (σ : EReal)
    (hσ : σ = A1 (ix1 ⟨g.val * 8 + h.val, by omega⟩) - A2 (ix2 31 ⟨g.val * 8 + h.val, by omega⟩))
    (hp : ∀ j, p j = if h1 : 1 ≤ i.val then logit A0 A2 b g h ⟨i.val * 128 + a.val, by omega⟩ ⟨(i.val - 1) * 128 + j.val, by omega⟩
      - A2 (ix2 31 ⟨g.val * 8 + h.val, by omega⟩) else ⊥)
    (ho : ∀ j, o j = logit A0 A2 b g h ⟨i.val * 128 + a.val, by omega⟩ ⟨i.val * 128 + j.val, by omega⟩
      - A2 (ix2 31 ⟨g.val * 8 + h.val, by omega⟩))
    (hvp : ∀ j, vp j = A0 (ix3 b ⟨(i.val - 1) * 128 + j.val, by omega⟩ ⟨1024 + (128 + g.val * 64 + d.val), by omega⟩))
    (hvo : ∀ j, vo j = A0 (ix3 b ⟨i.val * 128 + j.val, by omega⟩ ⟨1024 + (128 + g.val * 64 + d.val), by omega⟩)) :
    Row.tiles p o σ vp vo = All A0 A1 A2 (ix4 b ⟨g.val * 8 + h.val, by omega⟩ ⟨i.val * 128 + a.val, by omega⟩ d) := by
  obtain ⟨f, hf⟩ := h2 (ix2 31 ⟨g.val * 8 + h.val, by omega⟩)
  obtain ⟨s, hs⟩ := h1 (ix1 ⟨g.val * 8 + h.val, by omega⟩)
  have eg : (⟨(g.val * 8 + h.val) / 8, by omega⟩ : Fin 2) = g := Fin.ext (by show (g.val * 8 + h.val) / 8 = g.val; omega)
  have eh : (⟨(g.val * 8 + h.val) % 8, by omega⟩ : Fin 8) = h := Fin.ext (by show (g.val * 8 + h.val) % 8 = h.val; omega)
  have en : (g.val * 8 + h.val) / 8 = g.val := by omega
  refine Eq.trans ?_ (all_at A0 A1 A2 b ⟨g.val * 8 + h.val, by omega⟩ ⟨i.val * 128 + a.val, by omega⟩ d).symm
  simp only [eg, eh, en, hs]
  rw [hσ, hf, hs]
  simp only [hf] at hp ho
  refine Row.tiles_eq i f s _ _ p o vp vo (logit_real A0 A2 h0 h2 b g h _) ?_ ho hp hvo (fun _ => hvp)
  intro j c1 c2
  unfold logit
  rw [if_neg]
  show ¬ (j.val ≤ i.val * 128 + a.val ∧ i.val * 128 + a.val < j.val + 128)
  omega

end Cert.SwaRefIdeal.Value

end
-- ==== Proof.SwaFinal.lean ====
/- What the attention kernel leaves is the reference's result. -/
module

public import proofs.«01_k».proof.Proof.Gen.SwaIdeal.Value
public import proofs.«01_k».proof.Proof.SwaKernel
public import proofs.«01_k».proof.Proof.SwaHost
public import proofs.«01_k».proof.Proof.SwaLogit
public import Idealize.ShloMosaic.Lib.Pipeline.ValueKit

@[expose] public section

set_option maxRecDepth 16384

noncomputable section

namespace Cert.SwaIdeal.Value

open Idealize.ShloMosaic Idealize.ShloMosaic.TcCoe Idealize.SL.Sem
open Idealize.ShloMosaic.Pipeline (Dat)
open Cert.SwaIdeal Cert.SwaIdeal.Gen

variable (m : (ℓ : Loc nD τ sig) → Buf (Elt Ideal) ℓ)

/-- The windows' block indices: batch and tile of the point. -/
theorem idx : ∀ t : Fin cfg0.N, win0_0.index t = ![t.val / 64, t.val % 64, 0] ∧ win0_1.index t = ![t.val / 64, 0, 4] ∧ win0_2.index t = ![0, 0, 0]
    ∧ win0_3.index t = ![0, 0, 0] ∧ win0_4.index t = ![t.val / 64, 0, t.val % 64, 0] :=
  (by decide +kernel : ∀ t : Fin grid0.N, _)

/-- The tile of a point. -/
theorem tile : ∀ t : Fin cfg0.N, (grid0.coords t 1).val = t.val % 64 := (by decide +kernel : ∀ t : Fin grid0.N, _)

/-- Where a point's loads of keys and values begin. -/
theorem offs : ∀ t : Fin cfg0.N, k0_off1 (grid0.coords t) = ![0, (t.val % 64 - 1) * 128, 0] ∧ k0_off2 (grid0.coords t) = ![0, (t.val % 64 - 1) * 128, 128]
    ∧ k0_off3 (grid0.coords t) = ![0, t.val % 64 * 128, 0] ∧ k0_off4 (grid0.coords t) = ![0, t.val % 64 * 128, 128]
    ∧ k0_off5 (grid0.coords t) = ![0, (t.val % 64 - 1) * 128, 64] ∧ k0_off6 (grid0.coords t) = ![0, (t.val % 64 - 1) * 128, 192]
    ∧ k0_off7 (grid0.coords t) = ![0, t.val % 64 * 128, 64] ∧ k0_off8 (grid0.coords t) = ![0, t.val % 64 * 128, 192] :=
  (by decide +kernel : ∀ t : Fin grid0.N, _)

/-- The keys' and values' block at a position and a column. -/
theorem kv_at (c : Dev nD) (t : Fin cfg0.N) (s : Fin 8192) (x : Fin 256) :
    iblk m c 1 t (ix3 0 s x) = m ((c : Thread nD τ).loc main_arg0) (ix3 ⟨t.val / 64, by have : t.val < 128 := t.isLt; omega⟩ s ⟨1024 + x.val, by omega⟩) := by
  have ht : t.val < 128 := t.isLt
  blk_point [iblk, V, idx t]

/-- A tile loaded from it. -/
theorem ld_at (B : FVec Ideal S1x8192x256 .f32) (o : Fin 3 → ℕ) (n k : ℕ) (hn : n + 128 ≤ 8192) (hk : k + 64 ≤ 256) (ho : o = ![0, n, k])
    (inb : ∀ a, o a + (![1, 128, 64] : Fin 3 → ℕ) a ≤ S1x8192x256.size a) (j : Fin 128) (x : Fin 64) :
    View.ld (Val := Elt Ideal) (e' := .f32) B (Rect.unit o ![1, 128, 64] inb) (ix3 0 j x) = B (ix3 0 ⟨n + j.val, by omega⟩ ⟨k + x.val, by omega⟩) := by
  subst ho
  refine congrArg B ?_
  blk_ext []
  · show n + 1 * j.val = n + j.val; omega
  · show k + 1 * x.val = k + x.val; omega

/-- The queries' block at a row and a column. -/
theorem q_at (c : Dev nD) (t : Fin cfg0.N) (a : Fin 128) (x : Fin 1024) :
    X0_0 m c t (ix3 0 a x) = m ((c : Thread nD τ).loc main_arg0) (ix3 ⟨t.val / 64, by have : t.val < 128 := t.isLt; omega⟩
      ⟨t.val % 64 * 128 + a.val, by omega⟩ ⟨x.val, by omega⟩) := by
  have ht : t.val < 128 := t.isLt
  have e : X0_0 m c t (ix3 0 a x) = iblk m c 0 t (fun a' => ⟨(ix3 (0 : Fin 1) a x a').val, lt_of_lt_of_eq (ix3 (0 : Fin 1) a x a').isLt (xsize0_0 t a').symm⟩) := by
    unfold X0_0 Pipeline.Window.fill
    rw [dif_pos (moved0_0 t _)]
  rw [e]
  blk_point [iblk, V, idx t]

/-- The band's block is the band. -/
theorem bandBlk (c : Dev nD) (t : Fin cfg0.N) (h : Fin 16) (a : Fin 128) (k : Fin 256) : iblk m c 2 t (ix3 h a k) = V m c main_v42 (ix3 h a k) := by
  generalize hB : V m c main_v42 = B
  blk_point [iblk, idx t, hB]

/-- The sinks' block is the sinks. -/
theorem sinkBlk (c : Dev nD) (t : Fin cfg0.N) (h : Fin 16) : iblk m c 3 t (ix3 h 0 0) = V m c main_v36 (ix3 h 0 0) := by
  generalize hB : V m c main_v36 = B
  blk_point [iblk, idx t, hB]

/-- Eight heads of the band over one tile of keys. -/
theorem ldBand_at (B : FVec Ideal S16x128x256 .f32) (g k : ℕ) (hg : g ≤ 8) (hk : k ≤ 128)
    (inb : ∀ a, (![g, 0, k] : Fin 3 → ℕ) a + (![8, 128, 128] : Fin 3 → ℕ) a ≤ S16x128x256.size a) (h : Fin 8) (a j : Fin 128) :
    View.ld (Val := Elt Ideal) (e' := .f32) B (Rect.unit ![g, 0, k] ![8, 128, 128] inb) (ix3 h a j) = B (ix3 ⟨g + h.val, by omega⟩ a ⟨k + j.val, by omega⟩) := by
  refine congrArg B ?_
  blk_ext []
  · show g + 1 * h.val = g + h.val; omega
  · show 0 + 1 * a.val = a.val; omega
  · show k + 1 * j.val = k + j.val; omega

/-- The reference's term over this program's argument arrays. -/
abbrev Out (c : Dev nD) : FVec Ideal Cert.SwaRefIdeal.S2x16x8192x64 .f32 :=
  Cert.SwaRefIdeal.Value.All (m ((c : Thread nD τ).loc main_arg0)) (m ((c : Thread nD τ).loc main_arg1)) (m ((c : Thread nD τ).loc main_arg2))

/-- Two equal columns read the same. -/
theorem col_eq {n0 n1 n2 : ℕ} (A : (⟨3, ![n0, n1, n2]⟩ : Shape).Idx → EReal) (a : Fin n0) (b : Fin n1) (k k' : Fin n2) (h : k.val = k'.val) :
    A (ix3 a b k) = A (ix3 a b k') := by
  rw [Fin.ext h]

/-- A tile of keys or values, read in the argument. -/
theorem tile_at (c : Dev nD) (t : Fin cfg0.N) (o : Fin 3 → ℕ) (n k : ℕ) (hn : n + 128 ≤ 8192) (hk : k + 64 ≤ 256) (ho : o = ![0, n, k])
    (inb : ∀ a, o a + (![1, 128, 64] : Fin 3 → ℕ) a ≤ S1x8192x256.size a) (j : Fin 128) (x : Fin 64) (col : Fin 1280) (hc : 1024 + (k + x.val) = col.val) :
    View.ld (Val := Elt Ideal) (e' := .f32) (iblk m c 1 t) (Rect.unit o ![1, 128, 64] inb) (ix3 0 j x)
      = m ((c : Thread nD τ).loc main_arg0) (ix3 ⟨t.val / 64, by have : t.val < 128 := t.isLt; omega⟩ ⟨n + j.val, by omega⟩ col) :=
  (ld_at _ o n k hn hk ho inb j x).trans ((kv_at m c t _ _).trans (col_eq _ _ _ _ _ hc))

/-- A query's entry, read in the argument. -/
theorem query_at (c : Dev nD) (t : Fin cfg0.N) (a : Fin 128) (x : Fin 1024) (col : Fin 1280) (hc : x.val = col.val) :
    X0_0 m c t (ix3 0 a x) = m ((c : Thread nD τ).loc main_arg0) (ix3 ⟨t.val / 64, by have : t.val < 128 := t.isLt; omega⟩
      ⟨t.val % 64 * 128 + a.val, by omega⟩ col) :=
  (q_at m c t a x).trans (col_eq _ _ _ _ _ hc)

/-- A bias as a tile reads it. -/
theorem bias_at (c : Dev nD) (t : Fin cfg0.N) (g k : ℕ) (hg : g ≤ 8) (hk : k ≤ 128)
    (inb : ∀ a, (![g, 0, k] : Fin 3 → ℕ) a + (![8, 128, 128] : Fin 3 → ℕ) a ≤ S16x128x256.size a) (h : Fin 8) (a j : Fin 128)
    (hh : Fin 16) (hv : hh.val = g + h.val) (n : ℕ) (hn : n = k + j.val) :
    View.ld (Val := Elt Ideal) (e' := .f32) (iblk m c 2 t) (Rect.unit ![g, 0, k] ![8, 128, 128] inb) (ix3 h a j)
      = Look.bias (m ((c : Thread nD τ).loc main_arg2)) (BitVec.ofNat 32 (min (a.val + 128 - n) 255)) hh - (m ((c : Thread nD τ).loc main_arg2) : S32x16.Idx → EReal) (ix2 31 hh) := by
  have e : hh = ⟨g + h.val, by omega⟩ := Fin.ext hv
  rw [e, hn]
  exact (ldBand_at _ g k hg hk inb h a j).trans ((bandBlk m c t _ _ _).trans ((congrFun (band_eq m c) _).trans (band_at _ _ _ _)))

/-- A head's sink less the farthest bucket's bias. -/
def sinkOf (A1 : FVec Ideal S16 .f32) (A2 : FVec Ideal S32x16 .f32) (hh : Fin 16) : EReal := A1 (ix1 hh) - A2 (ix2 31 hh)

/-- A sink as a tile reads it. -/
theorem sinkLd_at (c : Dev nD) (t : Fin cfg0.N) (n : ℕ) (inb : ∀ a, (![n, 0, 0] : Fin 3 → ℕ) a + (![1, 1, 1] : Fin 3 → ℕ) a ≤ S16x1x1.size a)
    (hh : Fin 16) (hv : hh.val = n) :
    View.ld (Val := Elt Ideal) (e' := .f32) (iblk m c 3 t) (Rect.unit ![n, 0, 0] ![1, 1, 1] inb) (ix3 0 0 0)
      = sinkOf (m ((c : Thread nD τ).loc main_arg1)) (m ((c : Thread nD τ).loc main_arg2)) hh := by
  have l : View.ld (Val := Elt Ideal) (e' := .f32) (iblk m c 3 t) (Rect.unit ![n, 0, 0] ![1, 1, 1] inb) (ix3 0 0 0) = iblk m c 3 t (ix3 hh 0 0) := by
    refine congrArg (iblk m c 3 t) ?_
    blk_ext []
    show n + 1 * 0 = hh.val
    omega
  exact l.trans ((sinkBlk m c t hh).trans ((congrFun (sinks_eq m c) _).trans (sinks_at _ _ _)))

set_option maxHeartbeats 4000000 in
/-- Of finite arguments, the array after the run is the reference's term. -/
theorem final (c : Dev nD) (r0 : Cert.SwaRefIdeal.Value.Reals (S := S2x8192x1280) (m ((c : Thread nD τ).loc main_arg0)))
    (r1 : Cert.SwaRefIdeal.Value.Reals (S := S16) (m ((c : Thread nD τ).loc main_arg1)))
    (r2 : Cert.SwaRefIdeal.Value.Reals (S := S32x16) (m ((c : Thread nD τ).loc main_arg2))) : (dats m 0 c).arrAt 4 (cfgs 0).N = Out m c := by
  refine (dats m 0 c).arrAt_eq_of_covers 4 _ (by decide +kernel) fun t _ y => ?_
  blk_simp
  rw [after0_4]
  unfold outsAt0
  frame_out
  have ht : t.val < 128 := t.isLt
  canon_tiles x h
  · idx_vars x
    idx_vars y
    have hx0 : x0 = 0 := Subsingleton.elim _ _
    subst hx0
    have he : ((View.whole main_v43).slice (win0_4.rect t)).emb (ix4 y0 y1 y2 y3)
        = ix4 (⟨t.val / 64, by omega⟩ : Fin 2) (⟨(1 : Fin 2).val * 8 + x1.val, by omega⟩ : Fin 16) (⟨t.val % 64 * 128 + x2.val, by omega⟩ : Fin 8192) x3 := by
      blk_ext [idx t]
    rw [he]
    refine (congrFun (group1_eq _ _ _ _ _ _ _ _ _ _ _ _) _).trans ?_
    refine (out_at _ _ _ _ _ _ _ _ _ _ _ _ x1 x2 x3).trans ?_
    refine Cert.SwaRefIdeal.Value.block_eq _ _ _ r0 r1 r2 ⟨t.val / 64, by omega⟩ 1 x1 ⟨t.val % 64, by omega⟩ x2 x3 _ _ _ _ _ ?_ ?_ ?_ ?_ ?_
    · exact sink_at (fun h => sinkOf (m ((c : Thread nD τ).loc main_arg1)) (m ((c : Thread nD τ).loc main_arg2)) ⟨(1 : Fin 2).val * 8 + h.val, by omega⟩) x1 x2 _ _ _ _ _ _ _ _
          (sinkLd_at m c t 8 _ _ rfl)
          (sinkLd_at m c t 9 _ _ rfl)
          (sinkLd_at m c t 10 _ _ rfl)
          (sinkLd_at m c t 11 _ _ rfl)
          (sinkLd_at m c t 12 _ _ rfl)
          (sinkLd_at m c t 13 _ _ rfl)
          (sinkLd_at m c t 14 _ _ rfl)
          (sinkLd_at m c t 15 _ _ rfl)
    · intro j
      refine (prev1_at (grid0.coords t) _ _ _ x1 x2 j).trans ?_
      rw [tile t]
      exact Cert.SwaRefIdeal.Value.prev_logit _ _ ⟨t.val / 64, by omega⟩ 1 x1 ⟨t.val % 64, by omega⟩ x2 j _ _ _ _
        (fun x => query_at m c t x2 _ _ (by simp))
        (fun x => tile_at m c t _ ((t.val % 64 - 1) * 128) 64 (by omega) (by omega) (offs t).2.2.2.2.1 _ j x _ (by simp))
        (bias_at m c t 8 0 (by omega) (by omega) _ x1 x2 j _ (by simp) j.val (by omega))
    · intro j
      refine (own1_at _ _ _ x1 x2 j).trans ?_
      exact Cert.SwaRefIdeal.Value.own_logit _ _ ⟨t.val / 64, by omega⟩ 1 x1 ⟨t.val % 64, by omega⟩ x2 j _ _ _ _
        (fun x => query_at m c t x2 _ _ (by simp))
        (fun x => tile_at m c t _ (t.val % 64 * 128) 64 (by omega) (by omega) (offs t).2.2.2.2.2.2.1 _ j x _ (by simp))
        (bias_at m c t 8 128 (by omega) (by omega) _ x1 x2 j _ (by simp) (128 + j.val) rfl)
    · exact fun j => tile_at m c t _ ((t.val % 64 - 1) * 128) 192 (by omega) (by omega) (offs t).2.2.2.2.2.1 _ j x3 _ (by simp)
    · exact fun j => tile_at m c t _ (t.val % 64 * 128) 192 (by omega) (by omega) (offs t).2.2.2.2.2.2.2 _ j x3 _ (by simp)
  · idx_vars x
    idx_vars y
    have hx0 : x0 = 0 := Subsingleton.elim _ _
    subst hx0
    have he : ((View.whole main_v43).slice (win0_4.rect t)).emb (ix4 y0 y1 y2 y3)
        = ix4 (⟨t.val / 64, by omega⟩ : Fin 2) (⟨(0 : Fin 2).val * 8 + x1.val, by omega⟩ : Fin 16) (⟨t.val % 64 * 128 + x2.val, by omega⟩ : Fin 8192) x3 := by
      blk_ext [idx t]
    rw [he]
    refine (out_at _ _ _ _ _ _ _ _ _ _ _ _ x1 x2 x3).trans ?_
    refine Cert.SwaRefIdeal.Value.block_eq _ _ _ r0 r1 r2 ⟨t.val / 64, by omega⟩ 0 x1 ⟨t.val % 64, by omega⟩ x2 x3 _ _ _ _ _ ?_ ?_ ?_ ?_ ?_
    · exact sink_at (fun h => sinkOf (m ((c : Thread nD τ).loc main_arg1)) (m ((c : Thread nD τ).loc main_arg2)) ⟨(0 : Fin 2).val * 8 + h.val, by omega⟩) x1 x2 _ _ _ _ _ _ _ _
          (sinkLd_at m c t 0 _ _ rfl)
          (sinkLd_at m c t 1 _ _ rfl)
          (sinkLd_at m c t 2 _ _ rfl)
          (sinkLd_at m c t 3 _ _ rfl)
          (sinkLd_at m c t 4 _ _ rfl)
          (sinkLd_at m c t 5 _ _ rfl)
          (sinkLd_at m c t 6 _ _ rfl)
          (sinkLd_at m c t 7 _ _ rfl)
    · intro j
      refine (prev0_at (grid0.coords t) _ _ _ x1 x2 j).trans ?_
      rw [tile t]
      exact Cert.SwaRefIdeal.Value.prev_logit _ _ ⟨t.val / 64, by omega⟩ 0 x1 ⟨t.val % 64, by omega⟩ x2 j _ _ _ _
        (fun x => query_at m c t x2 _ _ (by simp))
        (fun x => tile_at m c t _ ((t.val % 64 - 1) * 128) 0 (by omega) (by omega) (offs t).1 _ j x _ (by simp))
        (bias_at m c t 0 0 (by omega) (by omega) _ x1 x2 j _ (by simp) j.val (by omega))
    · intro j
      refine (own0_at _ _ _ x1 x2 j).trans ?_
      exact Cert.SwaRefIdeal.Value.own_logit _ _ ⟨t.val / 64, by omega⟩ 0 x1 ⟨t.val % 64, by omega⟩ x2 j _ _ _ _
        (fun x => query_at m c t x2 _ _ (by simp))
        (fun x => tile_at m c t _ (t.val % 64 * 128) 0 (by omega) (by omega) (offs t).2.2.1 _ j x _ (by simp))
        (bias_at m c t 0 128 (by omega) (by omega) _ x1 x2 j _ (by simp) (128 + j.val) rfl)
    · exact fun j => tile_at m c t _ ((t.val % 64 - 1) * 128) 128 (by omega) (by omega) (offs t).2.1 _ j x3 _ (by simp)
    · exact fun j => tile_at m c t _ (t.val % 64 * 128) 128 (by omega) (by omega) (offs t).2.2.2.1 _ j x3 _ (by simp)

end Cert.SwaIdeal.Value

end
-- ==== Proof.Cross.lean ====
/- The attention of the queries over the memory: one head's softmax divided after the product, against the reference. -/
module

public import proofs.«01_k».proof.Proof.Gen.CrossIdeal.Value
public import proofs.«01_k».proof.Proof.Gen.CrossRefIdeal.Run
public import proofs.«01_k».proof.Proof.SwaLogit
public import Idealize.ShloMosaic.Lib.Pipeline.ValueKit

@[expose] public section

set_option maxRecDepth 16384

noncomputable section

namespace Cert.CrossRefIdeal.Value

open Idealize.ShloMosaic Idealize.ShloMosaic.TcCoe Idealize.SL.Sem
open Cert.CrossRefIdeal Cert.CrossRefIdeal.Gen

/-- The scaled products of queries and keys. -/
def Logits (Q : FVec Ideal S2x8192x512 .f32) (M : FVec Ideal S2x256x1024 .f32) : FVec Ideal S2x8192x4x256 .f32 :=
  mulf (transpose S2x8192x4x256 [0, 3, 1, 2] (Host.dotGeneral dot_S2x256x4x128_S2x8192x4x128_S2x4x256x8192_3_3_1_1_02_02 none (shapeCast _ (extractStridedSlice S2x256x1x4x128 ![0, 0, 0, 0, 0] (shapeCast _ M shapeCasts_S2x256x1024_S2x256x2x4x128) slices_S2x256x2x4x128_S2x256x1x4x128_0_0_0_0_0) shapeCasts_S2x256x1x4x128_S2x256x4x128) (shapeCast _ Q shapeCasts_S2x8192x512_S2x8192x4x128)) transposes_S2x4x256x8192_S2x8192x4x256_0_3_1_2) (broadcastInDim S2x8192x4x256 ![] bcast_S_S2x8192x4x256 (constant S_ .f32 0x3DB504F3#32))

/-- The largest of each row. -/
def Greatest (L : FVec Ideal S2x8192x4x256 .f32) : FVec Ideal S2x8192x4 .f32 :=
  Host.reduce FloatOps.maximumf L (constant S_ .f32 0xFF800000#32) reducesTo_S2x8192x4x256_S2x8192x4_d3 h_S_

/-- What each row is less. -/
def Shift (L : FVec Ideal S2x8192x4x256 .f32) : FVec Ideal S2x8192x4 .f32 :=
  maximumf (broadcastInDim S2x8192x4 ![] bcast_S_S2x8192x4 (constant S_ .f32 0xFF800000#32)) (Greatest L)

/-- The exponentials of the logits less their row's largest. -/
def Weights (L : FVec Ideal S2x8192x4x256 .f32) : FVec Ideal S2x8192x4x256 .f32 :=
  Host.exp (subf L (broadcastInDim S2x8192x4x256 ![0, 1, 2, 3] bcast_S2x8192x4x1_S2x8192x4x256_0_1_2_3 (broadcastInDim S2x8192x4x1 ![0, 1, 2] bcast_S2x8192x4_S2x8192x4x1_0_1_2 (Shift L))))

/-- The weighted means of the values. -/
def Mix (E : FVec Ideal S2x8192x4x256 .f32) (M : FVec Ideal S2x256x1024 .f32) : FVec Ideal S2x8192x512 .f32 :=
  shapeCast _ (transpose S2x8192x4x128 [0, 3, 1, 2] (Host.dotGeneral dot_S2x256x4x128_S2x8192x4x256_S2x4x128x8192_1_3_3_1_02_02 none (shapeCast _ (extractStridedSlice S2x256x1x4x128 ![0, 0, 1, 0, 0] (shapeCast _ M shapeCasts_S2x256x1024_S2x256x2x4x128) slices_S2x256x2x4x128_S2x256x1x4x128_0_0_1_0_0) shapeCasts_S2x256x1x4x128_S2x256x4x128) (Host.divf E (broadcastInDim S2x8192x4x256 ![0, 1, 2, 3] bcast_S2x8192x4x1_S2x8192x4x256_0_1_2_3 (broadcastInDim S2x8192x4x1 ![0, 1, 2] bcast_S2x8192x4_S2x8192x4x1_0_1_2 (Host.reduceAdd E (constant S_ .f32 0x00000000#32) reducesTo_S2x8192x4x256_S2x8192x4_d3 h_S_))))) transposes_S2x4x128x8192_S2x8192x4x128_0_3_1_2) shapeCasts_S2x8192x4x128_S2x8192x512

/-- The reference's result. -/
def All (Q : FVec Ideal S2x8192x512 .f32) (M : FVec Ideal S2x256x1024 .f32) : FVec Ideal S2x8192x512 .f32 :=
  Mix (Weights (Logits Q M)) M

/-- A logit at an index. -/
theorem logits_at (Q : FVec Ideal S2x8192x512 .f32) (M : FVec Ideal S2x256x1024 .f32) (b : Fin 2) (t : Fin 8192) (h : Fin 4) (j : Fin 256) :
    Logits Q M (ix4 b t h j) = (∑ x : Fin 128, M (ix3 b j ⟨h.val * 128 + x.val, by omega⟩) * Q (ix3 b t ⟨h.val * 128 + x.val, by omega⟩))
      * Ideal.ofBits .f32 0x3DB504F3#32 := by
  pointwise [Logits]

/-- The largest of a row, from a constant on. -/
theorem fold_at {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (b : Fin n0) (g : Fin n1) (k : Fin n2) :
    Host.reduce FloatOps.maximumf v c h h_S_ (ix3 b g k)
      = Finset.univ.fold max (c (Shape.Idx.first h_S_)) fun s : Fin n3 => v (ix4 b g k s) := by
  pointwise

/-- The greater of a constant and another entry. -/
theorem larger_at (w : BitVec 32) (R : FVec Ideal S2x8192x4 .f32) (b : Fin 2) (t : Fin 8192) (h : Fin 4) :
    (maximumf (broadcastInDim S2x8192x4 ![] bcast_S_S2x8192x4 (constant S_ .f32 w)) R) (ix3 b t h) = max (Ideal.ofBits .f32 w) (R (ix3 b t h)) := by
  pointwise

/-- The shift of a row is its largest. -/
theorem shift_at (L : FVec Ideal S2x8192x4x256 .f32) (b : Fin 2) (t : Fin 8192) (h : Fin 4) :
    Shift L (ix3 b t h) = Finset.univ.sup fun s : Fin 256 => L (ix4 b t h s) := by
  have e : Greatest L (ix3 b t h) = Finset.univ.fold max (Ideal.ofBits .f32 0xFF800000#32) fun s : Fin 256 => L (ix4 b t h s) := fold_at L _ _ b t h
  refine (larger_at _ _ b t h).trans ?_
  rw [e, Cert.SwaRefIdeal.Value.negInf, max_eq_right bot_le]
  rfl

/-- A weight at an index. -/
theorem weights_at (L : FVec Ideal S2x8192x4x256 .f32) (b : Fin 2) (t : Fin 8192) (h : Fin 4) (j : Fin 256) :
    Weights L (ix4 b t h j) = Ideal.exp (L (ix4 b t h j) - Shift L (ix3 b t h)) := by
  pointwise [Weights]

/-- A weighted mean at an index. -/
theorem mix_at (E : FVec Ideal S2x8192x4x256 .f32) (M : FVec Ideal S2x256x1024 .f32) (b : Fin 2) (t : Fin 8192) (h : Fin 4) (d : Fin 128) :
    Mix E M (ix3 b t ⟨h.val * 128 + d.val, by omega⟩) = ∑ j : Fin 256, M (ix3 b j ⟨512 + (h.val * 128 + d.val), by omega⟩)
      * Ideal.div (E (ix4 b t h j)) (∑ s : Fin 256, E (ix4 b t h s)) := by
  pointwise [Mix]
  blk_point []

end Cert.CrossRefIdeal.Value

namespace Cert.CrossIdeal.Value

open Idealize.ShloMosaic Idealize.ShloMosaic.TcCoe Idealize.SL.Sem
open Idealize.ShloMosaic.Pipeline (Dat)
open Cert.CrossIdeal Cert.CrossIdeal.Gen

/-- One head's row, divided once after the product. -/
def once (L v : Fin 256 → EReal) : EReal :=
  Ideal.div (∑ j, Ideal.exp (L j - Finset.univ.sup L) * v j) (∑ j, Ideal.exp (L j - Finset.univ.sup L))

/-- One head at row `r` and column `d`. -/
theorem head_at (k v : FVec Ideal S256x128 .bf16) (q : FVec Ideal S512x128 .bf16) (r : Fin 512) (d : Fin 128) :
    k0_pay7 (F := Ideal) k v q (ix3 0 r d) = once (fun j => ∑ x : Fin 128, q (ix2 r x) * k (ix2 j x)) (fun j => v (ix2 j d)) := by
  pointwise [k0_pay7, once]
  rw [Cert.SwaRefIdeal.Value.negInf]
  rfl

/-- The scale of the queries is a positive number. -/
theorem scale_eq : Ideal.ofBits FTy.f32 0x3DB504F3#32 = ((11863283 / 134217728 : ℝ) : EReal) := by
  simp [Ideal.ofBits, Ideal.ieee]
  refine (EReal.coe_mul _ _).symm.trans ?_
  norm_num

/-- Scaling the queries first scales the product. -/
theorem scaled (q k : Fin 128 → EReal) : ∑ x, q x * Ideal.ofBits FTy.f32 0x3DB504F3#32 * k x = (∑ x, k x * q x) * Ideal.ofBits FTy.f32 0x3DB504F3#32 := by
  rw [scale_eq, mul_comm (∑ x, k x * q x), Cert.Row.mul_sum _ _ (EReal.coe_nonneg.2 (by norm_num)) (EReal.coe_ne_top _)]
  refine Finset.sum_congr rfl fun x _ => ?_
  rw [mul_comm (q x), mul_assoc, mul_comm (q x)]

/-- A sum of real numbers is one. -/
theorem sum_real {ι : Type} [Fintype ι] (f : ι → EReal) (h : ∀ i, ∃ r : ℝ, f i = r) : ∃ r : ℝ, ∑ i, f i = r := by
  choose r hr using h
  exact ⟨∑ i, r i, by simp only [hr]; exact Cert.Row.coe_sum r⟩

/-- A product of real numbers is one. -/
theorem mul_real (a b : EReal) (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- Of real logits, dividing once is dividing every weight. -/
theorem once_eq (L v : Fin 256 → EReal) (hL : ∀ j, ∃ r : ℝ, L j = r) :
    once L v = ∑ j, v j * Ideal.div (Ideal.exp (L j - Finset.univ.sup L)) (∑ s, Ideal.exp (L s - Finset.univ.sup L)) := by
  obtain ⟨i, _, hi⟩ := Finset.exists_mem_eq_sup Finset.univ ⟨0, Finset.mem_univ _⟩ L
  obtain ⟨M, hM⟩ := hL i
  choose r hr using hL
  unfold once
  rw [hi, hM]
  have he : ∀ j, Ideal.exp (L j - (M : EReal)) = ((Real.exp (r j - M) : ℝ) : EReal) := by
    intro j
    rw [hr j, ← EReal.coe_sub, Ideal.exp_coe]
  simp only [he]
  rw [Cert.Row.coe_sum]
  obtain ⟨D, hD⟩ : ∃ D : ℝ, D = ∑ j, Real.exp (r j - M) := ⟨_, rfl⟩
  have hpos : 0 < D := by
    rw [hD]
    exact Finset.sum_pos (fun j _ => Real.exp_pos _) ⟨0, Finset.mem_univ _⟩
  rw [← hD, Ideal.div_coe hpos.ne', mul_comm, Cert.Row.mul_sum _ _ (by exact_mod_cast (one_div_pos.2 hpos).le) (EReal.coe_ne_top _)]
  refine Finset.sum_congr rfl fun j _ => ?_
  rw [Ideal.div_coe hpos.ne', mul_comm, mul_comm _ (v j), mul_assoc]

variable (m : (ℓ : Loc nD τ sig) → Buf (Elt Ideal) ℓ)

/-- The windows' block indices: point `t` is row block `t % 16` of sequence `t / 16`, over that sequence's memory. -/
theorem idx : ∀ t : Fin cfg0.N, win0_0.index t = ![t.val / 16, t.val % 16, 0] ∧ win0_1.index t = ![t.val / 16, 0, 0]
    ∧ win0_2.index t = ![t.val / 16, t.val % 16, 0] :=
  (by decide +kernel : ∀ t : Fin grid0.N, _)

/-- The reference's term over this program's argument arrays. -/
abbrev Out (c : Dev nD) : FVec Ideal Cert.CrossRefIdeal.S2x8192x512 .f32 :=
  Cert.CrossRefIdeal.Value.All (m ((c : Thread nD τ).loc main_arg0)) (m ((c : Thread nD τ).loc main_arg1))

open Cert.CrossRefIdeal.Value (All Logits Weights logits_at weights_at shift_at mix_at)

/-- One head of the kernel is one head of the reference, of real arguments. -/
theorem head_eq (Q : FVec Ideal Cert.CrossRefIdeal.S2x8192x512 .f32) (M : FVec Ideal Cert.CrossRefIdeal.S2x256x1024 .f32)
    (r0 : Cert.SwaRefIdeal.Value.Reals (S := Cert.CrossRefIdeal.S2x8192x512) Q) (r1 : Cert.SwaRefIdeal.Value.Reals (S := Cert.CrossRefIdeal.S2x256x1024) M)
    (b : Fin 2) (n : Fin 8192) (h : Fin 4) (k v : FVec Ideal S256x128 .bf16) (q : FVec Ideal S512x128 .bf16) (r : Fin 512) (d : Fin 128)
    (hq : ∀ x : Fin 128, q (ix2 r x) = Q (ix3 b n ⟨h.val * 128 + x.val, by omega⟩) * Ideal.ofBits FTy.f32 0x3DB504F3#32)
    (hk : ∀ (j : Fin 256) (x : Fin 128), k (ix2 j x) = M (ix3 b j ⟨h.val * 128 + x.val, by omega⟩))
    (hv : ∀ j : Fin 256, v (ix2 j d) = M (ix3 b j ⟨512 + (h.val * 128 + d.val), by omega⟩)) :
    k0_pay7 (F := Ideal) k v q (ix3 0 r d) = All Q M (ix3 b n ⟨h.val * 128 + d.val, by omega⟩) := by
  have hL : (fun j : Fin 256 => ∑ x : Fin 128, q (ix2 r x) * k (ix2 j x)) = fun j => Logits Q M (ix4 b n h j) := by
    funext j
    rw [logits_at, ← scaled]
    simp only [hq, hk]
  have hr : ∀ j : Fin 256, ∃ z : ℝ, Logits Q M (ix4 b n h j) = z := by
    intro j
    rw [logits_at]
    exact mul_real _ _ (sum_real _ fun x => mul_real _ _ (r1 _) (r0 _)) ⟨_, scale_eq⟩
  rw [head_at, hL, once_eq _ _ hr]
  refine Eq.trans ?_ (mix_at _ _ b n h d).symm
  simp only [weights_at, shift_at, hv]

set_option maxHeartbeats 4000000 in
/-- Of finite arguments, the array after the run is the reference's term. -/
theorem final (c : Dev nD) (r0 : Cert.SwaRefIdeal.Value.Reals (S := S2x8192x512) (m ((c : Thread nD τ).loc main_arg0)))
    (r1 : Cert.SwaRefIdeal.Value.Reals (S := S2x256x1024) (m ((c : Thread nD τ).loc main_arg1))) : (dats m 0 c).arrAt 2 (cfgs 0).N = Out m c := by
  refine (dats m 0 c).arrAt_eq_of_covers 2 _ (by decide +kernel) fun t _ y => ?_
  blk_simp
  rw [after0_2]
  frame_out
  have ht : t.val < 32 := t.isLt
  canon_tiles x h
  · idx_vars x
    idx_vars y
    have hx0 : x0 = 0 := Subsingleton.elim _ _
    subst hx0
    have he : ((View.whole main_v0).slice (win0_2.rect t)).emb (ix3 y0 y1 y2)
        = ix3 (⟨t.val / 16, by omega⟩ : Fin 2) (⟨t.val % 16 * 512 + x1.val, by omega⟩ : Fin 8192) (⟨(3 : Fin 4).val * 128 + x2.val, by omega⟩ : Fin 512) := by
      blk_ext [idx t]
    rw [he]
    refine head_eq _ _ r0 r1 _ _ 3 _ _ _ x1 x2 (fun x => ?_) (fun j x => ?_) (fun j => ?_)
    · pointwise [k0_pay9, k0_pay2]
      refine congrArg (· * _) ?_
      blk_point [iblk, V, idx t]
    · pointwise
      blk_point [iblk, V, idx t]
    · pointwise
      blk_point [iblk, V, idx t]
  · idx_vars x
    idx_vars y
    have hx0 : x0 = 0 := Subsingleton.elim _ _
    subst hx0
    have he : ((View.whole main_v0).slice (win0_2.rect t)).emb (ix3 y0 y1 y2)
        = ix3 (⟨t.val / 16, by omega⟩ : Fin 2) (⟨t.val % 16 * 512 + x1.val, by omega⟩ : Fin 8192) (⟨(2 : Fin 4).val * 128 + x2.val, by omega⟩ : Fin 512) := by
      blk_ext [idx t]
    rw [he]
    refine head_eq _ _ r0 r1 _ _ 2 _ _ _ x1 x2 (fun x => ?_) (fun j x => ?_) (fun j => ?_)
    · pointwise [k0_pay9, k0_pay2]
      refine congrArg (· * _) ?_
      blk_point [iblk, V, idx t]
    · pointwise
      blk_point [iblk, V, idx t]
    · pointwise
      blk_point [iblk, V, idx t]
  · idx_vars x
    idx_vars y
    have hx0 : x0 = 0 := Subsingleton.elim _ _
    subst hx0
    have he : ((View.whole main_v0).slice (win0_2.rect t)).emb (ix3 y0 y1 y2)
        = ix3 (⟨t.val / 16, by omega⟩ : Fin 2) (⟨t.val % 16 * 512 + x1.val, by omega⟩ : Fin 8192) (⟨(1 : Fin 4).val * 128 + x2.val, by omega⟩ : Fin 512) := by
      blk_ext [idx t]
    rw [he]
    refine head_eq _ _ r0 r1 _ _ 1 _ _ _ x1 x2 (fun x => ?_) (fun j x => ?_) (fun j => ?_)
    · pointwise [k0_pay6, k0_pay2]
      refine congrArg (· * _) ?_
      blk_point [iblk, V, idx t]
    · pointwise [k0_pay4]
      blk_point [iblk, V, idx t]
    · pointwise [k0_pay5]
      blk_point [iblk, V, idx t]
  · idx_vars x
    idx_vars y
    have hx0 : x0 = 0 := Subsingleton.elim _ _
    subst hx0
    have he : ((View.whole main_v0).slice (win0_2.rect t)).emb (ix3 y0 y1 y2)
        = ix3 (⟨t.val / 16, by omega⟩ : Fin 2) (⟨t.val % 16 * 512 + x1.val, by omega⟩ : Fin 8192) (⟨(0 : Fin 4).val * 128 + x2.val, by omega⟩ : Fin 512) := by
      blk_ext [idx t]
    rw [he]
    refine head_eq _ _ r0 r1 _ _ 0 _ _ _ x1 x2 (fun x => ?_) (fun j x => ?_) (fun j => ?_)
    · pointwise [k0_pay2]
      refine congrArg (· * _) ?_
      blk_point [iblk, V, idx t]
    · pointwise
      blk_point [iblk, V, idx t]
    · pointwise
      blk_point [iblk, V, idx t]

end Cert.CrossIdeal.Value

end
-- ==== Proof.EvenIn.lean ====
/- The projection of an even layer: the kernel multiplies with permuted columns of the weights, the reference permutes the product's columns. -/
module

public import proofs.«01_k».proof.Proof.Gen.EvenInIdeal.Value
public import proofs.«01_k».proof.Proof.Gen.EvenInRefIdeal.Run
public import Idealize.ShloMosaic.Lib.Pipeline.ValueKit

@[expose] public section

set_option maxRecDepth 16384

noncomputable section

namespace Cert.Columns

open Idealize.ShloMosaic

/-- Which column of the weights stands at column `k` of the result, where one does. -/
def col (k : ℕ) : ℕ :=
  if k < 512 then k else if k < 1024 then k + 452 else if k < 1280 then k - 384 else if k < 1408 then k - 768
  else if k < 1476 then k - 512 else if k < 1500 then k + 768 else if k < 1536 then 0 else k - 60

/-- It is a column of the weights. -/
theorem col_lt (k : Fin 2304) : col k.val < 2268 := by
  have := k.isLt
  unfold col
  split_ifs <;> omega

/-- An array's entry in row `r` at result column `k`: zero in the unused columns. -/
def pick {n : ℕ} (P : (⟨2, ![n, 2268]⟩ : Shape).Idx → EReal) (r : Fin n) (k : Fin 2304) : EReal :=
  if 1500 ≤ k.val ∧ k.val < 1536 then 0 else P (ix2 r ⟨col k.val, col_lt k⟩)

/-- Away from the unused columns, the entry at any column equal to the one that stands there. -/
theorem pick_of {n : ℕ} (P : (⟨2, ![n, 2268]⟩ : Shape).Idx → EReal) (r : Fin n) (k : Fin 2304) (x : Fin 2268)
    (h : ¬ (1500 ≤ k.val ∧ k.val < 1536)) (e : x.val = col k.val) : P (ix2 r x) = pick P r k := by
  unfold pick
  rw [if_neg h]
  exact congrArg (fun y => P (ix2 r y)) (Fin.ext e)

/-- The unused columns hold zero. -/
theorem pick_zero {n : ℕ} (P : (⟨2, ![n, 2268]⟩ : Shape).Idx → EReal) (r : Fin n) (k : Fin 2304) (h : 1500 ≤ k.val ∧ k.val < 1536) :
    0 = pick P r k := (if_pos h).symm

/-- Columns `[C]` of a table `[N, H]` at column numbers `[C, 1]`. -/
abbrev dims (N H C : ℕ) (wf : GatherDims.WF ⟨2, ![N, H]⟩ ⟨2, ![C, 1]⟩ ⟨2, ![N, C]⟩ [0] [1] [] [1] [] 1 ![N, 1]) :
    GatherDims ⟨2, ![N, H]⟩ ⟨2, ![C, 1]⟩ ⟨2, ![N, C]⟩ where
  offsetDims := [0]
  collapsedSliceDims := [1]
  operandBatchingDims := []
  startIndicesBatchingDims := []
  startIndexMap := [1]
  indexVectorDim := 1
  sliceSizes := ![N, 1]
  wf := wf

/-- The look-up at `(r, c)`: row `r` of the column the number names, read signed and held within the table. -/
theorem columns {N H C : ℕ} (hH : 0 < H) {α : Type}
    (wf : GatherDims.WF ⟨2, ![N, H]⟩ ⟨2, ![C, 1]⟩ ⟨2, ![N, C]⟩ [0] [1] [] [1] [] 1 ![N, 1])
    (x : (⟨2, ![N, H]⟩ : Shape).Idx → α) (w : IVec ⟨2, ![C, 1]⟩ 32) (r : Fin N) (c : Fin C) :
    Host.gather (dims N H C wf) x w (ix2 r c) = x (ix2 r ⟨min (w (ix2 c 0)).toInt.toNat (H - 1), by omega⟩) := by
  unfold Host.gather
  refine congrArg x (funext fun a => Fin.ext ?_)
  match a with
  | ⟨1, _⟩ =>
    show (dims N H C wf).start (ix2 r c) w 1 + (dims N H C wf).batchCoord (ix2 r c) 1
      + (dims N H C wf).offCoord (ix2 r c) 1 = min (w (ix2 c 0)).toInt.toNat (H - 1)
    have hs : (dims N H C wf).siIdx (ix2 r c) ⟨0, Nat.one_pos⟩ = ix2 c 0 := by
      funext b
      match b with
      | ⟨0, _⟩ => rfl
      | ⟨1, _⟩ => rfl
    have e1 : (dims N H C wf).start (ix2 r c) w 1
        = min (w ((dims N H C wf).siIdx (ix2 r c) ⟨0, Nat.one_pos⟩)).toInt.toNat (H - 1) := rfl
    have e2 : (dims N H C wf).batchCoord (ix2 r c) 1 = 0 := rfl
    have e3 : (dims N H C wf).offCoord (ix2 r c) 1 = 0 := rfl
    rw [e1, e2, e3, hs]; rfl
  | ⟨0, _⟩ =>
    show (dims N H C wf).start (ix2 r c) w 0 + (dims N H C wf).batchCoord (ix2 r c) 0
      + (dims N H C wf).offCoord (ix2 r c) 0 = r.val
    have e1 : (dims N H C wf).start (ix2 r c) w 0 = 0 := rfl
    have e2 : (dims N H C wf).batchCoord (ix2 r c) 0 = 0 := rfl
    have e3 : (dims N H C wf).offCoord (ix2 r c) 0 = r.val := rfl
    rw [e1, e2, e3]; omega

/-- A small number read back from its word. -/
theorem word_at (n : ℕ) (h : n < 2268) : min (BitVec.ofNat 32 n).toInt.toNat (2268 - 1) = n := by
  rw [BitVec.toInt_eq_toNat_bmod, BitVec.toNat_ofNat, Int.bmod_def]
  split <;> omega

end Cert.Columns

namespace Cert.EvenInRefIdeal.Value

open Idealize.ShloMosaic Idealize.ShloMosaic.TcCoe Idealize.SL.Sem
open Cert.EvenInRefIdeal Cert.EvenInRefIdeal.Gen
open Cert.Columns (col pick pick_of pick_zero)

/-- The rows times the weights. -/
def Product (X : FVec Ideal S16384x1024 .f32) (W : FVec Ideal S1024x2268 .f32) : FVec Ideal S16384x2268 .f32 :=
  Host.dotGeneral dot_S16384x1024_S1024x2268_S16384x2268_1_0_0_1_n_n none X W

/-- Its parts in the order of the result. -/
def Parts (P : FVec Ideal S16384x2268 .f32) : FVec Ideal S16384x2304 .f32 :=
  concatenate S16384x2304 1 [⟨S16384x512, (extractStridedSlice S16384x512 ![0, 0] P slices_S16384x2268_S16384x512_0_0)⟩, ⟨S16384x512, (extractStridedSlice S16384x512 ![0, 964] P slices_S16384x2268_S16384x512_0_964)⟩, ⟨S16384x256, (extractStridedSlice S16384x256 ![0, 640] P slices_S16384x2268_S16384x256_0_640)⟩, ⟨S16384x64, (extractStridedSlice S16384x64 ![0, 512] P slices_S16384x2268_S16384x64_0_512)⟩, ⟨S16384x64, (extractStridedSlice S16384x64 ![0, 576] P slices_S16384x2268_S16384x64_0_576)⟩, ⟨S16384x64, (extractStridedSlice S16384x64 ![0, 896] P slices_S16384x2268_S16384x64_0_896)⟩, ⟨S16384x4, (extractStridedSlice S16384x4 ![0, 960] P slices_S16384x2268_S16384x4_0_960)⟩, ⟨S16384x24, (extractStridedSlice S16384x24 ![0, 2244] P slices_S16384x2268_S16384x24_0_2244)⟩, ⟨S16384x36, (broadcastInDim S16384x36 ![] bcast_S_S16384x36 (constant S_ .f32 0x00000000#32))⟩, ⟨S16384x128, (extractStridedSlice S16384x128 ![0, 1476] P slices_S16384x2268_S16384x128_0_1476)⟩, ⟨S16384x128, (extractStridedSlice S16384x128 ![0, 1604] P slices_S16384x2268_S16384x128_0_1604)⟩, ⟨S16384x128, (extractStridedSlice S16384x128 ![0, 1732] P slices_S16384x2268_S16384x128_0_1732)⟩, ⟨S16384x128, (extractStridedSlice S16384x128 ![0, 1860] P slices_S16384x2268_S16384x128_0_1860)⟩, ⟨S16384x128, (extractStridedSlice S16384x128 ![0, 1988] P slices_S16384x2268_S16384x128_0_1988)⟩, ⟨S16384x128, (extractStridedSlice S16384x128 ![0, 2116] P slices_S16384x2268_S16384x128_0_2116)⟩] concatenates_S16384x512_S16384x512_S16384x256_S16384x64_S16384x64_S16384x64_S16384x4_S16384x24_S16384x36_S16384x128_S16384x128_S16384x128_S16384x128_S16384x128_S16384x128_S16384x2304_d1

/-- The reference's result. -/
def All (X : FVec Ideal S16384x1024 .f32) (W : FVec Ideal S1024x2268 .f32) : FVec Ideal S16384x2304 .f32 := Parts (Product X W)

/-- An entry of the product is the sum over the 1024 features. -/
theorem product_at (X : FVec Ideal S16384x1024 .f32) (W : FVec Ideal S1024x2268 .f32) (r : Fin 16384) (k : Fin 2268) :
    Product X W (ix2 r k) = ∑ d : Fin 1024, X (ix2 r d) * W (ix2 d k) := by
  pointwise [Product]

/-- An entry of a joining of parts is the entry of the part that stands there. -/
theorem joined {w : ℕ} (xs : List ((s : Shape) × (s.Idx → EReal))) (h : Shape.Concatenates (xs.map (·.1)) S16384x2304 1)
    (r : Fin 16384) (k : Fin 2304) (i : ℕ) (hi : i < xs.length) (x : (⟨2, ![16384, w]⟩ : Shape).Idx → EReal) (hx : xs[i] = ⟨_, x⟩)
    (pre : ℕ) (hpre : (((xs.take i).map (·.1)).map fun s =>
      if h : s.rank = S16384x2304.rank then s.size ((1 : Fin S16384x2304.rank).cast h.symm) else 0).sum = pre)
    (c : Fin w) (e : pre + c.val = k.val) : concatenate S16384x2304 1 xs h (ix2 r k) = x (ix2 r c) :=
  concatenate_apply_piece (t := S16384x2304) 1 xs h (ix2 r k) i hi ⟨2, ![16384, w]⟩ x hx rfl pre hpre (ix2 r c)
    (fun b hb => by
      match b, hb with
      | ⟨0, _⟩, _ => rfl
      | ⟨1, _⟩, hb => exact absurd rfl hb) e

/-- An entry of a slice of columns. -/
theorem cut_at {w o : ℕ} (P : FVec Ideal S16384x2268 .f32) (h : S16384x2268.Slices ![0, o] ⟨2, ![16384, w]⟩) (r : Fin 16384) (c : Fin w)
    (ho : o + c.val < 2268) : extractStridedSlice ⟨2, ![16384, w]⟩ ![0, o] P h (ix2 r c) = P (ix2 r ⟨o + c.val, ho⟩) := by
  refine congrArg P (funext fun a => Fin.ext ?_)
  match a with
  | ⟨0, _⟩ => show 0 + r.val = r.val; omega
  | ⟨1, _⟩ => rfl

/-- The zeros that stand in the unused columns. -/
theorem unused_at (r : Fin 16384) (c : Fin 36) :
    (broadcastInDim S16384x36 ![] bcast_S_S16384x36 (constant (F := Ideal) S_ .f32 0x00000000#32)) (ix2 r c) = 0 := by
  pointwise

set_option maxHeartbeats 4000000 in
/-- An entry of the parts. -/
theorem parts_at (P : FVec Ideal S16384x2268 .f32) (r : Fin 16384) (k : Fin 2304) : Parts P (ix2 r k) = pick P r k := by
  have hk := k.isLt
  by_cases h0 : k.val < 512
  · exact (joined _ _ r k 0 (by show 0 < 15; omega) _ rfl 0 rfl (⟨k.val - 0, by omega⟩ : Fin 512) (by show 0 + (k.val - 0) = k.val; omega)).trans
      ((cut_at P _ r _ (by show 0 + (k.val - 0) < 2268; omega)).trans (pick_of P r k _ (by omega)
      (by show 0 + (k.val - 0) = col k.val; unfold col; split_ifs <;> omega)))
  by_cases h1 : k.val < 1024
  · exact (joined _ _ r k 1 (by show 1 < 15; omega) _ rfl 512 rfl (⟨k.val - 512, by omega⟩ : Fin 512) (by show 512 + (k.val - 512) = k.val; omega)).trans
      ((cut_at P _ r _ (by show 964 + (k.val - 512) < 2268; omega)).trans (pick_of P r k _ (by omega)
      (by show 964 + (k.val - 512) = col k.val; unfold col; split_ifs <;> omega)))
  by_cases h2 : k.val < 1280
  · exact (joined _ _ r k 2 (by show 2 < 15; omega) _ rfl 1024 rfl (⟨k.val - 1024, by omega⟩ : Fin 256) (by show 1024 + (k.val - 1024) = k.val; omega)).trans
      ((cut_at P _ r _ (by show 640 + (k.val - 1024) < 2268; omega)).trans (pick_of P r k _ (by omega)
      (by show 640 + (k.val - 1024) = col k.val; unfold col; split_ifs <;> omega)))
  by_cases h3 : k.val < 1344
  · exact (joined _ _ r k 3 (by show 3 < 15; omega) _ rfl 1280 rfl (⟨k.val - 1280, by omega⟩ : Fin 64) (by show 1280 + (k.val - 1280) = k.val; omega)).trans
      ((cut_at P _ r _ (by show 512 + (k.val - 1280) < 2268; omega)).trans (pick_of P r k _ (by omega)
      (by show 512 + (k.val - 1280) = col k.val; unfold col; split_ifs <;> omega)))
  by_cases h4 : k.val < 1408
  · exact (joined _ _ r k 4 (by show 4 < 15; omega) _ rfl 1344 rfl (⟨k.val - 1344, by omega⟩ : Fin 64) (by show 1344 + (k.val - 1344) = k.val; omega)).trans
      ((cut_at P _ r _ (by show 576 + (k.val - 1344) < 2268; omega)).trans (pick_of P r k _ (by omega)
      (by show 576 + (k.val - 1344) = col k.val; unfold col; split_ifs <;> omega)))
  by_cases h5 : k.val < 1472
  · exact (joined _ _ r k 5 (by show 5 < 15; omega) _ rfl 1408 rfl (⟨k.val - 1408, by omega⟩ : Fin 64) (by show 1408 + (k.val - 1408) = k.val; omega)).trans
      ((cut_at P _ r _ (by show 896 + (k.val - 1408) < 2268; omega)).trans (pick_of P r k _ (by omega)
      (by show 896 + (k.val - 1408) = col k.val; unfold col; split_ifs <;> omega)))
  by_cases h6 : k.val < 1476
  · exact (joined _ _ r k 6 (by show 6 < 15; omega) _ rfl 1472 rfl (⟨k.val - 1472, by omega⟩ : Fin 4) (by show 1472 + (k.val - 1472) = k.val; omega)).trans
      ((cut_at P _ r _ (by show 960 + (k.val - 1472) < 2268; omega)).trans (pick_of P r k _ (by omega)
      (by show 960 + (k.val - 1472) = col k.val; unfold col; split_ifs <;> omega)))
  by_cases h7 : k.val < 1500
  · exact (joined _ _ r k 7 (by show 7 < 15; omega) _ rfl 1476 rfl (⟨k.val - 1476, by omega⟩ : Fin 24) (by show 1476 + (k.val - 1476) = k.val; omega)).trans
      ((cut_at P _ r _ (by show 2244 + (k.val - 1476) < 2268; omega)).trans (pick_of P r k _ (by omega)
      (by show 2244 + (k.val - 1476) = col k.val; unfold col; split_ifs <;> omega)))
  by_cases h8 : k.val < 1536
  · exact (joined _ _ r k 8 (by show 8 < 15; omega) _ rfl 1500 rfl (⟨k.val - 1500, by omega⟩ : Fin 36) (by show 1500 + (k.val - 1500) = k.val; omega)).trans
      ((unused_at r _).trans (pick_zero P r k (by omega)))
  by_cases h9 : k.val < 1664
  · exact (joined _ _ r k 9 (by show 9 < 15; omega) _ rfl 1536 rfl (⟨k.val - 1536, by omega⟩ : Fin 128) (by show 1536 + (k.val - 1536) = k.val; omega)).trans
      ((cut_at P _ r _ (by show 1476 + (k.val - 1536) < 2268; omega)).trans (pick_of P r k _ (by omega)
      (by show 1476 + (k.val - 1536) = col k.val; unfold col; split_ifs <;> omega)))
  by_cases h10 : k.val < 1792
  · exact (joined _ _ r k 10 (by show 10 < 15; omega) _ rfl 1664 rfl (⟨k.val - 1664, by omega⟩ : Fin 128) (by show 1664 + (k.val - 1664) = k.val; omega)).trans
      ((cut_at P _ r _ (by show 1604 + (k.val - 1664) < 2268; omega)).trans (pick_of P r k _ (by omega)
      (by show 1604 + (k.val - 1664) = col k.val; unfold col; split_ifs <;> omega)))
  by_cases h11 : k.val < 1920
  · exact (joined _ _ r k 11 (by show 11 < 15; omega) _ rfl 1792 rfl (⟨k.val - 1792, by omega⟩ : Fin 128) (by show 1792 + (k.val - 1792) = k.val; omega)).trans
      ((cut_at P _ r _ (by show 1732 + (k.val - 1792) < 2268; omega)).trans (pick_of P r k _ (by omega)
      (by show 1732 + (k.val - 1792) = col k.val; unfold col; split_ifs <;> omega)))
  by_cases h12 : k.val < 2048
  · exact (joined _ _ r k 12 (by show 12 < 15; omega) _ rfl 1920 rfl (⟨k.val - 1920, by omega⟩ : Fin 128) (by show 1920 + (k.val - 1920) = k.val; omega)).trans
      ((cut_at P _ r _ (by show 1860 + (k.val - 1920) < 2268; omega)).trans (pick_of P r k _ (by omega)
      (by show 1860 + (k.val - 1920) = col k.val; unfold col; split_ifs <;> omega)))
  by_cases h13 : k.val < 2176
  · exact (joined _ _ r k 13 (by show 13 < 15; omega) _ rfl 2048 rfl (⟨k.val - 2048, by omega⟩ : Fin 128) (by show 2048 + (k.val - 2048) = k.val; omega)).trans
      ((cut_at P _ r _ (by show 1988 + (k.val - 2048) < 2268; omega)).trans (pick_of P r k _ (by omega)
      (by show 1988 + (k.val - 2048) = col k.val; unfold col; split_ifs <;> omega)))
  exact (joined _ _ r k 14 (by show 14 < 15; omega) _ rfl 2176 rfl (⟨k.val - 2176, by omega⟩ : Fin 128) (by show 2176 + (k.val - 2176) = k.val; omega)).trans
    ((cut_at P _ r _ (by show 2116 + (k.val - 2176) < 2268; omega)).trans (pick_of P r k _ (by omega)
    (by show 2116 + (k.val - 2176) = col k.val; unfold col; split_ifs <;> omega)))

end Cert.EvenInRefIdeal.Value

namespace Cert.EvenInIdeal.Value

open Idealize.ShloMosaic Idealize.ShloMosaic.TcCoe Idealize.SL.Sem
open Idealize.ShloMosaic.Pipeline (Dat)
open Cert.EvenInIdeal Cert.EvenInIdeal.Gen
open Cert.Columns (col col_lt pick pick_of pick_zero)

/-- The first table of columns, in closed form. -/
theorem head_col : ∀ i : Fin 1500, lit0 i = BitVec.ofNat 32 (col i.val) := by decide +kernel

/-- The second table of columns, in closed form. -/
theorem tail_col : ∀ i : Fin 768, lit1 i = BitVec.ofNat 32 (1476 + i.val) := by decide +kernel

/-- The first table. -/
def Heads : IVec S1500 32 := fun i => lit0 (S1500.rowMajor i)

/-- The second table. -/
def Tails : IVec S768 32 := fun i => lit1 (S768.rowMajor i)

/-- The first table as the look-up takes it. -/
def HeadsW : IVec S1500 32 := select (constantI S1500 1 0#1) (addi Heads (broadcastInDim S1500 ![] bcast_S_S1500 (constantI S_ 32 2268#32))) Heads

/-- The second table as the look-up takes it. -/
def TailsW : IVec S768 32 := select (constantI S768 1 0#1) (addi Tails (broadcastInDim S768 ![] bcast_S_S768 (constantI S_ 32 2268#32))) Tails

/-- The weights' columns before the unused ones. -/
def Front (W : FVec Ideal S1024x2268 .f32) : FVec Ideal S1024x1500 .f32 :=
  Host.gather gather_S1024x2268_S1500x1_S1024x1500_0_1_n_n_1_1_10241 W (broadcastInDim S1500x1 ![0] bcast_S1500_S1500x1_0 HeadsW)

/-- The weights' columns behind the unused ones. -/
def Back (W : FVec Ideal S1024x2268 .f32) : FVec Ideal S1024x768 .f32 :=
  Host.gather gather_S1024x2268_S768x1_S1024x768_0_1_n_n_1_1_10241 W (broadcastInDim S768x1 ![0] bcast_S768_S768x1_0 TailsW)

/-- Three blocks of columns side by side. -/
def Beside (A : FVec Ideal S1024x1500 .f32) (Z : FVec Ideal S1024x36 .f32) (B : FVec Ideal S1024x768 .f32) : FVec Ideal S1024x2304 .bf16 :=
  truncf .bf16 (concatenate S1024x2304 1 [⟨S1024x1500, A⟩, ⟨S1024x36, Z⟩, ⟨S1024x768, B⟩] concatenates_S1024x1500_S1024x36_S1024x768_S1024x2304_d1) bitsLt_bf16_f32

/-- The weights as the kernel reads them. -/
def Side (W : FVec Ideal S1024x2268 .f32) : FVec Ideal S1024x2304 .bf16 :=
  Beside (Front W) (broadcastInDim S1024x36 ![] bcast_S_S1024x36 (constant S_ .f32 0x00000000#32)) (Back W)

/-- The first table at an entry. -/
theorem headsW_at (i : Fin 1500) : HeadsW (ix1 i) = BitVec.ofNat 32 (col i.val) := by
  have e : S1500.rowMajor (ix1 i) = i := Fin.ext (Shape.rowMajor_val_one _)
  refine Eq.trans ?_ (head_col i)
  show lit0 (S1500.rowMajor (ix1 i)) = _
  rw [e]

/-- The second table at an entry. -/
theorem tailsW_at (i : Fin 768) : TailsW (ix1 i) = BitVec.ofNat 32 (1476 + i.val) := by
  have e : S768.rowMajor (ix1 i) = i := Fin.ext (Shape.rowMajor_val_one _)
  refine Eq.trans ?_ (tail_col i)
  show lit1 (S768.rowMajor (ix1 i)) = _
  rw [e]

/-- The front columns at an entry. -/
theorem front_at (W : FVec Ideal S1024x2268 .f32) (d : Fin 1024) (i : Fin 1500) :
    Front W (ix2 d i) = W (ix2 d ⟨col i.val, col_lt ⟨i.val, by omega⟩⟩) := by
  refine (Cert.Columns.columns (by decide) _ W _ d i).trans (congrArg (fun y => W (ix2 d y)) (Fin.ext ?_))
  have e : (broadcastInDim S1500x1 ![0] bcast_S1500_S1500x1_0 HeadsW) (ix2 i 0) = BitVec.ofNat 32 (col i.val) := by
    refine Eq.trans ?_ (headsW_at i)
    generalize HeadsW = G
    pointwise
  show min ((broadcastInDim S1500x1 ![0] bcast_S1500_S1500x1_0 HeadsW) (ix2 i 0)).toInt.toNat (2268 - 1) = col i.val
  rw [e]
  exact Cert.Columns.word_at _ (col_lt ⟨i.val, by omega⟩)

/-- The back columns at an entry. -/
theorem back_at (W : FVec Ideal S1024x2268 .f32) (d : Fin 1024) (i : Fin 768) :
    Back W (ix2 d i) = W (ix2 d ⟨1476 + i.val, by omega⟩) := by
  refine (Cert.Columns.columns (by decide) _ W _ d i).trans (congrArg (fun y => W (ix2 d y)) (Fin.ext ?_))
  have e : (broadcastInDim S768x1 ![0] bcast_S768_S768x1_0 TailsW) (ix2 i 0) = BitVec.ofNat 32 (1476 + i.val) := by
    refine Eq.trans ?_ (tailsW_at i)
    generalize TailsW = G
    pointwise
  show min ((broadcastInDim S768x1 ![0] bcast_S768_S768x1_0 TailsW) (ix2 i 0)).toInt.toNat (2268 - 1) = 1476 + i.val
  rw [e]
  exact Cert.Columns.word_at _ (by omega)

/-- Three blocks side by side, at an entry. -/
theorem beside_at (A : FVec Ideal S1024x1500 .f32) (Z : FVec Ideal S1024x36 .f32) (B : FVec Ideal S1024x768 .f32) (d : Fin 1024) (k : Fin 2304) :
    Beside A Z B (ix2 d k) = if p : k.val < 1500 then A (ix2 d ⟨k.val, p⟩) else if q : k.val < 1536 then Z (ix2 d ⟨k.val - 1500, by omega⟩)
      else B (ix2 d ⟨k.val - 1536, by omega⟩) := by
  have hk := k.isLt
  pointwise [Beside]
  by_cases p : k.val < 1500
  · rw [dif_pos p, dif_pos p]
  · rw [dif_neg p, dif_neg p]
    by_cases q : k.val < 1536
    · rw [dif_pos q, dif_pos (by omega)]
    · rw [dif_neg q, dif_neg (by omega)]
      exact congrArg (fun y => B (ix2 d y)) (Fin.ext (by show k.val - 1500 - 36 = k.val - 1536; omega))

/-- The kernel's weights at an entry. -/
theorem side_at (W : FVec Ideal S1024x2268 .f32) (d : Fin 1024) (k : Fin 2304) : Side W (ix2 d k) = pick W d k := by
  refine (beside_at _ _ _ d k).trans ?_
  by_cases p : k.val < 1500
  · rw [dif_pos p, front_at]
    exact pick_of W d k _ (by omega) rfl
  · rw [dif_neg p]
    by_cases q : k.val < 1536
    · rw [dif_pos q]
      refine Eq.trans ?_ (pick_zero W d k (by omega))
      pointwise
    · rw [dif_neg q, back_at]
      exact pick_of W d k _ (by omega) (by simp only [col]; split_ifs <;> omega)

/-- What the body stores at row `r` and column `k`. -/
theorem product_at (x : FVec Ideal S512x1024 .f32) (w : FVec Ideal S1024x2304 .bf16) (r : Fin 512) (k : Fin 2304) :
    k0_pay1 (F := Ideal) x w (ix2 r k) = ∑ d : Fin 1024, x (ix2 r d) * w (ix2 d k) := by
  pointwise [k0_pay1]

variable (m : (ℓ : Loc nD τ sig) → Buf (Elt Ideal) ℓ)

/-- The windows' block indices: the row windows move with the point, the weights stay. -/
theorem idx : ∀ t : Fin cfg0.N, win0_0.index t = ![t.val, 0] ∧ win0_1.index t = ![0, 0] ∧ win0_2.index t = ![t.val, 0] :=
  (by decide +kernel : ∀ t : Fin grid0.N, _)

set_option maxHeartbeats 4000000 in
/-- The launch reads those weights. -/
theorem side_eq (c : Dev nD) : V m c main_v12 = Side (m ((c : Thread nD τ).loc main_arg1)) := by
  show StableHlo.after _ _ _ = _
  rfl

/-- The weights' block is the weights. -/
theorem weightBlk (c : Dev nD) (t : Fin cfg0.N) (d : Fin 1024) (k : Fin 2304) :
    iblk m c 1 t (ix2 d k) = pick (n := 1024) (m ((c : Thread nD τ).loc main_arg1)) d k := by
  refine Eq.trans ?_ ((congrFun (side_eq m c) (ix2 d k)).trans (side_at _ d k))
  generalize hB : V m c main_v12 = B
  blk_point [iblk, idx t, hB]

/-- The reference's term over this program's argument arrays. -/
abbrev Out (c : Dev nD) : FVec Ideal Cert.EvenInRefIdeal.S16384x2304 .f32 :=
  Cert.EvenInRefIdeal.Value.All (m ((c : Thread nD τ).loc main_arg0)) (m ((c : Thread nD τ).loc main_arg1))

/-- A column of the product is the product with that column, and zero where it is unused. -/
theorem pick_product (X : FVec Ideal Cert.EvenInRefIdeal.S16384x1024 .f32) (W : FVec Ideal Cert.EvenInRefIdeal.S1024x2268 .f32) (r : Fin 16384) (k : Fin 2304) :
    ∑ d : Fin 1024, X (ix2 r d) * pick (n := 1024) W d k = pick (n := 16384) (Cert.EvenInRefIdeal.Value.Product X W) r k := by
  by_cases h : 1500 ≤ k.val ∧ k.val < 1536
  · rw [← pick_zero (n := 16384) _ r k h]
    refine Finset.sum_eq_zero fun d _ => ?_
    rw [← pick_zero (n := 1024) W d k h, mul_zero]
  · rw [← pick_of (n := 16384) _ r k ⟨col k.val, col_lt k⟩ h rfl, Cert.EvenInRefIdeal.Value.product_at]
    refine Finset.sum_congr rfl fun d _ => ?_
    rw [← pick_of (n := 1024) W d k ⟨col k.val, col_lt k⟩ h rfl]

/-- The array after the run is the reference's term. -/
theorem final (c : Dev nD) : (dats m 0 c).arrAt 2 (cfgs 0).N = Out m c := by
  refine (dats m 0 c).arrAt_eq_of_covers 2 _ (by decide +kernel) fun t _ y => ?_
  blk_simp
  rw [after0_2]; frame_out
  idx_vars y
  have ht : t.val < 32 := t.isLt
  have he : ((View.whole main_v13).slice (win0_2.rect t)).emb (ix2 y0 y1)
      = ix2 (⟨t.val * 512 + y0.val, by omega⟩ : Fin 16384) y1 := by blk_ext [idx t]
  rw [he]
  refine (product_at _ _ y0 y1).trans (Eq.trans ?_ (Cert.EvenInRefIdeal.Value.parts_at _ _ _).symm)
  refine Eq.trans ?_ (pick_product _ _ _ _)
  refine Finset.sum_congr rfl fun d _ => congrArg₂ (· * ·) ?_ (weightBlk m c t d y1)
  blk_point [iblk, V, idx t]

end Cert.EvenInIdeal.Value

end
-- ==== Proof.Compress.lean ====
/- The compression of an even layer's keys and values: two heads at once through weights laid along a diagonal. -/
module

public import proofs.«01_k».proof.Proof.Gen.CompressIdeal.Value
public import proofs.«01_k».proof.Proof.Gen.CompressRefIdeal.Run
public import Idealize.ShloMosaic.Lib.Pipeline.ValueKit

@[expose] public section

set_option maxRecDepth 16384

noncomputable section

namespace Cert.Compress

open Idealize.ShloMosaic

/-- The smooth rectifier of a hidden unit. -/
def gelu (x : EReal) : EReal :=
  x * (Ideal.ofBits .f32 0x3F000000#32 * (Ideal.ofBits .f32 0x3F800000#32 + Ideal.tanh (Ideal.ofBits .f32 0x3F4C422A#32
    * (x + Ideal.ofBits .f32 0x3D372713#32 * (x * x * x)))))

/-- A sum over 128 columns is the sum over two heads of the sums over their 64 columns. -/
theorem sum_pair (f : Fin 128 → EReal) : ∑ k, f k = ∑ h : Fin 2, ∑ d : Fin 64, f ⟨h.val * 64 + d.val, by omega⟩ := by
  symm
  rw [← Fintype.sum_prod_type', ← Equiv.sum_comp (finProdFinEquiv (m := 2) (n := 64)) f]
  refine Finset.sum_congr rfl fun p _ => congrArg f (Fin.ext ?_)
  show p.1.val * 64 + p.2.val = p.2.val + 64 * p.1.val
  omega

/-- A product with weights that are zero off a head's own columns is the product over that head. -/
theorem own (p w : Fin 128 → EReal) (h : Fin 2) (a : Fin 64 → EReal)
    (hw : ∀ (g : Fin 2) (e : Fin 64), w ⟨g.val * 64 + e.val, by omega⟩ = if g = h then a e else 0) :
    ∑ k, p k * w k = ∑ e : Fin 64, p ⟨h.val * 64 + e.val, by omega⟩ * a e := by
  rw [sum_pair, Finset.sum_eq_single h]
  · refine Finset.sum_congr rfl fun e _ => ?_
    rw [hw, if_pos rfl]
  · intro g _ hg
    refine Finset.sum_eq_zero fun e _ => ?_
    rw [hw, if_neg hg, mul_zero]
  · intro hn
    exact absurd (Finset.mem_univ _) hn

/-- One compressed entry: pooled columns `q`, weights `a` into the hidden units and `b` out of them. -/
def unit (q : Fin 64 → EReal) (a : Fin 64 → Fin 64 → EReal) (b : Fin 64 → EReal) : EReal :=
  ∑ j, gelu (∑ e, q e * a e j) * b j

end Cert.Compress

namespace Cert.CompressRefIdeal.Value

open Idealize.ShloMosaic Idealize.ShloMosaic.TcCoe Idealize.SL.Sem
open Cert.CompressRefIdeal Cert.CompressRefIdeal.Gen

/-- The blocks' weighted sums. -/
def Pool (X : FVec Ideal S2x8192x128 .f32) (P : FVec Ideal S64x64 .f32) : FVec Ideal S2x128x2x64 .f32 :=
  transpose S2x128x2x64 [1, 2, 3, 0] (Host.dotGeneral dot_S64x64_S2x128x64x2x64_S64x2x128x2_0_2_n_013_1_4 none P (shapeCast _ (shapeCast _ X shapeCasts_S2x8192x128_S2x8192x2x64) shapeCasts_S2x8192x2x64_S2x128x64x2x64)) transposes_S64x2x128x2_S2x128x2x64_1_2_3_0

/-- A product with one layer's weights. -/
def Times (T : FVec Ideal S2x128x2x64 .f32) (A : FVec Ideal S64x64 .f32) : FVec Ideal S2x128x2x64 .f32 :=
  Host.dotGeneral dot_S2x128x2x64_S64x64_S2x128x2x64_3_0_012_1_n_n none T A

/-- The hidden units. -/
def Hidden (T : FVec Ideal S2x128x2x64 .f32) : FVec Ideal S2x128x2x64 .f32 :=
  mulf T (mulf (broadcastInDim S2x128x2x64 ![] bcast_S_S2x128x2x64 (constant S_ .f32 0x3F000000#32)) (addf (broadcastInDim S2x128x2x64 ![] bcast_S_S2x128x2x64 (constant S_ .f32 0x3F800000#32)) (Host.tanh (mulf (broadcastInDim S2x128x2x64 ![] bcast_S_S2x128x2x64 (constant S_ .f32 0x3F4C422A#32)) (addf T (mulf (broadcastInDim S2x128x2x64 ![] bcast_S_S2x128x2x64 (constant S_ .f32 0x3D372713#32)) (mulf (mulf T T) T)))))))

/-- The compression of keys or of values. -/
def Half (X : FVec Ideal S2x8192x128 .f32) (P A B : FVec Ideal S64x64 .f32) : FVec Ideal S2x128x128 .f32 :=
  shapeCast _ (Times (Hidden (Times (Pool X P) A)) B) shapeCasts_S2x128x2x64_S2x128x128

/-- The weights of the keys. -/
def First (A : FVec Ideal S2x64x64 .f32) : FVec Ideal S64x64 .f32 :=
  shapeCast _ (extractStridedSlice S1x64x64 ![0, 0, 0] A slices_S2x64x64_S1x64x64_0_0_0) shapeCasts_S1x64x64_S64x64

/-- The weights of the values. -/
def Second (A : FVec Ideal S2x64x64 .f32) : FVec Ideal S64x64 .f32 :=
  shapeCast _ (extractStridedSlice S1x64x64 ![1, 0, 0] A slices_S2x64x64_S1x64x64_1_0_0) shapeCasts_S1x64x64_S64x64

/-- The columns of the keys. -/
def Keys (R : FVec Ideal S2x8192x2304 .f32) : FVec Ideal S2x8192x128 .f32 :=
  extractStridedSlice S2x8192x128 ![0, 0, 1536] R slices_S2x8192x2304_S2x8192x128_0_0_1536

/-- The columns of the values. -/
def Values (R : FVec Ideal S2x8192x2304 .f32) : FVec Ideal S2x8192x128 .f32 :=
  extractStridedSlice S2x8192x128 ![0, 0, 1664] R slices_S2x8192x2304_S2x8192x128_0_0_1664

/-- The reference's result. -/
def All (R : FVec Ideal S2x8192x2304 .f32) (P A B : FVec Ideal S2x64x64 .f32) : FVec Ideal S2x128x256 .f32 :=
  concatenate S2x128x256 2 [⟨S2x128x128, Half (Keys R) (First P) (First A) (First B)⟩, ⟨S2x128x128, Half (Values R) (Second P) (Second A) (Second B)⟩] concatenates_S2x128x128_S2x128x128_S2x128x256_d2

/-- A weighted sum at an index. -/
theorem pool_at (X : FVec Ideal S2x8192x128 .f32) (P : FVec Ideal S64x64 .f32) (b : Fin 2) (n : Fin 128) (g : Fin 2) (d : Fin 64) :
    Pool X P (ix4 b n g d) = ∑ l : Fin 64, P (ix2 l d) * X (ix3 b ⟨n.val * 64 + l.val, by omega⟩ ⟨g.val * 64 + d.val, by omega⟩) := by
  pointwise [Pool]

/-- A product at an index. -/
theorem times_at (T : FVec Ideal S2x128x2x64 .f32) (A : FVec Ideal S64x64 .f32) (b : Fin 2) (n : Fin 128) (g : Fin 2) (d : Fin 64) :
    Times T A (ix4 b n g d) = ∑ e : Fin 64, T (ix4 b n g e) * A (ix2 e d) := by
  pointwise [Times]

/-- A hidden unit at an index. -/
theorem hidden_at (T : FVec Ideal S2x128x2x64 .f32) (b : Fin 2) (n : Fin 128) (g : Fin 2) (d : Fin 64) :
    Hidden T (ix4 b n g d) = Cert.Compress.gelu (T (ix4 b n g d)) := by
  pointwise [Hidden, Cert.Compress.gelu]

/-- Two heads side by side at an index. -/
theorem side_at (T : FVec Ideal S2x128x2x64 .f32) (b : Fin 2) (n : Fin 128) (g : Fin 2) (d : Fin 64) :
    (shapeCast S2x128x128 T shapeCasts_S2x128x2x64_S2x128x128) (ix3 b n ⟨g.val * 64 + d.val, by omega⟩) = T (ix4 b n g d) := by
  pointwise

/-- A compressed entry at an index. -/
theorem half_at (X : FVec Ideal S2x8192x128 .f32) (P A B : FVec Ideal S64x64 .f32) (b : Fin 2) (n : Fin 128) (g : Fin 2) (d : Fin 64) :
    Half X P A B (ix3 b n ⟨g.val * 64 + d.val, by omega⟩)
      = Cert.Compress.unit (fun e => ∑ l : Fin 64, P (ix2 l e) * X (ix3 b ⟨n.val * 64 + l.val, by omega⟩ ⟨g.val * 64 + e.val, by omega⟩))
        (fun e j => A (ix2 e j)) (fun j => B (ix2 j d)) := by
  refine (side_at _ b n g d).trans ?_
  simp only [times_at, hidden_at, pool_at, Cert.Compress.unit]

/-- The first half of the columns is the keys'. -/
theorem all_first (R : FVec Ideal S2x8192x2304 .f32) (P A B : FVec Ideal S2x64x64 .f32) (b : Fin 2) (n : Fin 128) (k : Fin 128) :
    All R P A B (ix3 b n ⟨k.val, by omega⟩) = Half (Keys R) (First P) (First A) (First B) (ix3 b n k) := by
  unfold All
  generalize Half (Keys R) (First P) (First A) (First B) = U
  generalize Half (Values R) (Second P) (Second A) (Second B) = W
  pointwise

/-- The second half of the columns is the values'. -/
theorem all_second (R : FVec Ideal S2x8192x2304 .f32) (P A B : FVec Ideal S2x64x64 .f32) (b : Fin 2) (n : Fin 128) (k : Fin 128) :
    All R P A B (ix3 b n ⟨128 + k.val, by omega⟩) = Half (Values R) (Second P) (Second A) (Second B) (ix3 b n k) := by
  unfold All
  generalize Half (Keys R) (First P) (First A) (First B) = U
  generalize Half (Values R) (Second P) (Second A) (Second B) = W
  pointwise

/-- The keys' columns. -/
theorem keys_at (R : FVec Ideal S2x8192x2304 .f32) (b : Fin 2) (n : Fin 8192) (k : Fin 128) : Keys R (ix3 b n k) = R (ix3 b n ⟨1536 + k.val, by omega⟩) := by
  pointwise [Keys]

/-- The values' columns. -/
theorem values_at (R : FVec Ideal S2x8192x2304 .f32) (b : Fin 2) (n : Fin 8192) (k : Fin 128) : Values R (ix3 b n k) = R (ix3 b n ⟨1664 + k.val, by omega⟩) := by
  pointwise [Values]

/-- The keys' weights. -/
theorem first_at (A : FVec Ideal S2x64x64 .f32) (i j : Fin 64) : First A (ix2 i j) = A (ix3 0 i j) := by
  pointwise [First]

/-- The values' weights. -/
theorem second_at (A : FVec Ideal S2x64x64 .f32) (i j : Fin 64) : Second A (ix2 i j) = A (ix3 1 i j) := by
  pointwise [Second]

end Cert.CompressRefIdeal.Value

namespace Cert.CompressIdeal.Value

open Idealize.ShloMosaic Idealize.ShloMosaic.TcCoe Idealize.SL.Sem
open Idealize.ShloMosaic.Pipeline (Dat)
open Cert.CompressIdeal Cert.CompressIdeal.Gen

/-- What a store holds at row `r` and column `k`. -/
theorem stored_at (x : FVec Ideal S1x2048x128 .f32) (p : FVec Ideal S1x64x128 .f32) (a b : FVec Ideal S1x128x128 .bf16) (r : Fin 32) (k : Fin 128) :
    k0_pay2 (F := Ideal) x p a b (ix3 0 r k) = ∑ j : Fin 128, Cert.Compress.gelu (∑ e : Fin 128,
      (∑ l : Fin 64, x (ix3 0 ⟨r.val * 64 + l.val, by omega⟩ e) * p (ix3 0 l e)) * a (ix3 0 e j)) * b (ix3 0 j k) := by
  pointwise [k0_pay2, Cert.Compress.gelu]
  simp only [mul_assoc]

/-- The weights along the diagonal: ones where the two heads agree. -/
def Eye : FVec Ideal S2x2 .f32 :=
  uitofp .f32 (cmpi .eq (addi (iotaInDim S2x2 32 0) (broadcastInDim S2x2 ![] bcast_S_S2x2 (constantI S_ 32 0#32))) (iotaInDim S2x2 32 1))

/-- One matrix's weights on the diagonal of two heads. -/
def Diag (A : FVec Ideal S2x64x64 .f32) : FVec Ideal S2x128x128 .bf16 :=
  truncf .bf16 (shapeCast S2x128x128 (mulf
    (broadcastInDim S2x2x64x2x64 ![0, 1, 2, 3, 4] bcast_S1x2x1x2x1_S2x2x64x2x64_0_1_2_3_4 (broadcastInDim S1x2x1x2x1 ![1, 3] bcast_S2x2_S1x2x1x2x1_1_3 Eye))
    (broadcastInDim S2x2x64x2x64 ![0, 1, 2, 3, 4] bcast_S2x1x64x1x64_S2x2x64x2x64_0_1_2_3_4 (broadcastInDim S2x1x64x1x64 ![0, 2, 4] bcast_S2x64x64_S2x1x64x1x64_0_2_4 A)))
    shapeCasts_S2x2x64x2x64_S2x128x128) bitsLt_bf16_f32

/-- The position weights of two heads. -/
def Wide (A : FVec Ideal S2x64x64 .f32) : FVec Ideal S2x64x128 .f32 :=
  concatenate S2x64x128 2 [⟨S2x64x64, A⟩, ⟨S2x64x64, A⟩] concatenates_S2x64x64_S2x64x64_S2x64x128_d2

/-- An entry of the diagonal. -/
theorem eye_at (g h : Fin 2) : Eye (ix2 g h) = if g = h then 1 else 0 := by
  pointwise [Eye]
  fin_cases g <;> fin_cases h <;> simp [FloatOps.uitofp, IntOp.cmpi, IntOp.addi]

/-- A weight on the diagonal. -/
theorem diag_at (A : FVec Ideal S2x64x64 .f32) (s g h : Fin 2) (e j : Fin 64) :
    Diag A (ix3 s ⟨g.val * 64 + e.val, by omega⟩ ⟨h.val * 64 + j.val, by omega⟩) = if g = h then A (ix3 s e j) else 0 := by
  have t : Diag A (ix3 s ⟨g.val * 64 + e.val, by omega⟩ ⟨h.val * 64 + j.val, by omega⟩) = Eye (ix2 g h) * A (ix3 s e j) := by
    unfold Diag
    generalize Eye = E
    pointwise
  rw [t, eye_at, ite_mul, one_mul, zero_mul]

/-- A position's weight. -/
theorem wide_at (A : FVec Ideal S2x64x64 .f32) (s g : Fin 2) (l e : Fin 64) : Wide A (ix3 s l ⟨g.val * 64 + e.val, by omega⟩) = A (ix3 s l e) := by
  fin_cases g
  · have he : (⟨(⟨0, by omega⟩ : Fin 2).val * 64 + e.val, by omega⟩ : Fin 128) = ⟨e.val, by omega⟩ := Fin.ext (by simp)
    show Wide A (ix3 s l ⟨(⟨0, by omega⟩ : Fin 2).val * 64 + e.val, by omega⟩) = _
    rw [he]
    pointwise [Wide]
  · have he : (⟨(⟨1, by omega⟩ : Fin 2).val * 64 + e.val, by omega⟩ : Fin 128) = ⟨64 + e.val, by omega⟩ := Fin.ext (by simp)
    show Wide A (ix3 s l ⟨(⟨1, by omega⟩ : Fin 2).val * 64 + e.val, by omega⟩) = _
    rw [he]
    pointwise [Wide]

/-- One store is half of the reference. -/
theorem half_eq (X : FVec Ideal Cert.CompressRefIdeal.S2x8192x128 .f32) (P A B : FVec Ideal Cert.CompressRefIdeal.S64x64 .f32)
    (x : FVec Ideal S1x2048x128 .f32) (p : FVec Ideal S1x64x128 .f32) (a b : FVec Ideal S1x128x128 .bf16)
    (i : Fin 2) (n : Fin 128) (r : Fin 32) (k : Fin 128)
    (hx : ∀ (l : Fin 64) (q : Fin 128), x (ix3 0 ⟨r.val * 64 + l.val, by omega⟩ q) = X (ix3 i ⟨n.val * 64 + l.val, by omega⟩ q))
    (hp : ∀ (g : Fin 2) (l e : Fin 64), p (ix3 0 l ⟨g.val * 64 + e.val, by omega⟩) = P (ix2 l e))
    (ha : ∀ (g h : Fin 2) (e j : Fin 64), a (ix3 0 ⟨g.val * 64 + e.val, by omega⟩ ⟨h.val * 64 + j.val, by omega⟩) = if g = h then A (ix2 e j) else 0)
    (hb : ∀ (g h : Fin 2) (e j : Fin 64), b (ix3 0 ⟨g.val * 64 + e.val, by omega⟩ ⟨h.val * 64 + j.val, by omega⟩) = if g = h then B (ix2 e j) else 0) :
    k0_pay2 (F := Ideal) x p a b (ix3 0 r k) = Cert.CompressRefIdeal.Value.Half X P A B (ix3 i n k) := by
  obtain ⟨h, d, rfl⟩ : ∃ (h : Fin 2) (d : Fin 64), k = ⟨h.val * 64 + d.val, by omega⟩ :=
    ⟨⟨k.val / 64, by omega⟩, ⟨k.val % 64, by omega⟩, Fin.ext (by show k.val = k.val / 64 * 64 + k.val % 64; omega)⟩
  rw [stored_at, Cert.CompressRefIdeal.Value.half_at]
  refine (Cert.Compress.own _ _ h _ fun g e => hb g h e d).trans ?_
  refine Finset.sum_congr rfl fun j _ => congrArg (fun z => Cert.Compress.gelu z * B (ix2 j d)) ?_
  refine (Cert.Compress.own _ _ h _ fun g e => ha g h e j).trans ?_
  refine Finset.sum_congr rfl fun e _ => congrArg (· * A (ix2 e j)) ?_
  refine Finset.sum_congr rfl fun l _ => ?_
  rw [hp h l e, hx l, mul_comm]

variable (m : (ℓ : Loc nD τ sig) → Buf (Elt Ideal) ℓ)

/-- The windows' block indices: point `t` is row block `t % 4` of sequence `t / 4`; the weights stay. -/
theorem idx : ∀ t : Fin cfg0.N, win0_0.index t = ![t.val / 4, t.val % 4, 6] ∧ win0_1.index t = ![0, 0, 0]
    ∧ win0_2.index t = ![0, 0, 0] ∧ win0_3.index t = ![0, 0, 0] ∧ win0_4.index t = ![t.val / 4, t.val % 4, 0] :=
  (by decide +kernel : ∀ t : Fin grid0.N, _)

/-- The launch reads those position weights. -/
theorem wide_eq (c : Dev nD) : V m c main_v0 = Wide (m ((c : Thread nD τ).loc main_arg1)) := by
  show StableHlo.after _ _ _ = _
  rfl

/-- The launch reads those weights into the hidden units. -/
theorem in_eq (c : Dev nD) : V m c main_v13 = Diag (m ((c : Thread nD τ).loc main_arg2)) := by
  show StableHlo.after _ _ _ = _
  rfl

/-- The launch reads those weights out of them. -/
theorem out_eq (c : Dev nD) : V m c main_v20 = Diag (m ((c : Thread nD τ).loc main_arg3)) := by
  show StableHlo.after _ _ _ = _
  rfl

/-- The position weights' window is the whole array. -/
theorem posBlk (c : Dev nD) (t : Fin cfg0.N) (s : Fin 2) (l : Fin 64) (k : Fin 128) : iblk m c 1 t (ix3 s l k) = V m c main_v0 (ix3 s l k) := by
  generalize hB : V m c main_v0 = B
  blk_point [iblk, hB, idx t]

/-- The first weights' window is the whole array. -/
theorem inBlk (c : Dev nD) (t : Fin cfg0.N) (s : Fin 2) (l k : Fin 128) : iblk m c 2 t (ix3 s l k) = V m c main_v13 (ix3 s l k) := by
  generalize hB : V m c main_v13 = B
  blk_point [iblk, hB, idx t]

/-- The second weights' window is the whole array. -/
theorem outBlk (c : Dev nD) (t : Fin cfg0.N) (s : Fin 2) (l k : Fin 128) : iblk m c 3 t (ix3 s l k) = V m c main_v20 (ix3 s l k) := by
  generalize hB : V m c main_v20 = B
  blk_point [iblk, hB, idx t]

/-- A store of the values is the same function as one of the keys. -/
theorem same : (k0_pay1 (F := Ideal)) = k0_pay2 := rfl

/-- The columns' window at a row and a column. -/
theorem rowBlk (c : Dev nD) (t : Fin cfg0.N) (r : Fin 2048) (k : Fin 256) : iblk m c 0 t (ix3 0 r k)
    = m ((c : Thread nD τ).loc main_arg0) (ix3 (⟨t.val / 4, by have : t.val < 8 := t.isLt; omega⟩ : Fin 2)
      (⟨t.val % 4 * 2048 + r.val, by omega⟩ : Fin 8192) (⟨1536 + k.val, by omega⟩ : Fin 2304)) := by
  have ht : t.val < 8 := t.isLt
  blk_point [iblk, V, idx t]

/-- The keys' columns of a block. -/
theorem ldKeys (B : FVec Ideal S1x2048x256 .f32) (a : Fin 2048) (q : Fin 128) :
    View.ld (Val := Elt Ideal) (e' := .f32) B r0_0 (ix3 0 a q) = B (ix3 0 a ⟨q.val, by omega⟩) := by
  refine congrArg B ?_
  blk_ext []
  · show 0 + 1 * a.val = a.val; omega
  · show 0 + 1 * q.val = q.val; omega

/-- The values' columns of a block. -/
theorem ldValues (B : FVec Ideal S1x2048x256 .f32) (a : Fin 2048) (q : Fin 128) :
    View.ld (Val := Elt Ideal) (e' := .f32) B r0_4 (ix3 0 a q) = B (ix3 0 a ⟨128 + q.val, by omega⟩) := by
  refine congrArg B ?_
  blk_ext []
  · show 0 + 1 * a.val = a.val; omega
  · show 128 + 1 * q.val = 128 + q.val; omega

/-- The keys' position weights. -/
theorem ldPos0 (B : FVec Ideal S2x64x128 .f32) (a : Fin 64) (q : Fin 128) :
    View.ld (Val := Elt Ideal) (e' := .f32) B r0_1 (ix3 0 a q) = B (ix3 0 a q) := by
  refine congrArg B ?_
  blk_ext []
  · show 0 + 1 * 0 = 0; omega
  · show 0 + 1 * a.val = a.val; omega
  · show 0 + 1 * q.val = q.val; omega

/-- The values' position weights. -/
theorem ldPos1 (B : FVec Ideal S2x64x128 .f32) (a : Fin 64) (q : Fin 128) :
    View.ld (Val := Elt Ideal) (e' := .f32) B r0_5 (ix3 0 a q) = B (ix3 1 a q) := by
  refine congrArg B ?_
  blk_ext []
  · show 1 + 1 * 0 = 1; omega
  · show 0 + 1 * a.val = a.val; omega
  · show 0 + 1 * q.val = q.val; omega

/-- The keys' matrix. -/
theorem ldMat0 (B : FVec Ideal S2x128x128 .bf16) (a q : Fin 128) :
    View.ld (Val := Elt Ideal) (e' := .bf16) B r0_2 (ix3 0 a q) = B (ix3 0 a q) := by
  refine congrArg B ?_
  blk_ext []
  · show 0 + 1 * 0 = 0; omega
  · show 0 + 1 * a.val = a.val; omega
  · show 0 + 1 * q.val = q.val; omega

/-- The values' matrix. -/
theorem ldMat1 (B : FVec Ideal S2x128x128 .bf16) (a q : Fin 128) :
    View.ld (Val := Elt Ideal) (e' := .bf16) B r0_6 (ix3 0 a q) = B (ix3 1 a q) := by
  refine congrArg B ?_
  blk_ext []
  · show 1 + 1 * 0 = 1; omega
  · show 0 + 1 * a.val = a.val; omega
  · show 0 + 1 * q.val = q.val; omega

/-- The reference's term over this program's argument arrays. -/
abbrev Out (c : Dev nD) : FVec Ideal Cert.CompressRefIdeal.S2x128x256 .f32 :=
  Cert.CompressRefIdeal.Value.All (m ((c : Thread nD τ).loc main_arg0)) (m ((c : Thread nD τ).loc main_arg1))
    (m ((c : Thread nD τ).loc main_arg2)) (m ((c : Thread nD τ).loc main_arg3))

open Cert.CompressRefIdeal.Value (all_first all_second keys_at values_at first_at second_at)

/-- What point `t` stores of the keys is the reference's. -/
theorem first_store (c : Dev nD) (t : Fin cfg0.N) (i : Fin 2) (n : Fin 128) (hi : i.val = t.val / 4) (r : Fin 32) (hn : n.val = t.val % 4 * 32 + r.val) (k : Fin 128) :
    k0_pay2 (F := Ideal) (View.ld (iblk m c 0 t) r0_0) (View.ld (iblk m c 1 t) r0_1) (View.ld (iblk m c 2 t) r0_2) (View.ld (iblk m c 3 t) r0_2) (ix3 0 r k)
      = Cert.CompressRefIdeal.Value.Half (Cert.CompressRefIdeal.Value.Keys (m ((c : Thread nD τ).loc main_arg0)))
        (Cert.CompressRefIdeal.Value.First (m ((c : Thread nD τ).loc main_arg1))) (Cert.CompressRefIdeal.Value.First (m ((c : Thread nD τ).loc main_arg2)))
        (Cert.CompressRefIdeal.Value.First (m ((c : Thread nD τ).loc main_arg3))) (ix3 i n k) := by
  have ht : t.val < 8 := t.isLt
  refine half_eq _ _ _ _ _ _ _ _ i n r k (fun l q => ?_) (fun g l e => ?_) (fun g h e j => ?_) (fun g h e j => ?_)
  · refine (ldKeys _ _ q).trans ((rowBlk m c t _ _).trans (Eq.trans ?_ (keys_at _ i _ q).symm))
    refine congrArg (m ((c : Thread nD τ).loc main_arg0)) ?_
    congr 1 <;> apply Fin.ext <;> simp only [hi, hn] <;> omega
  · refine (ldPos0 _ l _).trans ((posBlk m c t 0 l _).trans ?_)
    rw [wide_eq]
    exact (wide_at _ 0 g l e).trans (first_at _ l e).symm
  · refine (ldMat0 _ _ _).trans ((inBlk m c t 0 _ _).trans ?_)
    rw [in_eq, first_at]
    exact diag_at _ 0 g h e j
  · refine (ldMat0 _ _ _).trans ((outBlk m c t 0 _ _).trans ?_)
    rw [out_eq, first_at]
    exact diag_at _ 0 g h e j

/-- What point `t` stores of the values is the reference's. -/
theorem second_store (c : Dev nD) (t : Fin cfg0.N) (i : Fin 2) (n : Fin 128) (hi : i.val = t.val / 4) (r : Fin 32) (hn : n.val = t.val % 4 * 32 + r.val) (k : Fin 128) :
    k0_pay2 (F := Ideal) (View.ld (iblk m c 0 t) r0_4) (View.ld (iblk m c 1 t) r0_5) (View.ld (iblk m c 2 t) r0_6) (View.ld (iblk m c 3 t) r0_6) (ix3 0 r k)
      = Cert.CompressRefIdeal.Value.Half (Cert.CompressRefIdeal.Value.Values (m ((c : Thread nD τ).loc main_arg0)))
        (Cert.CompressRefIdeal.Value.Second (m ((c : Thread nD τ).loc main_arg1))) (Cert.CompressRefIdeal.Value.Second (m ((c : Thread nD τ).loc main_arg2)))
        (Cert.CompressRefIdeal.Value.Second (m ((c : Thread nD τ).loc main_arg3))) (ix3 i n k) := by
  have ht : t.val < 8 := t.isLt
  refine half_eq _ _ _ _ _ _ _ _ i n r k (fun l q => ?_) (fun g l e => ?_) (fun g h e j => ?_) (fun g h e j => ?_)
  · refine (ldValues _ _ q).trans ((rowBlk m c t _ _).trans (Eq.trans ?_ (values_at _ i _ q).symm))
    refine congrArg (m ((c : Thread nD τ).loc main_arg0)) ?_
    congr 1 <;> apply Fin.ext <;> simp only [hi, hn] <;> omega
  · refine (ldPos1 _ l _).trans ((posBlk m c t 1 l _).trans ?_)
    rw [wide_eq]
    exact (wide_at _ 1 g l e).trans (second_at _ l e).symm
  · refine (ldMat1 _ _ _).trans ((inBlk m c t 1 _ _).trans ?_)
    rw [in_eq, second_at]
    exact diag_at _ 1 g h e j
  · refine (ldMat1 _ _ _).trans ((outBlk m c t 1 _ _).trans ?_)
    rw [out_eq, second_at]
    exact diag_at _ 1 g h e j

/-- The array after the run is the reference's term. -/
theorem final (c : Dev nD) : (dats m 0 c).arrAt 4 (cfgs 0).N = Out m c := by
  refine (dats m 0 c).arrAt_eq_of_covers 4 _ (by decide +kernel) fun t _ y => ?_
  blk_simp
  rw [after0_4]
  frame_out
  have ht : t.val < 8 := t.isLt
  canon_tiles x h
  · idx_vars x
    idx_vars y
    have hx0 : x0 = 0 := Subsingleton.elim _ _
    subst hx0
    have he : ((View.whole main_v21).slice (win0_4.rect t)).emb (ix3 y0 y1 y2)
        = ix3 (⟨t.val / 4, by omega⟩ : Fin 2) (⟨t.val % 4 * 32 + x1.val, by omega⟩ : Fin 128) (⟨128 + x2.val, by omega⟩ : Fin 256) := by
      blk_ext [idx t]
    rw [he, same]
    exact (second_store m c t _ _ rfl x1 rfl x2).trans (all_second _ _ _ _ _ _ x2).symm
  · idx_vars x
    idx_vars y
    have hx0 : x0 = 0 := Subsingleton.elim _ _
    subst hx0
    have he : ((View.whole main_v21).slice (win0_4.rect t)).emb (ix3 y0 y1 y2)
        = ix3 (⟨t.val / 4, by omega⟩ : Fin 2) (⟨t.val % 4 * 32 + x1.val, by omega⟩ : Fin 128) (⟨x2.val, by omega⟩ : Fin 256) := by
      blk_ext [idx t]
    rw [he]
    exact (first_store m c t _ _ rfl x1 rfl x2).trans (all_first _ _ _ _ _ _ x2).symm

end Cert.CompressIdeal.Value

end
-- ==== Proof.Finite.lean ====
/- What the precondition says: every entry of the arguments is a real number. -/
module

public import proofs.«01_k».proof.Defs
public import proofs.«01_k».proof.Proof.SwaLogit
public import Idealize.ShloMosaic.Lib.ReduceAll

@[expose] public section

noncomputable section

namespace Cert.Finite

open Idealize.ShloMosaic Idealize.SL.Sem
open Cert.Pre_finite_inputs Cert.SwaRefIdeal.Value

/-- The word of infinity. -/
theorem inf_eq : Ideal.ofBits .f32 0x7F800000#32 = ⊤ := by simp [Ideal.ofBits, Ideal.ieee]

/-- What is less than infinity in absolute value is a real number. -/
theorem real_of (x : EReal) (h : (FloatOps.cmpf (F := Ideal) (φ := .f32) CmpFPredicate.olt (FloatOps.absf (F := Ideal) (φ := .f32) x) (Ideal.ofBits .f32 0x7F800000#32)) = 1#1) :
    ∃ r : ℝ, x = r := by
  rw [inf_eq] at h
  induction x with
  | bot => exact absurd h (by simp [FloatOps.cmpf, FloatOps.absf, Ideal.cmp])
  | top => exact absurd h (by simp [FloatOps.cmpf, FloatOps.absf, Ideal.cmp])
  | coe r => exact ⟨r, rfl⟩

instance : Subsingleton S_.Idx := ⟨fun a b => funext fun i => i.elim0⟩

/-- The side conditions of the precondition's operations hold. -/
theorem facts : Facts :=
  ⟨by decide, by decide, by decide, by decide, by decide, by decide, by decide⟩

variable [Facts]
open Facts

/-- The precondition makes all three arrays real. -/
theorem reals (A0 : FVec Ideal S2x8192x1280 .f32) (A1 : FVec Ideal S16 .f32) (A2 : FVec Ideal S32x16 .f32) (h : fn (F := Ideal) A0 A1 A2 = fun _ => 1#1) :
    Reals (S := S2x8192x1280) A0 ∧ Reals (S := S16) A1 ∧ Reals (S := S32x16) A2 := by
  have e := congrFun h (fun i => i.elim0)
  obtain ⟨e01, e2⟩ := IntOp.andi_eq_one.1 e
  obtain ⟨e0, e1⟩ := IntOp.andi_eq_one.1 e01
  exact ⟨fun i => real_of _ (Host.reduce_andi_all _ _ _ _ _ e0 i), fun i => real_of _ (Host.reduce_andi_all _ _ _ _ _ e1 i),
    fun i => real_of _ (Host.reduce_andi_all _ _ _ _ _ e2 i)⟩

end Cert.Finite

end
-- ==== Proof.FiniteMemory.lean ====
/- What the memory attention's precondition says: every entry of both arguments is a real number. -/
module

public import proofs.«01_k».proof.Defs
public import proofs.«01_k».proof.Proof.Finite

@[expose] public section

noncomputable section

namespace Cert.FiniteMemory

open Idealize.ShloMosaic Idealize.SL.Sem
open Cert.Pre_finite_memory Cert.SwaRefIdeal.Value

instance : Subsingleton S_.Idx := ⟨fun a b => funext fun i => i.elim0⟩

/-- The side conditions of the precondition's operations hold. -/
theorem facts : Facts :=
  ⟨by decide, by decide, by decide, by decide, by decide⟩

variable [Facts]
open Facts

/-- The precondition makes both arrays real. -/
theorem reals (Q : FVec Ideal S2x8192x512 .f32) (M : FVec Ideal S2x256x1024 .f32) (h : fn (F := Ideal) Q M = fun _ => 1#1) :
    Reals (S := S2x8192x512) Q ∧ Reals (S := S2x256x1024) M := by
  have e := congrFun h (fun i => i.elim0)
  obtain ⟨e0, e1⟩ := IntOp.andi_eq_one.1 e
  exact ⟨fun i => Cert.Finite.real_of _ (Host.reduce_andi_all _ _ _ _ _ e0 i), fun i => Cert.Finite.real_of _ (Host.reduce_andi_all _ _ _ _ _ e1 i)⟩

end Cert.FiniteMemory

end
-- ==== Proof.lean ====
/- The proof of the claim: the frames are the generated ones, the values are those of the modules beside this one. -/
module

public import proofs.«01_k».proof.Defs
public import proofs.«01_k».proof.Proof.Gen.Swa.Frame
public import proofs.«01_k».proof.Proof.Gen.SwaIdeal.Frame
public import proofs.«01_k».proof.Proof.Gen.SwaIdeal.Value
public import proofs.«01_k».proof.Proof.Gen.SwaRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Memory.Frame
public import proofs.«01_k».proof.Proof.Gen.MemoryIdeal.Frame
public import proofs.«01_k».proof.Proof.Gen.MemoryRefIdeal.Run
public import proofs.«01_k».proof.Proof.Gen.OddIn.Frame
public import proofs.«01_k».proof.Proof.Gen.OddInIdeal.Frame
public import proofs.«01_k».proof.Proof.Gen.OddInIdeal.Value
public import proofs.«01_k».proof.Proof.Gen.OddInRefIdeal.Run
public import proofs.«01_k».proof.Proof.Gen.Xq.Frame
public import proofs.«01_k».proof.Proof.Gen.XqIdeal.Frame
public import proofs.«01_k».proof.Proof.Gen.XqIdeal.Value
public import proofs.«01_k».proof.Proof.Gen.XqRefIdeal.Run
public import proofs.«01_k».proof.Proof.Gen.ResLn.Frame
public import proofs.«01_k».proof.Proof.Gen.ResLnIdeal.Frame
public import proofs.«01_k».proof.Proof.Gen.ResLnIdeal.Value
public import proofs.«01_k».proof.Proof.Gen.ResLnRefIdeal.Run
public import proofs.«01_k».proof.Proof.Gen.OddOut.Frame
public import proofs.«01_k».proof.Proof.Gen.OddOutIdeal.Frame
public import proofs.«01_k».proof.Proof.Gen.OddOutIdeal.Value
public import proofs.«01_k».proof.Proof.Gen.OddOutRefIdeal.Run
public import proofs.«01_k».proof.Proof.Gen.EvenOut.Frame
public import proofs.«01_k».proof.Proof.Gen.EvenOutIdeal.Frame
public import proofs.«01_k».proof.Proof.Gen.EvenOutIdeal.Value
public import proofs.«01_k».proof.Proof.Gen.EvenOutRefIdeal.Run
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.Gen.EvenIn.Frame
public import proofs.«01_k».proof.Proof.Gen.EvenInIdeal.Frame
public import proofs.«01_k».proof.Proof.Gen.EvenInIdeal.Value
public import proofs.«01_k».proof.Proof.Gen.EvenInRefIdeal.Run
public import proofs.«01_k».proof.Proof.Gen.Compress.Frame
public import proofs.«01_k».proof.Proof.Gen.CompressIdeal.Frame
public import proofs.«01_k».proof.Proof.Gen.CompressIdeal.Value
public import proofs.«01_k».proof.Proof.Gen.CompressRefIdeal.Run
public import proofs.«01_k».proof.Proof.FfnKernel
public import proofs.«01_k».proof.Proof.Memory
public import proofs.«01_k».proof.Proof.OddIn
public import proofs.«01_k».proof.Proof.Xq
public import proofs.«01_k».proof.Proof.ResLn
public import proofs.«01_k».proof.Proof.OddOut
public import proofs.«01_k».proof.Proof.EvenOut
public import proofs.«01_k».proof.Proof.SwaFinal
public import proofs.«01_k».proof.Proof.Cross
public import proofs.«01_k».proof.Proof.EvenIn
public import proofs.«01_k».proof.Proof.Compress
public import proofs.«01_k».proof.Proof.Finite
public import proofs.«01_k».proof.Proof.FiniteMemory
public import Idealize.ShloMosaic.Adequacy
public import Idealize.ShloMosaic.Init

@[expose] public section

noncomputable section

namespace Cert.Proof

open Idealize.ShloMosaic Idealize.SL.Sem

/-- The feed-forward reference leaves its arguments as they were and every counter at zero. -/
theorem frame_FfnRefIdeal : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The attention reference leaves its arguments as they were and every counter at zero. -/
theorem frame_SwaRefIdeal : Cert.quiescent_SwaRefIdeal := fun m ρ _ =>
  (θ_run Cert.SwaRefIdeal.defs _ _).mono (fun r h => ⟨fun c => (h c).2, Idealize.ShloMosaic.sem_eq_zero_of_no_sems (by decide) r.2⟩)
    (Cert.SwaRefIdeal.Value.run (F := Ideal) m ρ)

/-- The feed-forward kernel and its reference give the same array over the extended reals. -/
theorem algebraic_Ffn : Cert.algebraic_FfnIdeal_FfnRefIdeal := by
  intro m ρ m' ρ' _ hagree
  refine ⟨fun c => Cert.FfnIdeal.Value.Out m c,
    (θ_run Cert.FfnIdeal.defs _ _).mono (fun r h c => ⟨(h c).1.trans (Cert.FfnIdeal.Value.final m c), (h c).2⟩)
      (Cert.FfnIdeal.Value.run_blocks (F := Ideal) m ρ),
    (θ_run Cert.FfnRefIdeal.defs _ _).mono (fun r h c => ⟨?_, (h c).2⟩) (Cert.FfnRefIdeal.Value.run (F := Ideal) m' ρ')⟩
  obtain ⟨h0, h1, h2, h3, h4, h5⟩ := hagree c
  rw [(h c).1, Cert.FfnRefIdeal.Value.result_eq, h0, h1, h2, h3, h4, h5]

/-- The attention kernel and its reference give the same array over the extended reals, of finite arguments. -/
theorem algebraic_Swa [Cert.Pre_finite_inputs.Facts] : Cert.algebraic_SwaIdeal_SwaRefIdeal_pre_finite_inputs := by
  intro m ρ m' ρ' hpre hagree
  refine ⟨fun c => Cert.SwaIdeal.Value.Out m c,
    (θ_run Cert.SwaIdeal.defs _ _).mono (fun r h c => ⟨(h c).1.trans ?_, (h c).2⟩) (Cert.SwaIdeal.Value.run_blocks (F := Ideal) m ρ),
    (θ_run Cert.SwaRefIdeal.defs _ _).mono (fun r h c => ⟨?_, (h c).2⟩) (Cert.SwaRefIdeal.Value.run (F := Ideal) m' ρ')⟩
  · obtain ⟨h0, h1, h2⟩ := hagree c
    rw [(h c).1, Cert.SwaRefIdeal.Value.result_eq, h0, h1, h2]
  · obtain ⟨r0, r1, r2⟩ := Cert.Finite.reals _ _ _ (hpre c)
    exact Cert.SwaIdeal.Value.final m c r0 r1 r2

/-- The memory's reference leaves its arguments as they were and every counter at zero. -/
theorem frame_MemoryRefIdeal : Cert.quiescent_MemoryRefIdeal := fun m ρ _ =>
  (θ_run Cert.MemoryRefIdeal.defs _ _).mono (fun r h => ⟨fun c => (h c).2, Idealize.ShloMosaic.sem_eq_zero_of_no_sems (by decide) r.2⟩)
    (Cert.MemoryRefIdeal.Value.run (F := Ideal) m ρ)

/-- The memory's kernel and its reference give the same array over the extended reals. -/
theorem algebraic_Memory : Cert.algebraic_MemoryIdeal_MemoryRefIdeal := by
  intro m ρ m' ρ' _ hagree
  refine ⟨fun c => Cert.MemoryIdeal.Value.Out m c,
    (θ_run Cert.MemoryIdeal.defs _ _).mono (fun r h c => ⟨(h c).1.trans (Cert.MemoryIdeal.Value.final m ρ c), (h c).2⟩)
      (Cert.MemoryIdeal.Value.run_all m ρ),
    (θ_run Cert.MemoryRefIdeal.defs _ _).mono (fun r h c => ⟨?_, (h c).2⟩) (Cert.MemoryRefIdeal.Value.run (F := Ideal) m' ρ')⟩
  obtain ⟨h0, h1, h2⟩ := hagree c
  refine (h c).1.trans ?_
  rw [h0, h1, h2]
  rfl

/-- The odd input projection's reference leaves its arguments as they were and every counter at zero. -/
theorem frame_OddInRefIdeal : Cert.quiescent_OddInRefIdeal := fun m ρ _ =>
  (θ_run Cert.OddInRefIdeal.defs _ _).mono (fun r h => ⟨fun c => (h c).2, Idealize.ShloMosaic.sem_eq_zero_of_no_sems (by decide) r.2⟩)
    (Cert.OddInRefIdeal.Value.run (F := Ideal) m ρ)

/-- The odd input projection's kernel and its reference give the same array over the extended reals. -/
theorem algebraic_OddIn : Cert.algebraic_OddInIdeal_OddInRefIdeal := by
  intro m ρ m' ρ' _ hagree
  refine ⟨fun c => Cert.OddInIdeal.Value.Out m c,
    (θ_run Cert.OddInIdeal.defs _ _).mono (fun r h c => ⟨(h c).1.trans (Cert.OddInIdeal.Value.final m c), (h c).2⟩)
      (Cert.OddInIdeal.Value.run_blocks (F := Ideal) m ρ),
    (θ_run Cert.OddInRefIdeal.defs _ _).mono (fun r h c => ⟨?_, (h c).2⟩) (Cert.OddInRefIdeal.Value.run (F := Ideal) m' ρ')⟩
  obtain ⟨h0, h1⟩ := hagree c
  refine (h c).1.trans ?_
  rw [h0, h1]
  rfl

/-- The cross query projection's reference leaves its arguments as they were and every counter at zero. -/
theorem frame_XqRefIdeal : Cert.quiescent_XqRefIdeal := fun m ρ _ =>
  (θ_run Cert.XqRefIdeal.defs _ _).mono (fun r h => ⟨fun c => (h c).2, Idealize.ShloMosaic.sem_eq_zero_of_no_sems (by decide) r.2⟩)
    (Cert.XqRefIdeal.Value.run (F := Ideal) m ρ)

/-- The cross query projection's kernel and its reference give the same array over the extended reals. -/
theorem algebraic_Xq : Cert.algebraic_XqIdeal_XqRefIdeal := by
  intro m ρ m' ρ' _ hagree
  refine ⟨fun c => Cert.XqIdeal.Value.Out m c,
    (θ_run Cert.XqIdeal.defs _ _).mono (fun r h c => ⟨(h c).1.trans (Cert.XqIdeal.Value.final m c), (h c).2⟩)
      (Cert.XqIdeal.Value.run_blocks (F := Ideal) m ρ),
    (θ_run Cert.XqRefIdeal.defs _ _).mono (fun r h c => ⟨?_, (h c).2⟩) (Cert.XqRefIdeal.Value.run (F := Ideal) m' ρ')⟩
  obtain ⟨h0, h1⟩ := hagree c
  refine (h c).1.trans ?_
  rw [h0, h1]
  rfl

/-- The residual layer norm's reference leaves its arguments as they were and every counter at zero. -/
theorem frame_ResLnRefIdeal : Cert.quiescent_ResLnRefIdeal := fun m ρ _ =>
  (θ_run Cert.ResLnRefIdeal.defs _ _).mono (fun r h => ⟨fun c => (h c).2, Idealize.ShloMosaic.sem_eq_zero_of_no_sems (by decide) r.2⟩)
    (Cert.ResLnRefIdeal.Value.run (F := Ideal) m ρ)

/-- The residual layer norm's kernel and its reference give the same array over the extended reals. -/
theorem algebraic_ResLn : Cert.algebraic_ResLnIdeal_ResLnRefIdeal := by
  intro m ρ m' ρ' _ hagree
  refine ⟨fun c => Cert.ResLnIdeal.Value.Out m c,
    (θ_run Cert.ResLnIdeal.defs _ _).mono (fun r h c => ⟨(h c).1.trans (Cert.ResLnIdeal.Value.final m c), (h c).2⟩)
      (Cert.ResLnIdeal.Value.run_blocks (F := Ideal) m ρ),
    (θ_run Cert.ResLnRefIdeal.defs _ _).mono (fun r h c => ⟨?_, (h c).2⟩) (Cert.ResLnRefIdeal.Value.run (F := Ideal) m' ρ')⟩
  obtain ⟨h0, h1, h2, h3, h4⟩ := hagree c
  refine (h c).1.trans ?_
  rw [h0, h1, h2, h3, h4]
  rfl

/-- The odd output projection's reference leaves its arguments as they were and every counter at zero. -/
theorem frame_OddOutRefIdeal : Cert.quiescent_OddOutRefIdeal := fun m ρ _ =>
  (θ_run Cert.OddOutRefIdeal.defs _ _).mono (fun r h => ⟨fun c => (h c).2, Idealize.ShloMosaic.sem_eq_zero_of_no_sems (by decide) r.2⟩)
    (Cert.OddOutRefIdeal.Value.run (F := Ideal) m ρ)

/-- The odd output projection's kernel and its reference give the same array over the extended reals. -/
theorem algebraic_OddOut : Cert.algebraic_OddOutIdeal_OddOutRefIdeal := by
  intro m ρ m' ρ' _ hagree
  refine ⟨fun c => Cert.OddOutIdeal.Value.Out m c,
    (θ_run Cert.OddOutIdeal.defs _ _).mono (fun r h c => ⟨(h c).1.trans (Cert.OddOutIdeal.Value.final m c), (h c).2⟩)
      (Cert.OddOutIdeal.Value.run_blocks (F := Ideal) m ρ),
    (θ_run Cert.OddOutRefIdeal.defs _ _).mono (fun r h c => ⟨?_, (h c).2⟩) (Cert.OddOutRefIdeal.Value.run (F := Ideal) m' ρ')⟩
  obtain ⟨h0, h1, h2, h3, h4⟩ := hagree c
  refine (h c).1.trans ?_
  refine (show Cert.OddOutRefIdeal.Value.res_main_v29 m' c = Cert.OddOutRefIdeal.Value.Norm (Cert.OddOutRefIdeal.Value.Sum (m' ((c.tc : Thread Cert.OddOutRefIdeal.nD Cert.OddOutRefIdeal.τ).loc Cert.OddOutRefIdeal.main_arg0)) (m' ((c.tc : Thread Cert.OddOutRefIdeal.nD Cert.OddOutRefIdeal.τ).loc Cert.OddOutRefIdeal.main_arg1)) (m' ((c.tc : Thread Cert.OddOutRefIdeal.nD Cert.OddOutRefIdeal.τ).loc Cert.OddOutRefIdeal.main_arg2))) (m' ((c.tc : Thread Cert.OddOutRefIdeal.nD Cert.OddOutRefIdeal.τ).loc Cert.OddOutRefIdeal.main_arg3)) (m' ((c.tc : Thread Cert.OddOutRefIdeal.nD Cert.OddOutRefIdeal.τ).loc Cert.OddOutRefIdeal.main_arg4)) from rfl).trans ?_
  rw [h0, h1, h2, h3, h4]

/-- The even output projection's reference leaves its arguments as they were and every counter at zero. -/
theorem frame_EvenOutRefIdeal : Cert.quiescent_EvenOutRefIdeal := fun m ρ _ =>
  (θ_run Cert.EvenOutRefIdeal.defs _ _).mono (fun r h => ⟨fun c => (h c).2, Idealize.ShloMosaic.sem_eq_zero_of_no_sems (by decide) r.2⟩)
    (Cert.EvenOutRefIdeal.Value.run (F := Ideal) m ρ)

/-- The even output projection's kernel and its reference give the same array over the extended reals. -/
theorem algebraic_EvenOut : Cert.algebraic_EvenOutIdeal_EvenOutRefIdeal := by
  intro m ρ m' ρ' _ hagree
  refine ⟨fun c => Cert.EvenOutIdeal.Value.Out m c,
    (θ_run Cert.EvenOutIdeal.defs _ _).mono (fun r h c => ⟨(h c).1.trans (Cert.EvenOutIdeal.Value.final m c), (h c).2⟩)
      (Cert.EvenOutIdeal.Value.run_blocks (F := Ideal) m ρ),
    (θ_run Cert.EvenOutRefIdeal.defs _ _).mono (fun r h c => ⟨?_, (h c).2⟩) (Cert.EvenOutRefIdeal.Value.run (F := Ideal) m' ρ')⟩
  obtain ⟨h0, h1, h2, h3, h4, h5⟩ := hagree c
  refine (h c).1.trans ?_
  refine (show Cert.EvenOutRefIdeal.Value.res_main_v32 m' c = Cert.OddOutRefIdeal.Value.Norm (Cert.EvenOutRefIdeal.Value.Sum (m' ((c.tc : Thread Cert.EvenOutRefIdeal.nD Cert.EvenOutRefIdeal.τ).loc Cert.EvenOutRefIdeal.main_arg0)) (m' ((c.tc : Thread Cert.EvenOutRefIdeal.nD Cert.EvenOutRefIdeal.τ).loc Cert.EvenOutRefIdeal.main_arg1)) (m' ((c.tc : Thread Cert.EvenOutRefIdeal.nD Cert.EvenOutRefIdeal.τ).loc Cert.EvenOutRefIdeal.main_arg2)) (m' ((c.tc : Thread Cert.EvenOutRefIdeal.nD Cert.EvenOutRefIdeal.τ).loc Cert.EvenOutRefIdeal.main_arg3))) (m' ((c.tc : Thread Cert.EvenOutRefIdeal.nD Cert.EvenOutRefIdeal.τ).loc Cert.EvenOutRefIdeal.main_arg4)) (m' ((c.tc : Thread Cert.EvenOutRefIdeal.nD Cert.EvenOutRefIdeal.τ).loc Cert.EvenOutRefIdeal.main_arg5)) from rfl).trans ?_
  rw [h0, h1, h2, h3, h4, h5]

/-- The memory attention's reference leaves its arguments as they were and every counter at zero. -/
theorem frame_CrossRefIdeal : Cert.quiescent_CrossRefIdeal := fun m ρ _ =>
  (θ_run Cert.CrossRefIdeal.defs _ _).mono (fun r h => ⟨fun c => (h c).2, Idealize.ShloMosaic.sem_eq_zero_of_no_sems (by decide) r.2⟩)
    (Cert.CrossRefIdeal.Value.run (F := Ideal) m ρ)

/-- The memory attention's kernel and its reference give the same array over the extended reals, of finite arguments. -/
theorem algebraic_Cross [Cert.Pre_finite_memory.Facts] : Cert.algebraic_CrossIdeal_CrossRefIdeal_pre_finite_memory := by
  intro m ρ m' ρ' hpre hagree
  refine ⟨fun c => Cert.CrossIdeal.Value.Out m c,
    (θ_run Cert.CrossIdeal.defs _ _).mono (fun r h c => ⟨(h c).1.trans ?_, (h c).2⟩) (Cert.CrossIdeal.Value.run_blocks (F := Ideal) m ρ),
    (θ_run Cert.CrossRefIdeal.defs _ _).mono (fun r h c => ⟨?_, (h c).2⟩) (Cert.CrossRefIdeal.Value.run (F := Ideal) m' ρ')⟩
  · obtain ⟨h0, h1⟩ := hagree c
    refine (h c).1.trans ?_
    rw [h0, h1]
    rfl
  · obtain ⟨r0, r1⟩ := Cert.FiniteMemory.reals _ _ (hpre c)
    exact Cert.CrossIdeal.Value.final m c r0 r1

/-- The reference of the even layer's projection stops, with no transfer unfinished. -/
theorem frame_EvenInRefIdeal : Cert.quiescent_EvenInRefIdeal := fun m ρ _ =>
  (θ_run Cert.EvenInRefIdeal.defs _ _).mono (fun r h => ⟨fun c => (h c).2, Idealize.ShloMosaic.sem_eq_zero_of_no_sems (by decide) r.2⟩)
    (Cert.EvenInRefIdeal.Value.run (F := Ideal) m ρ)

/-- The even layer's projection is the reference's. -/
theorem algebraic_EvenIn : Cert.algebraic_EvenInIdeal_EvenInRefIdeal := by
  intro m ρ m' ρ' _ hagree
  refine ⟨fun c => Cert.EvenInIdeal.Value.Out m c,
    (θ_run Cert.EvenInIdeal.defs _ _).mono (fun r h c => ⟨(h c).1.trans (Cert.EvenInIdeal.Value.final m c), (h c).2⟩)
      (Cert.EvenInIdeal.Value.run_blocks (F := Ideal) m ρ),
    (θ_run Cert.EvenInRefIdeal.defs _ _).mono (fun r h c => ⟨?_, (h c).2⟩) (Cert.EvenInRefIdeal.Value.run (F := Ideal) m' ρ')⟩
  obtain ⟨h0, h1⟩ := hagree c
  refine (h c).1.trans ?_
  refine (show Cert.EvenInRefIdeal.Value.res_main_v16 m' c = Cert.EvenInRefIdeal.Value.All
    (m' ((c.tc : Thread Cert.EvenInRefIdeal.nD Cert.EvenInRefIdeal.τ).loc Cert.EvenInRefIdeal.main_arg0))
    (m' ((c.tc : Thread Cert.EvenInRefIdeal.nD Cert.EvenInRefIdeal.τ).loc Cert.EvenInRefIdeal.main_arg1)) from rfl).trans ?_
  rw [h0, h1]

/-- The reference of the compression stops, with no transfer unfinished. -/
theorem frame_CompressRefIdeal : Cert.quiescent_CompressRefIdeal := fun m ρ _ =>
  (θ_run Cert.CompressRefIdeal.defs _ _).mono (fun r h => ⟨fun c => (h c).2, Idealize.ShloMosaic.sem_eq_zero_of_no_sems (by decide) r.2⟩)
    (Cert.CompressRefIdeal.Value.run (F := Ideal) m ρ)

/-- The compression is the reference's. -/
theorem algebraic_Compress : Cert.algebraic_CompressIdeal_CompressRefIdeal := by
  intro m ρ m' ρ' _ hagree
  refine ⟨fun c => Cert.CompressIdeal.Value.Out m c,
    (θ_run Cert.CompressIdeal.defs _ _).mono (fun r h c => ⟨(h c).1.trans (Cert.CompressIdeal.Value.final m c), (h c).2⟩)
      (Cert.CompressIdeal.Value.run_blocks (F := Ideal) m ρ),
    (θ_run Cert.CompressRefIdeal.defs _ _).mono (fun r h c => ⟨?_, (h c).2⟩) (Cert.CompressRefIdeal.Value.run (F := Ideal) m' ρ')⟩
  obtain ⟨h0, h1, h2, h3⟩ := hagree c
  refine (h c).1.trans ?_
  refine (show Cert.CompressRefIdeal.Value.res_main_v54 m' c = Cert.CompressRefIdeal.Value.All
    (m' ((c.tc : Thread Cert.CompressRefIdeal.nD Cert.CompressRefIdeal.τ).loc Cert.CompressRefIdeal.main_arg0))
    (m' ((c.tc : Thread Cert.CompressRefIdeal.nD Cert.CompressRefIdeal.τ).loc Cert.CompressRefIdeal.main_arg1))
    (m' ((c.tc : Thread Cert.CompressRefIdeal.nD Cert.CompressRefIdeal.τ).loc Cert.CompressRefIdeal.main_arg2))
    (m' ((c.tc : Thread Cert.CompressRefIdeal.nD Cert.CompressRefIdeal.τ).loc Cert.CompressRefIdeal.main_arg3)) from rfl).trans ?_
  rw [h0, h1, h2, h3]

theorem claim : Cert.Claim := ⟨Cert.Swa.Gen.facts, Cert.SwaIdeal.Gen.facts, Cert.SwaRefIdeal.Gen.facts,
  Cert.Ffn.Gen.facts, Cert.FfnIdeal.Gen.facts, Cert.FfnRefIdeal.Gen.facts,
  Cert.Memory.Gen.facts, Cert.MemoryIdeal.Gen.facts, Cert.MemoryRefIdeal.Gen.facts,
  Cert.OddIn.Gen.facts, Cert.OddInIdeal.Gen.facts, Cert.OddInRefIdeal.Gen.facts,
  Cert.Xq.Gen.facts, Cert.XqIdeal.Gen.facts, Cert.XqRefIdeal.Gen.facts,
  Cert.ResLn.Gen.facts, Cert.ResLnIdeal.Gen.facts, Cert.ResLnRefIdeal.Gen.facts,
  Cert.OddOut.Gen.facts, Cert.OddOutIdeal.Gen.facts, Cert.OddOutRefIdeal.Gen.facts,
  Cert.EvenOut.Gen.facts, Cert.EvenOutIdeal.Gen.facts, Cert.EvenOutRefIdeal.Gen.facts,
  Cert.Cross.Gen.facts, Cert.CrossIdeal.Gen.facts, Cert.CrossRefIdeal.Gen.facts,
  Cert.EvenIn.Gen.facts, Cert.EvenInIdeal.Gen.facts, Cert.EvenInRefIdeal.Gen.facts,
  Cert.Compress.Gen.facts, Cert.CompressIdeal.Gen.facts, Cert.CompressRefIdeal.Gen.facts,
  Cert.Finite.facts, Cert.FiniteMemory.facts,
  fun m ρ _ => Cert.Swa.Gen.frame m ρ, fun m ρ _ => Cert.SwaIdeal.Gen.frame m ρ, fun m ρ _ => Cert.SwaIdeal.Gen.frame m ρ,
  frame_SwaRefIdeal, fun m ρ _ => frame_SwaRefIdeal m ρ trivial,
  fun m ρ _ => Cert.Ffn.Gen.frame m ρ, fun m ρ _ => Cert.FfnIdeal.Gen.frame m ρ, frame_FfnRefIdeal,
  fun m ρ _ => Cert.Memory.Gen.frame m ρ, fun m ρ _ => Cert.MemoryIdeal.Gen.frame m ρ, frame_MemoryRefIdeal,
  fun m ρ _ => Cert.OddIn.Gen.frame m ρ, fun m ρ _ => Cert.OddInIdeal.Gen.frame m ρ, frame_OddInRefIdeal,
  fun m ρ _ => Cert.Xq.Gen.frame m ρ, fun m ρ _ => Cert.XqIdeal.Gen.frame m ρ, frame_XqRefIdeal,
  fun m ρ _ => Cert.ResLn.Gen.frame m ρ, fun m ρ _ => Cert.ResLnIdeal.Gen.frame m ρ, frame_ResLnRefIdeal,
  fun m ρ _ => Cert.OddOut.Gen.frame m ρ, fun m ρ _ => Cert.OddOutIdeal.Gen.frame m ρ, frame_OddOutRefIdeal,
  fun m ρ _ => Cert.EvenOut.Gen.frame m ρ, fun m ρ _ => Cert.EvenOutIdeal.Gen.frame m ρ, frame_EvenOutRefIdeal,
  fun m ρ _ => Cert.Cross.Gen.frame m ρ, fun m ρ _ => Cert.CrossIdeal.Gen.frame m ρ, fun m ρ _ => Cert.CrossIdeal.Gen.frame m ρ,
  frame_CrossRefIdeal, fun m ρ _ => frame_CrossRefIdeal m ρ trivial,
  fun m ρ _ => Cert.EvenIn.Gen.frame m ρ, fun m ρ _ => Cert.EvenInIdeal.Gen.frame m ρ, frame_EvenInRefIdeal,
  fun m ρ _ => Cert.Compress.Gen.frame m ρ, fun m ρ _ => Cert.CompressIdeal.Gen.frame m ρ, frame_CompressRefIdeal,
  IdealRules.named_const.statement Cert.SwaIdeal.κ "mask" .f32 0xF149F2CA#32 ⊥ rfl, @algebraic_Swa Cert.Finite.facts,
  trivial, algebraic_Ffn,
  trivial, algebraic_Memory,
  trivial, algebraic_OddIn,
  trivial, algebraic_Xq,
  trivial, algebraic_ResLn,
  trivial, algebraic_OddOut,
  trivial, algebraic_EvenOut,
  trivial, @algebraic_Cross Cert.FiniteMemory.facts,
  trivial, algebraic_EvenIn,
  trivial, algebraic_Compress⟩

end Cert.Proof

end
